-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S24x1024 : Shape := ⟨2, ![24, 1024]⟩
abbrev S24x1x64 : Shape := ⟨3, ![24, 1, 64]⟩
abbrev S2x1x128 : Shape := ⟨3, ![2, 1, 128]⟩
abbrev S384x64 : Shape := ⟨2, ![384, 64]⟩
abbrev S384x128 : Shape := ⟨2, ![384, 128]⟩
abbrev S384 : Shape := ⟨1, ![384]⟩
abbrev S256 : Shape := ⟨1, ![256]⟩
abbrev S24x1024x256 : Shape := ⟨3, ![24, 1024, 256]⟩
abbrev S24x64 : Shape := ⟨2, ![24, 64]⟩
abbrev S1x1x128 : Shape := ⟨3, ![1, 1, 128]⟩
abbrev S128 : Shape := ⟨1, ![128]⟩
abbrev S_ : Shape := ⟨0, ![]⟩
abbrev S24x128 : Shape := ⟨2, ![24, 128]⟩
abbrev S1x64 : Shape := ⟨2, ![1, 64]⟩
abbrev S64 : Shape := ⟨1, ![64]⟩
abbrev S1x128 : Shape := ⟨2, ![1, 128]⟩
abbrev S24x256 : Shape := ⟨2, ![24, 256]⟩
abbrev S24 : Shape := ⟨1, ![24]⟩
abbrev S24x1 : Shape := ⟨2, ![24, 1]⟩
abbrev S1x256 : Shape := ⟨2, ![1, 256]⟩
abbrev S24x1x1024 : Shape := ⟨3, ![24, 1, 1024]⟩
abbrev S1x1x1024 : Shape := ⟨3, ![1, 1, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S2x1024 : Shape := ⟨2, ![2, 1024]⟩
abbrev S1x5 : Shape := ⟨2, ![1, 5]⟩
abbrev S1x1019 : Shape := ⟨2, ![1, 1019]⟩
abbrev S1x4 : Shape := ⟨2, ![1, 4]⟩
abbrev S1x1020 : Shape := ⟨2, ![1, 1020]⟩
abbrev S1x3 : Shape := ⟨2, ![1, 3]⟩
abbrev S1x1021 : Shape := ⟨2, ![1, 1021]⟩
abbrev S1x2 : Shape := ⟨2, ![1, 2]⟩
abbrev S1x1022 : Shape := ⟨2, ![1, 1022]⟩
abbrev S1x1 : Shape := ⟨2, ![1, 1]⟩
abbrev S1x1023 : Shape := ⟨2, ![1, 1023]⟩

abbrev nBuf : Space → Nat
  | .hbm => 183
  | .vmem => 6
  | .smem => 0
  | _ => 0

abbrev hbmTy0_0 (i : Nat) : BufTy := match i % 128 with
  | 0 => ⟨S24x1024, .f32⟩
  | 1 => ⟨S24x1x64, .f32⟩
  | 2 => ⟨S2x1x128, .f32⟩
  | 3 => ⟨S384x64, .f32⟩
  | 4 => ⟨S384x128, .f32⟩
  | 5 => ⟨S384, .f32⟩
  | 6 => ⟨S384, .f32⟩
  | 7 => ⟨S384x64, .f32⟩
  | 8 => ⟨S384x128, .f32⟩
  | 9 => ⟨S384, .f32⟩
  | 10 => ⟨S384, .f32⟩
  | 11 => ⟨S256, .f32⟩
  | 12 => ⟨S256, .f32⟩
  | 13 => ⟨S24x1024x256, .f32⟩
  | 14 => ⟨S24x64, .f32⟩
  | 15 => ⟨S1x1x128, .f32⟩
  | 16 => ⟨S128, .f32⟩
  | 17 => ⟨S_, .f32⟩
  | 18 => ⟨S24x128, .f32⟩
  | 19 => ⟨S_, .i32⟩
  | 20 => ⟨S24x64, .f32⟩
  | 21 => ⟨S384x64, .f32⟩
  | 22 => ⟨S384, .f32⟩
  | 23 => ⟨S384x128, .f32⟩
  | 24 => ⟨S384, .f32⟩
  | 25 => ⟨S_, .i32⟩
  | 26 => ⟨S128, .f32⟩
  | 27 => ⟨S24x128, .f32⟩
  | 28 => ⟨S_, .i32⟩
  | 29 => ⟨S_, .i1⟩
  | 30 => ⟨S_, .i32⟩
  | 31 => ⟨S1x64, .f32⟩
  | 32 => ⟨S64, .f32⟩
  | 33 => ⟨S384, .f32⟩
  | 34 => ⟨S384, .f32⟩
  | 35 => ⟨S384, .f32⟩
  | 36 => ⟨S384, .f32⟩
  | 37 => ⟨S128, .f32⟩
  | 38 => ⟨S128, .f32⟩
  | 39 => ⟨S128, .f32⟩
  | 40 => ⟨S128, .f32⟩
  | 41 => ⟨S128, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S128, .f32⟩
  | 70 => ⟨S1x128, .f32⟩
  | 71 => ⟨S_, .i32⟩
  | 72 => ⟨S24x128, .f32⟩
  | 73 => ⟨S_, .i32⟩
  | 74 => ⟨S_, .i32⟩
  | 75 => ⟨S24x64, .f32⟩
  | 76 => ⟨S1x1x128, .f32⟩
  | 77 => ⟨S128, .f32⟩
  | 78 => ⟨S_, .f32⟩
  | 79 => ⟨S24x128, .f32⟩
  | 80 => ⟨S_, .i32⟩
  | 81 => ⟨S24x64, .f32⟩
  | 82 => ⟨S384x64, .f32⟩
  | 83 => ⟨S384, .f32⟩
  | 84 => ⟨S384x128, .f32⟩
  | 85 => ⟨S384, .f32⟩
  | 86 => ⟨S_, .i32⟩
  | 87 => ⟨S128, .f32⟩
  | 88 => ⟨S24x128, .f32⟩
  | 89 => ⟨S_, .i32⟩
  | 90 => ⟨S_, .i1⟩
  | 91 => ⟨S_, .i32⟩
  | 92 => ⟨S1x64, .f32⟩
  | 93 => ⟨S64, .f32⟩
  | 94 => ⟨S384, .f32⟩
  | 95 => ⟨S384, .f32⟩
  | 96 => ⟨S384, .f32⟩
  | 97 => ⟨S384, .f32⟩
  | 98 => ⟨S128, .f32⟩
  | 99 => ⟨S128, .f32⟩
  | 100 => ⟨S128, .f32⟩
  | 101 => ⟨S128, .f32⟩
  | 102 => ⟨S128, .f32⟩
  | 103 => ⟨S128, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S_, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S24x1024, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S_, .i32⟩
  | 5 => ⟨S24x128, .f32⟩
  | 6 => ⟨S_, .i32⟩
  | 7 => ⟨S_, .i32⟩
  | 8 => ⟨S24x128, .f32⟩
  | 9 => ⟨S24x256, .f32⟩
  | 10 => ⟨S_, .f32⟩
  | 11 => ⟨S24, .f32⟩
  | 12 => ⟨S24x1, .f32⟩
  | 13 => ⟨S_, .f32⟩
  | 14 => ⟨S24x1, .f32⟩
  | 15 => ⟨S24x1, .f32⟩
  | 16 => ⟨S24x256, .f32⟩
  | 17 => ⟨S24x256, .f32⟩
  | 18 => ⟨S24x256, .f32⟩
  | 19 => ⟨S_, .f32⟩
  | 20 => ⟨S24, .f32⟩
  | 21 => ⟨S24x1, .f32⟩
  | 22 => ⟨S_, .f32⟩
  | 23 => ⟨S24x1, .f32⟩
  | 24 => ⟨S24x1, .f32⟩
  | 25 => ⟨S24x256, .f32⟩
  | 26 => ⟨S24x256, .f32⟩
  | 27 => ⟨S_, .f32⟩
  | 28 => ⟨S24x1, .f32⟩
  | 29 => ⟨S24x1, .f32⟩
  | 30 => ⟨S24x1, .f32⟩
  | 31 => ⟨S24x256, .f32⟩
  | 32 => ⟨S24x256, .f32⟩
  | 33 => ⟨S1x256, .f32⟩
  | 34 => ⟨S24x256, .f32⟩
  | 35 => ⟨S24x256, .f32⟩
  | 36 => ⟨S1x256, .f32⟩
  | 37 => ⟨S24x256, .f32⟩
  | 38 => ⟨S24x256, .f32⟩
  | 39 => ⟨S_, .f32⟩
  | 40 => ⟨S24x256, .f32⟩
  | 41 => ⟨S24x256, .f32⟩
  | 42 => ⟨S24x1024, .f32⟩
  | 43 => ⟨S24x1024, .f32⟩
  | 44 => ⟨S24x1024, .f32⟩
  | 45 => ⟨S_, .f32⟩
  | 46 => ⟨S24x1024, .f32⟩
  | 47 => ⟨S24x1024, .f32⟩
  | 48 => ⟨S_, .f32⟩
  | 49 => ⟨S24x1024, .f32⟩
  | 50 => ⟨S24x1024, .f32⟩
  | 51 => ⟨S24x1x1024, .f32⟩
  | 52 => ⟨S24x1x1024, .f32⟩
  | 53 => ⟨S24x1x1024, .f32⟩
  | 54 => ⟨S24x1024, .f32⟩
  | _ => ⟨S24x1024, .f32⟩

abbrev hbmTy (i : Nat) : BufTy := match i / 128 with
  | 0 => hbmTy0_0 i
  | 1 => hbmTy0_1 i
  | _ => ⟨S24x1024, .f32⟩

abbrev bufTy : (tb : Table) → Fin (tcTables nBuf tb) → BufTy
  | .hbm, ⟨i, _⟩ => hbmTy i
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_c : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_while0c_c_16 : Ref sig .tc := ⟨.hbm, 28, rfl⟩
abbrev main_while0c_v48 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v48 : Ref sig .tc := ⟨.hbm, 32, rfl⟩
abbrev main_while0b_v49 : Ref sig .tc := ⟨.hbm, 33, rfl⟩
abbrev main_while0b_v50 : Ref sig .tc := ⟨.hbm, 34, rfl⟩
abbrev main_while0b_v51 : Ref sig .tc := ⟨.hbm, 35, rfl⟩
abbrev main_while0b_v52 : Ref sig .tc := ⟨.hbm, 36, rfl⟩
abbrev main_while0b_v53 : Ref sig .tc := ⟨.hbm, 37, rfl⟩
abbrev main_while0b_v54 : Ref sig .tc := ⟨.hbm, 38, rfl⟩
abbrev main_while0b_v55 : Ref sig .tc := ⟨.hbm, 39, rfl⟩
abbrev main_while0b_v56 : Ref sig .tc := ⟨.hbm, 40, rfl⟩
abbrev main_while0b_v57 : Ref sig .tc := ⟨.hbm, 41, rfl⟩
abbrev main_while0b_v58 : Ref sig .tc := ⟨.hbm, 42, rfl⟩
abbrev main_while0b_v59 : Ref sig .tc := ⟨.hbm, 43, rfl⟩
abbrev main_while0b_v60 : Ref sig .tc := ⟨.hbm, 44, rfl⟩
abbrev main_while0b_v61 : Ref sig .tc := ⟨.hbm, 45, rfl⟩
abbrev main_while0b_cst_16 : Ref sig .tc := ⟨.hbm, 46, rfl⟩
abbrev main_while0b_v62 : Ref sig .tc := ⟨.hbm, 47, rfl⟩
abbrev main_while0b_v63 : Ref sig .tc := ⟨.hbm, 48, rfl⟩
abbrev main_while0b_cst_17 : Ref sig .tc := ⟨.hbm, 49, rfl⟩
abbrev main_while0b_v64 : Ref sig .tc := ⟨.hbm, 50, rfl⟩
abbrev main_while0b_v65 : Ref sig .tc := ⟨.hbm, 51, rfl⟩
abbrev main_while0b_v66 : Ref sig .tc := ⟨.hbm, 52, rfl⟩
abbrev main_while0b_v67 : Ref sig .tc := ⟨.hbm, 53, rfl⟩
abbrev main_while0b_v68 : Ref sig .tc := ⟨.hbm, 54, rfl⟩
abbrev main_while0b_cst_18 : Ref sig .tc := ⟨.hbm, 55, rfl⟩
abbrev main_while0b_v69 : Ref sig .tc := ⟨.hbm, 56, rfl⟩
abbrev main_while0b_v70 : Ref sig .tc := ⟨.hbm, 57, rfl⟩
abbrev main_while0b_cst_19 : Ref sig .tc := ⟨.hbm, 58, rfl⟩
abbrev main_while0b_v71 : Ref sig .tc := ⟨.hbm, 59, rfl⟩
abbrev main_while0b_v72 : Ref sig .tc := ⟨.hbm, 60, rfl⟩
abbrev main_while0b_v73 : Ref sig .tc := ⟨.hbm, 61, rfl⟩
abbrev main_while0b_v74 : Ref sig .tc := ⟨.hbm, 62, rfl⟩
abbrev main_while0b_v75 : Ref sig .tc := ⟨.hbm, 63, rfl⟩
abbrev main_while0b_cst_20 : Ref sig .tc := ⟨.hbm, 64, rfl⟩
abbrev main_while0b_v76 : Ref sig .tc := ⟨.hbm, 65, rfl⟩
abbrev main_while0b_v77 : Ref sig .tc := ⟨.hbm, 66, rfl⟩
abbrev main_while0b_v78 : Ref sig .tc := ⟨.hbm, 67, rfl⟩
abbrev main_while0b_v79 : Ref sig .tc := ⟨.hbm, 68, rfl⟩
abbrev main_while0b_v80 : Ref sig .tc := ⟨.hbm, 69, rfl⟩
abbrev main_while0b_call1_v0 : Ref sig .tc := ⟨.hbm, 70, rfl⟩
abbrev main_while0b_call1_c : Ref sig .tc := ⟨.hbm, 71, rfl⟩
abbrev main_while0b_v81 : Ref sig .tc := ⟨.hbm, 72, rfl⟩
abbrev main_while0b_c_21 : Ref sig .tc := ⟨.hbm, 73, rfl⟩
abbrev main_while0b_v82 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_cst_0 : Ref sig .tc := ⟨.hbm, 78, rfl⟩
abbrev main_v8 : Ref sig .tc := ⟨.hbm, 79, rfl⟩
abbrev main_c_1 : Ref sig .tc := ⟨.hbm, 80, rfl⟩
abbrev main_v9_0 : Ref sig .tc := ⟨.hbm, 81, rfl⟩
abbrev main_v9_1 : Ref sig .tc := ⟨.hbm, 82, rfl⟩
abbrev main_v9_2 : Ref sig .tc := ⟨.hbm, 83, rfl⟩
abbrev main_v9_3 : Ref sig .tc := ⟨.hbm, 84, rfl⟩
abbrev main_v9_4 : Ref sig .tc := ⟨.hbm, 85, rfl⟩
abbrev main_v9_5 : Ref sig .tc := ⟨.hbm, 86, rfl⟩
abbrev main_v9_6 : Ref sig .tc := ⟨.hbm, 87, rfl⟩
abbrev main_v9_7 : Ref sig .tc := ⟨.hbm, 88, rfl⟩
abbrev main_while1c_c_16 : Ref sig .tc := ⟨.hbm, 89, rfl⟩
abbrev main_while1c_v48 : Ref sig .tc := ⟨.hbm, 90, rfl⟩
abbrev main_while1b_call2_c : Ref sig .tc := ⟨.hbm, 91, rfl⟩
abbrev main_while1b_call2_v0 : Ref sig .tc := ⟨.hbm, 92, rfl⟩
abbrev main_while1b_v48 : Ref sig .tc := ⟨.hbm, 93, rfl⟩
abbrev main_while1b_v49 : Ref sig .tc := ⟨.hbm, 94, rfl⟩
abbrev main_while1b_v50 : Ref sig .tc := ⟨.hbm, 95, rfl⟩
abbrev main_while1b_v51 : Ref sig .tc := ⟨.hbm, 96, rfl⟩
abbrev main_while1b_v52 : Ref sig .tc := ⟨.hbm, 97, rfl⟩
abbrev main_while1b_v53 : Ref sig .tc := ⟨.hbm, 98, rfl⟩
abbrev main_while1b_v54 : Ref sig .tc := ⟨.hbm, 99, rfl⟩
abbrev main_while1b_v55 : Ref sig .tc := ⟨.hbm, 100, rfl⟩
abbrev main_while1b_v56 : Ref sig .tc := ⟨.hbm, 101, rfl⟩
abbrev main_while1b_v57 : Ref sig .tc := ⟨.hbm, 102, rfl⟩
abbrev main_while1b_v58 : Ref sig .tc := ⟨.hbm, 103, rfl⟩
abbrev main_while1b_v59 : Ref sig .tc := ⟨.hbm, 104, rfl⟩
abbrev main_while1b_v60 : Ref sig .tc := ⟨.hbm, 105, rfl⟩
abbrev main_while1b_v61 : Ref sig .tc := ⟨.hbm, 106, rfl⟩
abbrev main_while1b_cst_16 : Ref sig .tc := ⟨.hbm, 107, rfl⟩
abbrev main_while1b_v62 : Ref sig .tc := ⟨.hbm, 108, rfl⟩
abbrev main_while1b_v63 : Ref sig .tc := ⟨.hbm, 109, rfl⟩
abbrev main_while1b_cst_17 : Ref sig .tc := ⟨.hbm, 110, rfl⟩
abbrev main_while1b_v64 : Ref sig .tc := ⟨.hbm, 111, rfl⟩
abbrev main_while1b_v65 : Ref sig .tc := ⟨.hbm, 112, rfl⟩
abbrev main_while1b_v66 : Ref sig .tc := ⟨.hbm, 113, rfl⟩
abbrev main_while1b_v67 : Ref sig .tc := ⟨.hbm, 114, rfl⟩
abbrev main_while1b_v68 : Ref sig .tc := ⟨.hbm, 115, rfl⟩
abbrev main_while1b_cst_18 : Ref sig .tc := ⟨.hbm, 116, rfl⟩
abbrev main_while1b_v69 : Ref sig .tc := ⟨.hbm, 117, rfl⟩
abbrev main_while1b_v70 : Ref sig .tc := ⟨.hbm, 118, rfl⟩
abbrev main_while1b_cst_19 : Ref sig .tc := ⟨.hbm, 119, rfl⟩
abbrev main_while1b_v71 : Ref sig .tc := ⟨.hbm, 120, rfl⟩
abbrev main_while1b_v72 : Ref sig .tc := ⟨.hbm, 121, rfl⟩
abbrev main_while1b_v73 : Ref sig .tc := ⟨.hbm, 122, rfl⟩
abbrev main_while1b_v74 : Ref sig .tc := ⟨.hbm, 123, rfl⟩
abbrev main_while1b_v75 : Ref sig .tc := ⟨.hbm, 124, rfl⟩
abbrev main_while1b_cst_20 : Ref sig .tc := ⟨.hbm, 125, rfl⟩
abbrev main_while1b_v76 : Ref sig .tc := ⟨.hbm, 126, rfl⟩
abbrev main_while1b_v77 : Ref sig .tc := ⟨.hbm, 127, rfl⟩
abbrev main_while1b_v78 : Ref sig .tc := ⟨.hbm, 128, rfl⟩
abbrev main_while1b_v79 : Ref sig .tc := ⟨.hbm, 129, rfl⟩
abbrev main_while1b_v80 : Ref sig .tc := ⟨.hbm, 130, rfl⟩
abbrev main_while1b_call3_v0 : Ref sig .tc := ⟨.hbm, 131, rfl⟩
abbrev main_while1b_call3_c : Ref sig .tc := ⟨.hbm, 132, rfl⟩
abbrev main_while1b_v81 : Ref sig .tc := ⟨.hbm, 133, rfl⟩
abbrev main_while1b_c_21 : Ref sig .tc := ⟨.hbm, 134, rfl⟩
abbrev main_while1b_v82 : Ref sig .tc := ⟨.hbm, 135, rfl⟩
abbrev main_v10 : Ref sig .tc := ⟨.hbm, 136, rfl⟩
abbrev main_v11 : Ref sig .tc := ⟨.hbm, 137, rfl⟩
abbrev main_cst_2 : Ref sig .tc := ⟨.hbm, 138, rfl⟩
abbrev main_v12 : Ref sig .tc := ⟨.hbm, 139, rfl⟩
abbrev main_v13 : Ref sig .tc := ⟨.hbm, 140, rfl⟩
abbrev main_cst_3 : Ref sig .tc := ⟨.hbm, 141, rfl⟩
abbrev main_v14 : Ref sig .tc := ⟨.hbm, 142, rfl⟩
abbrev main_v15 : Ref sig .tc := ⟨.hbm, 143, rfl⟩
abbrev main_v16 : Ref sig .tc := ⟨.hbm, 144, rfl⟩
abbrev main_v17 : Ref sig .tc := ⟨.hbm, 145, rfl⟩
abbrev main_v18 : Ref sig .tc := ⟨.hbm, 146, rfl⟩
abbrev main_cst_4 : Ref sig .tc := ⟨.hbm, 147, rfl⟩
abbrev main_v19 : Ref sig .tc := ⟨.hbm, 148, rfl⟩
abbrev main_v20 : Ref sig .tc := ⟨.hbm, 149, rfl⟩
abbrev main_cst_5 : Ref sig .tc := ⟨.hbm, 150, rfl⟩
abbrev main_v21 : Ref sig .tc := ⟨.hbm, 151, rfl⟩
abbrev main_v22 : Ref sig .tc := ⟨.hbm, 152, rfl⟩
abbrev main_v23 : Ref sig .tc := ⟨.hbm, 153, rfl⟩
abbrev main_v24 : Ref sig .tc := ⟨.hbm, 154, rfl⟩
abbrev main_cst_6 : Ref sig .tc := ⟨.hbm, 155, rfl⟩
abbrev main_v25 : Ref sig .tc := ⟨.hbm, 156, rfl⟩
abbrev main_v26 : Ref sig .tc := ⟨.hbm, 157, rfl⟩
abbrev main_v27 : Ref sig .tc := ⟨.hbm, 158, rfl⟩
abbrev main_v28 : Ref sig .tc := ⟨.hbm, 159, rfl⟩
abbrev main_v29 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_call4_cst : Ref sig .tc := ⟨.hbm, 167, rfl⟩
abbrev main_call4_v0 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_cst_7 : Ref sig .tc := ⟨.hbm, 173, rfl⟩
abbrev main_v40 : Ref sig .tc := ⟨.hbm, 174, rfl⟩
abbrev main_v41 : Ref sig .tc := ⟨.hbm, 175, rfl⟩
abbrev main_cst_8 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_v45 : Ref sig .tc := ⟨.hbm, 180, rfl⟩
abbrev main_v46 : Ref sig .tc := ⟨.hbm, 181, rfl⟩
abbrev main_v47 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev main_while0_count : Scf.Loop 32 := ⟨0#32, 24#32, 1#32⟩

abbrev main_while1_count : Scf.Loop 32 := ⟨0#32, 24#32, 1#32⟩

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S24x1024 : Shape := ⟨2, ![24, 1024]⟩
abbrev S24x1x64 : Shape := ⟨3, ![24, 1, 64]⟩
abbrev S2x1x128 : Shape := ⟨3, ![2, 1, 128]⟩
abbrev S384x64 : Shape := ⟨2, ![384, 64]⟩
abbrev S384x128 : Shape := ⟨2, ![384, 128]⟩
abbrev S384 : Shape := ⟨1, ![384]⟩
abbrev S256 : Shape := ⟨1, ![256]⟩
abbrev S24x1024x256 : Shape := ⟨3, ![24, 1024, 256]⟩
abbrev S24x64 : Shape := ⟨2, ![24, 64]⟩
abbrev S1x1x128 : Shape := ⟨3, ![1, 1, 128]⟩
abbrev S128 : Shape := ⟨1, ![128]⟩
abbrev S_ : Shape := ⟨0, ![]⟩
abbrev S24x128 : Shape := ⟨2, ![24, 128]⟩
abbrev S1x64 : Shape := ⟨2, ![1, 64]⟩
abbrev S64 : Shape := ⟨1, ![64]⟩
abbrev S1x128 : Shape := ⟨2, ![1, 128]⟩
abbrev S24x256 : Shape := ⟨2, ![24, 256]⟩
abbrev S24 : Shape := ⟨1, ![24]⟩
abbrev S24x1 : Shape := ⟨2, ![24, 1]⟩
abbrev S1x256 : Shape := ⟨2, ![1, 256]⟩
abbrev S1024 : Shape := ⟨1, ![1024]⟩
abbrev S24x1024x1 : Shape := ⟨3, ![24, 1024, 1]⟩
abbrev S1x1024 : Shape := ⟨2, ![1, 1024]⟩
abbrev S1x1x1024 : Shape := ⟨3, ![1, 1, 1024]⟩
abbrev S24x1024x1024 : Shape := ⟨3, ![24, 1024, 1024]⟩
abbrev S1024x1024 : Shape := ⟨2, ![1024, 1024]⟩
abbrev S24x1x1024 : Shape := ⟨3, ![24, 1, 1024]⟩

abbrev nBuf : Space → Nat
  | .hbm => 250
  | .vmem => 0
  | .smem => 0
  | _ => 0

abbrev hbmTy0_0 (i : Nat) : BufTy := match i % 128 with
  | 0 => ⟨S24x1024, .f32⟩
  | 1 => ⟨S24x1x64, .f32⟩
  | 2 => ⟨S2x1x128, .f32⟩
  | 3 => ⟨S384x64, .f32⟩
  | 4 => ⟨S384x128, .f32⟩
  | 5 => ⟨S384, .f32⟩
  | 6 => ⟨S384, .f32⟩
  | 7 => ⟨S384x64, .f32⟩
  | 8 => ⟨S384x128, .f32⟩
  | 9 => ⟨S384, .f32⟩
  | 10 => ⟨S384, .f32⟩
  | 11 => ⟨S256, .f32⟩
  | 12 => ⟨S256, .f32⟩
  | 13 => ⟨S24x1024x256, .f32⟩
  | 14 => ⟨S24x64, .f32⟩
  | 15 => ⟨S1x1x128, .f32⟩
  | 16 => ⟨S128, .f32⟩
  | 17 => ⟨S_, .f32⟩
  | 18 => ⟨S24x128, .f32⟩
  | 19 => ⟨S_, .i32⟩
  | 20 => ⟨S24x64, .f32⟩
  | 21 => ⟨S384x64, .f32⟩
  | 22 => ⟨S384, .f32⟩
  | 23 => ⟨S384x128, .f32⟩
  | 24 => ⟨S384, .f32⟩
  | 25 => ⟨S_, .i32⟩
  | 26 => ⟨S128, .f32⟩
  | 27 => ⟨S24x128, .f32⟩
  | 28 => ⟨S_, .i32⟩
  | 29 => ⟨S_, .i1⟩
  | 30 => ⟨S_, .i32⟩
  | 31 => ⟨S1x64, .f32⟩
  | 32 => ⟨S64, .f32⟩
  | 33 => ⟨S384, .f32⟩
  | 34 => ⟨S384, .f32⟩
  | 35 => ⟨S384, .f32⟩
  | 36 => ⟨S384, .f32⟩
  | 37 => ⟨S128, .f32⟩
  | 38 => ⟨S128, .f32⟩
  | 39 => ⟨S128, .f32⟩
  | 40 => ⟨S128, .f32⟩
  | 41 => ⟨S128, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S128, .f32⟩
  | 70 => ⟨S1x128, .f32⟩
  | 71 => ⟨S_, .i32⟩
  | 72 => ⟨S24x128, .f32⟩
  | 73 => ⟨S_, .i32⟩
  | 74 => ⟨S_, .i32⟩
  | 75 => ⟨S24x64, .f32⟩
  | 76 => ⟨S1x1x128, .f32⟩
  | 77 => ⟨S128, .f32⟩
  | 78 => ⟨S_, .f32⟩
  | 79 => ⟨S24x128, .f32⟩
  | 80 => ⟨S_, .i32⟩
  | 81 => ⟨S24x64, .f32⟩
  | 82 => ⟨S384x64, .f32⟩
  | 83 => ⟨S384, .f32⟩
  | 84 => ⟨S384x128, .f32⟩
  | 85 => ⟨S384, .f32⟩
  | 86 => ⟨S_, .i32⟩
  | 87 => ⟨S128, .f32⟩
  | 88 => ⟨S24x128, .f32⟩
  | 89 => ⟨S_, .i32⟩
  | 90 => ⟨S_, .i1⟩
  | 91 => ⟨S_, .i32⟩
  | 92 => ⟨S1x64, .f32⟩
  | 93 => ⟨S64, .f32⟩
  | 94 => ⟨S384, .f32⟩
  | 95 => ⟨S384, .f32⟩
  | 96 => ⟨S384, .f32⟩
  | 97 => ⟨S384, .f32⟩
  | 98 => ⟨S128, .f32⟩
  | 99 => ⟨S128, .f32⟩
  | 100 => ⟨S128, .f32⟩
  | 101 => ⟨S128, .f32⟩
  | 102 => ⟨S128, .f32⟩
  | 103 => ⟨S128, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S_, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S24x1024, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S_, .i32⟩
  | 5 => ⟨S24x128, .f32⟩
  | 6 => ⟨S_, .i32⟩
  | 7 => ⟨S_, .i32⟩
  | 8 => ⟨S24x128, .f32⟩
  | 9 => ⟨S24x256, .f32⟩
  | 10 => ⟨S_, .f32⟩
  | 11 => ⟨S24, .f32⟩
  | 12 => ⟨S24x1, .f32⟩
  | 13 => ⟨S_, .f32⟩
  | 14 => ⟨S24x1, .f32⟩
  | 15 => ⟨S24x1, .f32⟩
  | 16 => ⟨S24x256, .f32⟩
  | 17 => ⟨S24x256, .f32⟩
  | 18 => ⟨S24x256, .f32⟩
  | 19 => ⟨S_, .f32⟩
  | 20 => ⟨S24, .f32⟩
  | 21 => ⟨S24x1, .f32⟩
  | 22 => ⟨S_, .f32⟩
  | 23 => ⟨S24x1, .f32⟩
  | 24 => ⟨S24x1, .f32⟩
  | 25 => ⟨S24x256, .f32⟩
  | 26 => ⟨S24x256, .f32⟩
  | 27 => ⟨S_, .f32⟩
  | 28 => ⟨S24x1, .f32⟩
  | 29 => ⟨S24x1, .f32⟩
  | 30 => ⟨S24x1, .f32⟩
  | 31 => ⟨S24x256, .f32⟩
  | 32 => ⟨S24x256, .f32⟩
  | 33 => ⟨S1x256, .f32⟩
  | 34 => ⟨S24x256, .f32⟩
  | 35 => ⟨S24x256, .f32⟩
  | 36 => ⟨S1x256, .f32⟩
  | 37 => ⟨S24x256, .f32⟩
  | 38 => ⟨S24x256, .f32⟩
  | 39 => ⟨S_, .f32⟩
  | 40 => ⟨S24x256, .f32⟩
  | 41 => ⟨S24x256, .f32⟩
  | 42 => ⟨S24x1024, .f32⟩
  | 43 => ⟨S24x1024, .f32⟩
  | 44 => ⟨S24x1024, .f32⟩
  | 45 => ⟨S_, .f32⟩
  | 46 => ⟨S24x1024, .f32⟩
  | 47 => ⟨S24x1024, .f32⟩
  | 48 => ⟨S_, .f32⟩
  | 49 => ⟨S24x1024, .f32⟩
  | 50 => ⟨S24x1024, .f32⟩
  | 51 => ⟨S1024, .f32⟩
  | 52 => ⟨S24x1024, .f32⟩
  | 53 => ⟨S1024, .i32⟩
  | 54 => ⟨S24x1024, .i32⟩
  | 55 => ⟨S24x1024, .f32⟩
  | 56 => ⟨S24x1024, .i32⟩
  | 57 => ⟨S1024, .i32⟩
  | 58 => ⟨S24x1024, .i32⟩
  | 59 => ⟨S24x1024, .i32⟩
  | 60 => ⟨S24x1024, .i32⟩
  | 61 => ⟨S_, .i32⟩
  | 62 => ⟨S24x1024, .i32⟩
  | 63 => ⟨S24x1024, .i1⟩
  | 64 => ⟨S_, .i32⟩
  | 65 => ⟨S24x1024, .i32⟩
  | 66 => ⟨S24x1024, .i32⟩
  | 67 => ⟨S24x1024, .i32⟩
  | 68 => ⟨S24x1024x1, .i32⟩
  | 69 => ⟨S24x1024, .f32⟩
  | 70 => ⟨S1024, .i32⟩
  | 71 => ⟨S24x1024, .i32⟩
  | 72 => ⟨S24x1024, .f32⟩
  | 73 => ⟨S24x1024, .i32⟩
  | 74 => ⟨S1024, .i32⟩
  | 75 => ⟨S24x1024, .i32⟩
  | 76 => ⟨S24x1024, .i32⟩
  | 77 => ⟨S24x1024, .i32⟩
  | 78 => ⟨S24x1024, .f32⟩
  | 79 => ⟨S1x1024, .f32⟩
  | 80 => ⟨S24x1024x1, .f32⟩
  | 81 => ⟨S1x1x1024, .f32⟩
  | 82 => ⟨S24x1024x1024, .f32⟩
  | 83 => ⟨S24x1024x1024, .f32⟩
  | 84 => ⟨S24x1024x1024, .f32⟩
  | 85 => ⟨S24x1024x1024, .f32⟩
  | 86 => ⟨S_, .f32⟩
  | 87 => ⟨S24x1024x1024, .f32⟩
  | 88 => ⟨S24x1024x1024, .i1⟩
  | 89 => ⟨S24x1024x1024, .f32⟩
  | 90 => ⟨S24x1024x1024, .f32⟩
  | 91 => ⟨S24x1024x1024, .f32⟩
  | 92 => ⟨S_, .f32⟩
  | 93 => ⟨S_, .f32⟩
  | 94 => ⟨S1024x1024, .f32⟩
  | 95 => ⟨S24x1024x1024, .f32⟩
  | 96 => ⟨S24x1024x1024, .f32⟩
  | 97 => ⟨S_, .f32⟩
  | 98 => ⟨S24x1024, .f32⟩
  | 99 => ⟨S24x1024x1, .f32⟩
  | 100 => ⟨S24x1024x1024, .f32⟩
  | 101 => ⟨S24x1024x1024, .f32⟩
  | 102 => ⟨S24x1x1024, .f32⟩
  | 103 => ⟨S24x1024x1024, .f32⟩
  | 104 => ⟨S24x1024x1024, .f32⟩
  | 105 => ⟨S_, .f32⟩
  | 106 => ⟨S24x1024, .f32⟩
  | 107 => ⟨S_, .f32⟩
  | 108 => ⟨S24x1024, .f32⟩
  | 109 => ⟨S24x1024, .i1⟩
  | 110 => ⟨S24x1024, .f32⟩
  | 111 => ⟨S24x1024, .f32⟩
  | 112 => ⟨S24x1024, .f32⟩
  | 113 => ⟨S_, .i32⟩
  | 114 => ⟨S24x1024, .i32⟩
  | 115 => ⟨S24x1024, .i1⟩
  | 116 => ⟨S_, .i32⟩
  | 117 => ⟨S24x1024, .i32⟩
  | 118 => ⟨S24x1024, .i32⟩
  | 119 => ⟨S24x1024, .i32⟩
  | 120 => ⟨S24x1024x1, .i32⟩
  | 121 => ⟨S24x1024, .f32⟩
  | _ => ⟨S24x1024, .f32⟩

abbrev hbmTy (i : Nat) : BufTy := match i / 128 with
  | 0 => hbmTy0_0 i
  | 1 => hbmTy0_1 i
  | _ => ⟨S24x1024, .f32⟩

abbrev bufTy : (tb : Table) → Fin (tcTables nBuf tb) → BufTy
  | .hbm, ⟨i, _⟩ => hbmTy i
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_c : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_while0c_c_25 : Ref sig .tc := ⟨.hbm, 28, rfl⟩
abbrev main_while0c_v91 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v91 : Ref sig .tc := ⟨.hbm, 32, rfl⟩
abbrev main_while0b_v92 : Ref sig .tc := ⟨.hbm, 33, rfl⟩
abbrev main_while0b_v93 : Ref sig .tc := ⟨.hbm, 34, rfl⟩
abbrev main_while0b_v94 : Ref sig .tc := ⟨.hbm, 35, rfl⟩
abbrev main_while0b_v95 : Ref sig .tc := ⟨.hbm, 36, rfl⟩
abbrev main_while0b_v96 : Ref sig .tc := ⟨.hbm, 37, rfl⟩
abbrev main_while0b_v97 : Ref sig .tc := ⟨.hbm, 38, rfl⟩
abbrev main_while0b_v98 : Ref sig .tc := ⟨.hbm, 39, rfl⟩
abbrev main_while0b_v99 : Ref sig .tc := ⟨.hbm, 40, rfl⟩
abbrev main_while0b_v100 : Ref sig .tc := ⟨.hbm, 41, rfl⟩
abbrev main_while0b_v101 : Ref sig .tc := ⟨.hbm, 42, rfl⟩
abbrev main_while0b_v102 : Ref sig .tc := ⟨.hbm, 43, rfl⟩
abbrev main_while0b_v103 : Ref sig .tc := ⟨.hbm, 44, rfl⟩
abbrev main_while0b_v104 : Ref sig .tc := ⟨.hbm, 45, rfl⟩
abbrev main_while0b_cst_25 : Ref sig .tc := ⟨.hbm, 46, rfl⟩
abbrev main_while0b_v105 : Ref sig .tc := ⟨.hbm, 47, rfl⟩
abbrev main_while0b_v106 : Ref sig .tc := ⟨.hbm, 48, rfl⟩
abbrev main_while0b_cst_26 : Ref sig .tc := ⟨.hbm, 49, rfl⟩
abbrev main_while0b_v107 : Ref sig .tc := ⟨.hbm, 50, rfl⟩
abbrev main_while0b_v108 : Ref sig .tc := ⟨.hbm, 51, rfl⟩
abbrev main_while0b_v109 : Ref sig .tc := ⟨.hbm, 52, rfl⟩
abbrev main_while0b_v110 : Ref sig .tc := ⟨.hbm, 53, rfl⟩
abbrev main_while0b_v111 : Ref sig .tc := ⟨.hbm, 54, rfl⟩
abbrev main_while0b_cst_27 : Ref sig .tc := ⟨.hbm, 55, rfl⟩
abbrev main_while0b_v112 : Ref sig .tc := ⟨.hbm, 56, rfl⟩
abbrev main_while0b_v113 : Ref sig .tc := ⟨.hbm, 57, rfl⟩
abbrev main_while0b_cst_28 : Ref sig .tc := ⟨.hbm, 58, rfl⟩
abbrev main_while0b_v114 : Ref sig .tc := ⟨.hbm, 59, rfl⟩
abbrev main_while0b_v115 : Ref sig .tc := ⟨.hbm, 60, rfl⟩
abbrev main_while0b_v116 : Ref sig .tc := ⟨.hbm, 61, rfl⟩
abbrev main_while0b_v117 : Ref sig .tc := ⟨.hbm, 62, rfl⟩
abbrev main_while0b_v118 : Ref sig .tc := ⟨.hbm, 63, rfl⟩
abbrev main_while0b_cst_29 : Ref sig .tc := ⟨.hbm, 64, rfl⟩
abbrev main_while0b_v119 : Ref sig .tc := ⟨.hbm, 65, rfl⟩
abbrev main_while0b_v120 : Ref sig .tc := ⟨.hbm, 66, rfl⟩
abbrev main_while0b_v121 : Ref sig .tc := ⟨.hbm, 67, rfl⟩
abbrev main_while0b_v122 : Ref sig .tc := ⟨.hbm, 68, rfl⟩
abbrev main_while0b_v123 : Ref sig .tc := ⟨.hbm, 69, rfl⟩
abbrev main_while0b_call1_v0 : Ref sig .tc := ⟨.hbm, 70, rfl⟩
abbrev main_while0b_call1_c : Ref sig .tc := ⟨.hbm, 71, rfl⟩
abbrev main_while0b_v124 : Ref sig .tc := ⟨.hbm, 72, rfl⟩
abbrev main_while0b_c_30 : Ref sig .tc := ⟨.hbm, 73, rfl⟩
abbrev main_while0b_v125 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_cst_0 : Ref sig .tc := ⟨.hbm, 78, rfl⟩
abbrev main_v8 : Ref sig .tc := ⟨.hbm, 79, rfl⟩
abbrev main_c_1 : Ref sig .tc := ⟨.hbm, 80, rfl⟩
abbrev main_v9_0 : Ref sig .tc := ⟨.hbm, 81, rfl⟩
abbrev main_v9_1 : Ref sig .tc := ⟨.hbm, 82, rfl⟩
abbrev main_v9_2 : Ref sig .tc := ⟨.hbm, 83, rfl⟩
abbrev main_v9_3 : Ref sig .tc := ⟨.hbm, 84, rfl⟩
abbrev main_v9_4 : Ref sig .tc := ⟨.hbm, 85, rfl⟩
abbrev main_v9_5 : Ref sig .tc := ⟨.hbm, 86, rfl⟩
abbrev main_v9_6 : Ref sig .tc := ⟨.hbm, 87, rfl⟩
abbrev main_v9_7 : Ref sig .tc := ⟨.hbm, 88, rfl⟩
abbrev main_while1c_c_25 : Ref sig .tc := ⟨.hbm, 89, rfl⟩
abbrev main_while1c_v91 : Ref sig .tc := ⟨.hbm, 90, rfl⟩
abbrev main_while1b_call2_c : Ref sig .tc := ⟨.hbm, 91, rfl⟩
abbrev main_while1b_call2_v0 : Ref sig .tc := ⟨.hbm, 92, rfl⟩
abbrev main_while1b_v91 : Ref sig .tc := ⟨.hbm, 93, rfl⟩
abbrev main_while1b_v92 : Ref sig .tc := ⟨.hbm, 94, rfl⟩
abbrev main_while1b_v93 : Ref sig .tc := ⟨.hbm, 95, rfl⟩
abbrev main_while1b_v94 : Ref sig .tc := ⟨.hbm, 96, rfl⟩
abbrev main_while1b_v95 : Ref sig .tc := ⟨.hbm, 97, rfl⟩
abbrev main_while1b_v96 : Ref sig .tc := ⟨.hbm, 98, rfl⟩
abbrev main_while1b_v97 : Ref sig .tc := ⟨.hbm, 99, rfl⟩
abbrev main_while1b_v98 : Ref sig .tc := ⟨.hbm, 100, rfl⟩
abbrev main_while1b_v99 : Ref sig .tc := ⟨.hbm, 101, rfl⟩
abbrev main_while1b_v100 : Ref sig .tc := ⟨.hbm, 102, rfl⟩
abbrev main_while1b_v101 : Ref sig .tc := ⟨.hbm, 103, rfl⟩
abbrev main_while1b_v102 : Ref sig .tc := ⟨.hbm, 104, rfl⟩
abbrev main_while1b_v103 : Ref sig .tc := ⟨.hbm, 105, rfl⟩
abbrev main_while1b_v104 : Ref sig .tc := ⟨.hbm, 106, rfl⟩
abbrev main_while1b_cst_25 : Ref sig .tc := ⟨.hbm, 107, rfl⟩
abbrev main_while1b_v105 : Ref sig .tc := ⟨.hbm, 108, rfl⟩
abbrev main_while1b_v106 : Ref sig .tc := ⟨.hbm, 109, rfl⟩
abbrev main_while1b_cst_26 : Ref sig .tc := ⟨.hbm, 110, rfl⟩
abbrev main_while1b_v107 : Ref sig .tc := ⟨.hbm, 111, rfl⟩
abbrev main_while1b_v108 : Ref sig .tc := ⟨.hbm, 112, rfl⟩
abbrev main_while1b_v109 : Ref sig .tc := ⟨.hbm, 113, rfl⟩
abbrev main_while1b_v110 : Ref sig .tc := ⟨.hbm, 114, rfl⟩
abbrev main_while1b_v111 : Ref sig .tc := ⟨.hbm, 115, rfl⟩
abbrev main_while1b_cst_27 : Ref sig .tc := ⟨.hbm, 116, rfl⟩
abbrev main_while1b_v112 : Ref sig .tc := ⟨.hbm, 117, rfl⟩
abbrev main_while1b_v113 : Ref sig .tc := ⟨.hbm, 118, rfl⟩
abbrev main_while1b_cst_28 : Ref sig .tc := ⟨.hbm, 119, rfl⟩
abbrev main_while1b_v114 : Ref sig .tc := ⟨.hbm, 120, rfl⟩
abbrev main_while1b_v115 : Ref sig .tc := ⟨.hbm, 121, rfl⟩
abbrev main_while1b_v116 : Ref sig .tc := ⟨.hbm, 122, rfl⟩
abbrev main_while1b_v117 : Ref sig .tc := ⟨.hbm, 123, rfl⟩
abbrev main_while1b_v118 : Ref sig .tc := ⟨.hbm, 124, rfl⟩
abbrev main_while1b_cst_29 : Ref sig .tc := ⟨.hbm, 125, rfl⟩
abbrev main_while1b_v119 : Ref sig .tc := ⟨.hbm, 126, rfl⟩
abbrev main_while1b_v120 : Ref sig .tc := ⟨.hbm, 127, rfl⟩
abbrev main_while1b_v121 : Ref sig .tc := ⟨.hbm, 128, rfl⟩
abbrev main_while1b_v122 : Ref sig .tc := ⟨.hbm, 129, rfl⟩
abbrev main_while1b_v123 : Ref sig .tc := ⟨.hbm, 130, rfl⟩
abbrev main_while1b_call3_v0 : Ref sig .tc := ⟨.hbm, 131, rfl⟩
abbrev main_while1b_call3_c : Ref sig .tc := ⟨.hbm, 132, rfl⟩
abbrev main_while1b_v124 : Ref sig .tc := ⟨.hbm, 133, rfl⟩
abbrev main_while1b_c_30 : Ref sig .tc := ⟨.hbm, 134, rfl⟩
abbrev main_while1b_v125 : Ref sig .tc := ⟨.hbm, 135, rfl⟩
abbrev main_v10 : Ref sig .tc := ⟨.hbm, 136, rfl⟩
abbrev main_v11 : Ref sig .tc := ⟨.hbm, 137, rfl⟩
abbrev main_cst_2 : Ref sig .tc := ⟨.hbm, 138, rfl⟩
abbrev main_v12 : Ref sig .tc := ⟨.hbm, 139, rfl⟩
abbrev main_v13 : Ref sig .tc := ⟨.hbm, 140, rfl⟩
abbrev main_cst_3 : Ref sig .tc := ⟨.hbm, 141, rfl⟩
abbrev main_v14 : Ref sig .tc := ⟨.hbm, 142, rfl⟩
abbrev main_v15 : Ref sig .tc := ⟨.hbm, 143, rfl⟩
abbrev main_v16 : Ref sig .tc := ⟨.hbm, 144, rfl⟩
abbrev main_v17 : Ref sig .tc := ⟨.hbm, 145, rfl⟩
abbrev main_v18 : Ref sig .tc := ⟨.hbm, 146, rfl⟩
abbrev main_cst_4 : Ref sig .tc := ⟨.hbm, 147, rfl⟩
abbrev main_v19 : Ref sig .tc := ⟨.hbm, 148, rfl⟩
abbrev main_v20 : Ref sig .tc := ⟨.hbm, 149, rfl⟩
abbrev main_cst_5 : Ref sig .tc := ⟨.hbm, 150, rfl⟩
abbrev main_v21 : Ref sig .tc := ⟨.hbm, 151, rfl⟩
abbrev main_v22 : Ref sig .tc := ⟨.hbm, 152, rfl⟩
abbrev main_v23 : Ref sig .tc := ⟨.hbm, 153, rfl⟩
abbrev main_v24 : Ref sig .tc := ⟨.hbm, 154, rfl⟩
abbrev main_cst_6 : Ref sig .tc := ⟨.hbm, 155, rfl⟩
abbrev main_v25 : Ref sig .tc := ⟨.hbm, 156, rfl⟩
abbrev main_v26 : Ref sig .tc := ⟨.hbm, 157, rfl⟩
abbrev main_v27 : Ref sig .tc := ⟨.hbm, 158, rfl⟩
abbrev main_v28 : Ref sig .tc := ⟨.hbm, 159, rfl⟩
abbrev main_v29 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_call4_cst : Ref sig .tc := ⟨.hbm, 167, rfl⟩
abbrev main_call4_v0 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_cst_7 : Ref sig .tc := ⟨.hbm, 173, rfl⟩
abbrev main_v40 : Ref sig .tc := ⟨.hbm, 174, rfl⟩
abbrev main_v41 : Ref sig .tc := ⟨.hbm, 175, rfl⟩
abbrev main_cst_8 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_v45 : Ref sig .tc := ⟨.hbm, 180, rfl⟩
abbrev main_call5_v0 : Ref sig .tc := ⟨.hbm, 181, rfl⟩
abbrev main_call5_v1 : Ref sig .tc := ⟨.hbm, 182, rfl⟩
abbrev main_call5_v2_0 : Ref sig .tc := ⟨.hbm, 183, rfl⟩
abbrev main_v46 : Ref sig .tc := ⟨.hbm, 184, rfl⟩
abbrev main_call6_v0 : Ref sig .tc := ⟨.hbm, 185, rfl⟩
abbrev main_call6_v1 : Ref sig .tc := ⟨.hbm, 186, rfl⟩
abbrev main_call6_v2_0 : Ref sig .tc := ⟨.hbm, 187, rfl⟩
abbrev main_v47 : Ref sig .tc := ⟨.hbm, 188, rfl⟩
abbrev main_c_9 : Ref sig .tc := ⟨.hbm, 189, rfl⟩
abbrev main_v48 : Ref sig .tc := ⟨.hbm, 190, rfl⟩
abbrev main_v49 : Ref sig .tc := ⟨.hbm, 191, rfl⟩
abbrev main_c_10 : Ref sig .tc := ⟨.hbm, 192, rfl⟩
abbrev main_v50 : Ref sig .tc := ⟨.hbm, 193, rfl⟩
abbrev main_v51 : Ref sig .tc := ⟨.hbm, 194, rfl⟩
abbrev main_v52 : Ref sig .tc := ⟨.hbm, 195, rfl⟩
abbrev main_v53 : Ref sig .tc := ⟨.hbm, 196, rfl⟩
abbrev main_v54 : Ref sig .tc := ⟨.hbm, 197, rfl⟩
abbrev main_call7_v0 : Ref sig .tc := ⟨.hbm, 198, rfl⟩
abbrev main_call7_v1 : Ref sig .tc := ⟨.hbm, 199, rfl⟩
abbrev main_call7_v2_0 : Ref sig .tc := ⟨.hbm, 200, rfl⟩
abbrev main_v55 : Ref sig .tc := ⟨.hbm, 201, rfl⟩
abbrev main_call8_v0 : Ref sig .tc := ⟨.hbm, 202, rfl⟩
abbrev main_call8_v1 : Ref sig .tc := ⟨.hbm, 203, rfl⟩
abbrev main_call8_v2_0 : Ref sig .tc := ⟨.hbm, 204, rfl⟩
abbrev main_v56 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_v63 : Ref sig .tc := ⟨.hbm, 212, rfl⟩
abbrev main_v64 : Ref sig .tc := ⟨.hbm, 213, rfl⟩
abbrev main_cst_11 : Ref sig .tc := ⟨.hbm, 214, rfl⟩
abbrev main_v65 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_cst_12 : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_v70 : Ref sig .tc := ⟨.hbm, 224, rfl⟩
abbrev main_cst_13 : Ref sig .tc := ⟨.hbm, 225, rfl⟩
abbrev main_v71 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_cst_14 : Ref sig .tc := ⟨.hbm, 233, rfl⟩
abbrev main_v78 : Ref sig .tc := ⟨.hbm, 234, rfl⟩
abbrev main_cst_15 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩
abbrev main_c_16 : Ref sig .tc := ⟨.hbm, 241, rfl⟩
abbrev main_v84 : Ref sig .tc := ⟨.hbm, 242, rfl⟩
abbrev main_v85 : Ref sig .tc := ⟨.hbm, 243, rfl⟩
abbrev main_c_17 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩

abbrev nD : Nat := 1
abbrev τ : Topo := Topo.v7x

variable {F : FTy → Type} [FloatOps F]

abbrev main_while0_count : Scf.Loop 32 := ⟨0#32, 24#32, 1#32⟩

abbrev main_while1_count : Scf.Loop 32 := ⟨0#32, 24#32, 1#32⟩
-- ==== Kernel2.lean ====
abbrev S24x1024 : Shape := ⟨2, ![24, 1024]⟩
abbrev S24x1x1024 : Shape := ⟨3, ![24, 1, 1024]⟩
abbrev S1x1x1024 : Shape := ⟨3, ![1, 1, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 6
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1x1024, .f32⟩
  | .hbm, ⟨3, _⟩ => ⟨S24x1x1024, .f32⟩
  | .hbm, ⟨4, _⟩ => ⟨S24x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S24x1024 : Shape := ⟨2, ![24, 1024]⟩
abbrev S1024 : Shape := ⟨1, ![1024]⟩
abbrev S_ : Shape := ⟨0, ![]⟩
abbrev S24x1024x1 : Shape := ⟨3, ![24, 1024, 1]⟩
abbrev S1x1024 : Shape := ⟨2, ![1, 1024]⟩
abbrev S1x1x1024 : Shape := ⟨3, ![1, 1, 1024]⟩
abbrev S24x1024x1024 : Shape := ⟨3, ![24, 1024, 1024]⟩
abbrev S24x1x1024 : Shape := ⟨3, ![24, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S1024, .f32⟩
  | .hbm, ⟨3, _⟩ => ⟨S24x1024, .f32⟩
  | .hbm, ⟨4, _⟩ => ⟨S1024, .i32⟩
  | .hbm, ⟨5, _⟩ => ⟨S24x1024, .i32⟩
  | .hbm, ⟨6, _⟩ => ⟨S24x1024, .f32⟩
  | .hbm, ⟨7, _⟩ => ⟨S24x1024, .i32⟩
  | .hbm, ⟨8, _⟩ => ⟨S1024, .i32⟩
  | .hbm, ⟨9, _⟩ => ⟨S24x1024, .i32⟩
  | .hbm, ⟨10, _⟩ => ⟨S24x1024, .i32⟩
  | .hbm, ⟨11, _⟩ => ⟨S24x1024, .i32⟩
  | .hbm, ⟨12, _⟩ => ⟨S_, .i32⟩
  | .hbm, ⟨13, _⟩ => ⟨S24x1024, .i32⟩
  | .hbm, ⟨14, _⟩ => ⟨S24x1024, .i1⟩
  | .hbm, ⟨15, _⟩ => ⟨S_, .i32⟩
  | .hbm, ⟨16, _⟩ => ⟨S24x1024, .i32⟩
  | .hbm, ⟨17, _⟩ => ⟨S24x1024, .i32⟩
  | .hbm, ⟨18, _⟩ => ⟨S24x1024, .i32⟩
  | .hbm, ⟨19, _⟩ => ⟨S24x1024x1, .i32⟩
  | .hbm, ⟨20, _⟩ => ⟨S24x1024, .f32⟩
  | .hbm, ⟨21, _⟩ => ⟨S1024, .i32⟩
  | .hbm, ⟨22, _⟩ => ⟨S24x1024, .i32⟩
  | .hbm, ⟨23, _⟩ => ⟨S24x1024, .f32⟩
  | .hbm, ⟨24, _⟩ => ⟨S24x1024, .i32⟩
  | .hbm, ⟨25, _⟩ => ⟨S1024, .i32⟩
  | .hbm, ⟨26, _⟩ => ⟨S24x1024, .i32⟩
  | .hbm, ⟨27, _⟩ => ⟨S24x1024, .i32⟩
  | .hbm, ⟨28, _⟩ => ⟨S24x1024, .i32⟩
  | .hbm, ⟨29, _⟩ => ⟨S24x1024, .f32⟩
  | .hbm, ⟨30, _⟩ => ⟨S1x1024, .f32⟩
  | .hbm, ⟨31, _⟩ => ⟨S24x1024x1, .f32⟩
  | .hbm, ⟨32, _⟩ => ⟨S1x1x1024, .f32⟩
  | .hbm, ⟨33, _⟩ => ⟨S24x1024x1024, .f32⟩
  | .hbm, ⟨34, _⟩ => ⟨S24x1024x1024, .f32⟩
  | .hbm, ⟨35, _⟩ => ⟨S24x1024x1024, .f32⟩
  | .hbm, ⟨36, _⟩ => ⟨S24x1024x1024, .f32⟩
  | .hbm, ⟨37, _⟩ => ⟨S24x1024x1024, .f32⟩
  | .hbm, ⟨38, _⟩ => ⟨S24x1024x1024, .f32⟩
  | .hbm, ⟨39, _⟩ => ⟨S_, .f32⟩
  | .hbm, ⟨40, _⟩ => ⟨S24x1024, .f32⟩
  | .hbm, ⟨41, _⟩ => ⟨S24x1024x1, .f32⟩
  | .hbm, ⟨42, _⟩ => ⟨S24x1024x1024, .f32⟩
  | .hbm, ⟨43, _⟩ => ⟨S24x1024x1024, .f32⟩
  | .hbm, ⟨44, _⟩ => ⟨S24x1x1024, .f32⟩
  | .hbm, ⟨45, _⟩ => ⟨S24x1024x1024, .f32⟩
  | .hbm, ⟨46, _⟩ => ⟨S24x1024x1024, .f32⟩
  | .hbm, ⟨47, _⟩ => ⟨S_, .f32⟩
  | .hbm, ⟨48, _⟩ => ⟨S24x1024, .f32⟩
  | .hbm, ⟨49, _⟩ => ⟨S_, .f32⟩
  | .hbm, ⟨50, _⟩ => ⟨S24x1024, .f32⟩
  | .hbm, ⟨51, _⟩ => ⟨S24x1024, .i1⟩
  | .hbm, ⟨52, _⟩ => ⟨S24x1024, .f32⟩
  | .hbm, ⟨53, _⟩ => ⟨S24x1024, .f32⟩
  | .hbm, ⟨54, _⟩ => ⟨S24x1024, .f32⟩
  | .hbm, ⟨55, _⟩ => ⟨S_, .i32⟩
  | .hbm, ⟨56, _⟩ => ⟨S24x1024, .i32⟩
  | .hbm, ⟨57, _⟩ => ⟨S24x1024, .i1⟩
  | .hbm, ⟨58, _⟩ => ⟨S_, .i32⟩
  | .hbm, ⟨59, _⟩ => ⟨S24x1024, .i32⟩
  | .hbm, ⟨60, _⟩ => ⟨S24x1024, .i32⟩
  | .hbm, ⟨61, _⟩ => ⟨S24x1024, .i32⟩
  | .hbm, ⟨62, _⟩ => ⟨S24x1024x1, .i32⟩
  | .hbm, ⟨63, _⟩ => ⟨S24x1024, .f32⟩
  | .hbm, ⟨64, _⟩ => ⟨S24x1x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_v2 : Ref sig .tc := ⟨.hbm, 7, rfl⟩
abbrev main_call1_v0 : Ref sig .tc := ⟨.hbm, 8, rfl⟩
abbrev main_call1_v1 : Ref sig .tc := ⟨.hbm, 9, rfl⟩
abbrev main_call1_v2_0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call2_v0 : Ref sig .tc := ⟨.hbm, 21, rfl⟩
abbrev main_call2_v1 : Ref sig .tc := ⟨.hbm, 22, rfl⟩
abbrev main_call2_v2_0 : Ref sig .tc := ⟨.hbm, 23, rfl⟩
abbrev main_v11 : Ref sig .tc := ⟨.hbm, 24, rfl⟩
abbrev main_call3_v0 : Ref sig .tc := ⟨.hbm, 25, rfl⟩
abbrev main_call3_v1 : Ref sig .tc := ⟨.hbm, 26, rfl⟩
abbrev main_call3_v2_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Proof.KernelPoint.lean ====
/-
  THE CALL'S BODY AND ITS REGION. The body runs on its three staging buffers (`sound_kernel`); the call is entered from
  unscoped buffers at any contents `V`, and left with the result's array written point by point (`reg`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters. -/
abbrev UU : Type := UR sig nD τ × Counters

local notation "𝕄" => MT nD τ sig Unit (Elt F) ℕ UU ℕ

abbrev r0_0 : Rect S1x1x1024 := Rect.unit (s := S1x1x1024) ![0, 0, 0] S1x1x1024.size inb_S1x1x1024_S1x1x1024_0_0_0

/-! ## What the body leaves in the result's block -/

def k0_pay30 (x0 : Vec F S1x1x1024 .f32) (x1 : Vec F S1x1x1024 .f32) : IVec S1x1024 32 :=
  iota .tc S1x1024 32 [1] iota_S1x1024_d1_w32
def k0_pay31 (x0 : Vec F S1x1x1024 .f32) (x1 : Vec F S1x1x1024 .f32) : FVec F S1x1024 .f32 :=
  k0_pay4 (View.ld x0 r0_0) (View.ld x1 r0_0)
def k0_pay32 (x0 : Vec F S1x1x1024 .f32) (x1 : Vec F S1x1x1024 .f32) : FVec F S1x1024 .f32 :=
  k0_pay6 (F := F) (k0_pay30 x0 x1)

/-- The result's staging buffer after the body, from the inputs' blocks. -/
def out0_2 (x0 : Vec F S1x1x1024 .f32) (x1 : Vec F S1x1x1024 .f32) : Vec F S1x1x1024 .f32 :=
  View.canon [⟨r0_0, k0_pay1 (k0_pay2 (F := F)) (k0_pay31 x0 x1) (k0_pay5 (View.ld x0 r0_0) (View.ld x1 r0_0)) (k0_pay32 x0 x1) (k0_pay26 (k0_pay32 x0 x1) (k0_pay21 (k0_pay32 x0 x1) (k0_pay15 (k0_pay32 x0 x1) (k0_pay10 (F := F) (k0_pay30 x0 x1)) (k0_pay11 (F := F))) (k0_pay16 (F := F)) (k0_pay18 (k0_pay32 x0 x1))) (k0_pay22 (F := F)) (k0_pay24 (F := F))) (k0_pay28 (k0_pay31 x0 x1) (k0_pay23 (k0_pay31 x0 x1) (k0_pay17 (k0_pay31 x0 x1) (k0_pay9 (k0_pay31 x0 x1)) (k0_pay12 (k0_pay31 x0 x1)) (k0_pay13 (F := F))))) (k0_pay29 (k0_pay32 x0 x1))⟩]

/-- The one store covers the result's block. -/
theorem cover0_2 (p0 : Vec F S1x1x1024 .f32) (y : S1x1x1024.Idx) :
    ∃ pc ∈ ([⟨r0_0, p0⟩] : List (View.Piece (Elt F) S1x1x1024 .f32)), y ∈ pc.1.set :=
  View.cover_of_tiled [⟨r0_0, p0⟩] S1x1x1024.size (by rfl) y

/-! ## The body's triple -/

set_option maxHeartbeats 1000000 in
/-- The body, run on its three staging buffers held whole: the inputs' stay as they were, the result's ends at `out0_2` of
    them. -/
theorem sound_kernel (c : Dev nD) (E : Set ℕ) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x1024 .f32) (harg3 : arg3.IsWhole)
    (x0 : Vec F S1x1x1024 .f32) (x1 : Vec F S1x1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__layer_kernel i arg1 harg1 arg2 harg2 arg3 harg3) K := by
  simp only [cc0__layer_kernel_eq_skeleton]; unfold cc0__layer_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rfl

/-! ## The proof data, at the contents the call finds -/

variable (V : (c : Dev nD) → (b : Ref sig .tc) → Buf (Elt F) ((c : Thread nD τ).loc b))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the call keeps beside its arrays: the scoped buffers it does not stage. -/
abbrev Φc (c : Dev nD) : sProp 𝕄 := Pipeline.scopedRest (Ix := Unit) (Name := ℕ) (U := UU) (Lvl := ℕ) (Val := Elt F) spec0 c

/-- The arrays at `V`; after a point's body the inputs' buffers at their blocks, the result's at `out0_2` of them. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Φc c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out0_2 (iblk V c 0 t) (iblk V c 1 t) := by dsimp only [dat]

/-- Each input's staging buffer holds its block when the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)

/-- The body table's row at point `t` is the body at `t`'s slots. -/
theorem defs₀_row (t : Fin cfg0.N) : defs₀ (F := F) .tc cfg0.body (cfg0.bodyArgs t (cfg0.slots t)) = bodyAt0 t := by
  unfold defs₀; rw [Defs.onTc_tc]

/-- The body at any point. -/
theorem sound_body (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t))) := by
  unfold bodyAt0
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1] <;> iassumption

theorem body_obligation (c : Dev nD) : BodyObligation (dat V c) (defs₀ (F := F)) Variants.none () Set.univ := fun t => by
  rw [bigSep_W0, bigSep_W0, defs₀_row]
  exact triple_restated (sound_body V c t) rfl .rfl fun _ => .rfl

/-! ## The region -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The one pipeline's proof data. -/
def pdats : (p : Fin 1) → (c : Dev nD) → Dat τ (Elt F) Unit ℕ UU ℕ (Pipeline.pin (pcfgs (F := F)) adm p) c
  | ⟨0, _⟩ => fun c => dat V c

/-- The result's array after the call. -/
def written (c : Dev nD) : Buf (Elt F) ((c : Thread nD τ).loc main_v46) := (dat V c).arrAt 2 cfg0.N

variable (Vp : (c : Dev nD) → (b : Ref sig .tc) → Buf (Elt F) ((c : Thread nD τ).loc b))

-- the launch facts' configuration is found by unfolding plain definitions
set_option backward.isDefEq.respectTransparency.types false in
/-- The call: entered with the unscoped buffers at `V`, left with them at `Vp`, which differs from `V` in the result's array
    alone. -/
def reg (hVp_out : ∀ c, Vp c main_v46 = written V c) (hVp_ne : ∀ c (b : Ref sig .tc), b ≠ main_v46 → Vp c b = V c b) :
    Pipeline.RegionSeg (pcfgs (F := F)) adm (pdats V) () defs₀ 𝒱₀ L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c (Pipeline.arrRef spec0 0) (by decide)).symm
        · exact ((pdats V 0 c).arrAt_in 1 rfl _).trans (hVp_ne c (Pipeline.arrRef spec0 1) (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Point

end
-- ==== Proof.Loops.lean ====
/-
  A counted loop, for any program: what the trips do to one buffer (`atTrip_iterate`, `atTrip_keep`), and the condition (a
  bound is written, the trip counter is compared with it, and the comparison's one element is returned; `loopCond` is its
  specification). The four loops of the two programs use these.
-/
module

public import Idealize.ShloMosaic.Lib.StableHlo.RunLoop
public import Idealize.ShloMosaic.Lib.WordCmp
public import Idealize.ShloMosaic.Lib.Scf.ExitTest
public import Idealize.ShloMosaic.Lib.Scf.Counter

@[expose] public section

noncomputable section

namespace Cert.Counted

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)

variable {nD : Nat} {τ : Topo} {sig : RefSig} {F : FTy → Type} {Λ₀ : Idealize.SL.Sem.Labels}
variable {Ix : Type} [DecidableEq Ix] {Name : Type} [DecidableEq Name] {U : Type} [URA U] {Lvl : Type} [Preorder Lvl]
variable {P : Type} [Fintype P]
  (pcs : P → PCfg sig Λ₀ (Elt F)) (defs₀ : Defs nD τ sig (Elt F) Λ₀) (𝒱₀ : Variants) {nL : Nat}
  (loops : Fin nL → Prog (TpuEff nD τ sig (Elt F) (HostLoop.Sig (Pipeline.Sig Λ₀ P fun p => (pcs p).Adm) nL) .tc) PUnit)

local notation "𝕄" => MT nD τ sig Ix (Elt F) Name U Lvl

omit [Fintype P] in
/-- A buffer that the condition keeps and a trip sends through `g` holds, before the `k`-th condition, `g` run `k` times. -/
theorem atTrip_iterate (condOps : List (HloOp τ sig (Elt F))) (bodyI : List (List (HloOp τ sig (Elt F))))
    (W₀ : Dev nD → Valuation τ sig (Elt F)) (b : DevRef τ sig) (g : b.ty.Contents (Elt F) → b.ty.Contents (Elt F))
    (hc : ∀ X, after condOps X b = X b) (hb : ∀ X, afterL bodyI X b = g (X b)) (c : Dev nD) :
    ∀ k, atTrip condOps bodyI W₀ k c b = g^[k] (W₀ c b)
  | 0 => rfl
  | k + 1 => by
    rw [Function.iterate_succ_apply', ← atTrip_iterate condOps bodyI W₀ b g hc hb c k]
    exact (hb _).trans (congrArg g (hc _))

omit [Fintype P] in
/-- A buffer that neither the condition nor a trip writes holds what it held when the loop was entered. -/
theorem atTrip_keep (condOps : List (HloOp τ sig (Elt F))) (bodyI : List (List (HloOp τ sig (Elt F))))
    (W₀ : Dev nD → Valuation τ sig (Elt F)) (b : DevRef τ sig)
    (hc : ∀ X, after condOps X b = X b) (hb : ∀ X, afterL bodyI X b = X b) (c : Dev nD) (k : ℕ) :
    atTrip condOps bodyI W₀ k c b = W₀ c b := by
  rw [atTrip_iterate condOps bodyI W₀ b id hc hb c k, Function.iterate_id]
  rfl

/-- A counter started at 0 and raised by 1. -/
theorem counter_at : ∀ k, (fun x : IVec ⟨0, ![]⟩ 32 => addi x (constantI ⟨0, ![]⟩ 32 1#32))^[k] (fun _ => 0#32)
    = fun _ => Scf.iv 0#32 1#32 k
  | 0 => by rw [Scf.iv_zero]; rfl
  | k + 1 => by
    rw [Function.iterate_succ_apply', counter_at k, Scf.iv_succ]
    rfl

-- a rule stated for any thread is applied at the TensorCore's
set_option backward.isDefEq.respectTransparency.types false in
omit [Fintype P] in
/-- The condition `bound ; counter < bound` meets the loop's specification as soon as the comparison, read at the
    counter's contents before the `k`-th run, is true exactly for `k < n`. -/
theorem loopCond (Rc : Dev nD → sProp 𝕄) {ctr lim res : Ref sig .tc} (v : lim.ty.Contents (Elt F))
    (f : ctr.ty.Contents (Elt F) → lim.ty.Contents (Elt F) → res.ty.Contents (Elt F)) (hl hc hl' hr)
    (hp : res.ty = ⟨⟨0, ![]⟩, .i1⟩) (hne : ctr ≠ lim)
    (cond : Prog (TpuEff nD τ sig (Elt F) (HostLoop.Sig (Pipeline.Sig Λ₀ P fun p => (pcs p).Adm) nL) .tc) (Elt F .i1))
    (hcond : cond = (hlo rfl (nullary lim v hl) (fun _ => .ret PUnit.unit) >>= fun _ =>
      hlo rfl (binary ctr lim res f hc hl' hr) (HostLoop.elt res hp)))
    (bodyI : List (List (HloOp τ sig (Elt F)))) (W₀ : Dev nD → Valuation τ sig (Elt F)) (n : ℕ)
    (hval : ∀ k ≤ n, ∀ c, cast (congrArg (BufTy.Contents (Elt F)) hp)
      (f (atTrip [nullary lim v hl, binary ctr lim res f hc hl' hr] bodyI W₀ k c (Proc.devRef .tc ctr)) v) HostLoop.idx0 = 1#1 ↔ k < n) :
    LoopCond pcs defs₀ 𝒱₀ loops Rc cond [nullary lim v hl, binary ctr lim res f hc hl' hr] bodyI W₀ n := by
  intro k hk c bd
  have hv := hval k hk c
  generalize atTrip [nullary lim v hl, binary ctr lim res f hc hl' hr] bodyI W₀ k c = X at hv ⊢
  subst hcond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (cast (congrArg (BufTy.Contents (Elt F)) hp) (f ((nullary lim v hl).result X (Proc.devRef .tc ctr)) ((nullary lim v hl).result X (Proc.devRef .tc lim))) HostLoop.idx0 = 1#1) (k < n)
    rw [nullary_result_ne _ _ _ _ hne, nullary_result]
    exact hv
  isplitl [Hb]; · iexact Hb
  isplitl [Hh]; · rw [after_cons, after_cons, after_nil]; iexact Hh
  iexact HR

/-! ## A run's two ends -/

section Ends

variable (L : GSem nD τ sig → Finset Ix) (lv : GSem nD τ sig → Ix → Lvl)

omit [Preorder Lvl] in
/-- Nothing, dealt to every device. -/
theorem emp_dealt : (BI.emp : sProp 𝕄) ⊢ bigSep Finset.univ (fun _ : Dev nD => (BI.emp : sProp 𝕄)) := by
  rw [BI.bigSep_emp_const]

/-- What the launch deals becomes the buffers held at the launch's contents, and the `owes`. -/
theorem init_held (m : (ℓ : Loc nD τ sig) → Buf (Elt F) ℓ) (g : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Ix) c) ∅ ∗ Pipeline.launchCred (0 : Dev nD → CellTallies nD τ sig Ix) c ∗ prngReg c (g c) ∗ BI.emp)) ∗ levAts L lv)
      ⊢ (|={Set.univ}=> bigSep Finset.univ fun c : Dev nD => iprop(held (c : Thread nD τ) (ucRefs τ sig) (launchContents m c)
          ∗ ∃ W, owes (c : Thread nD τ) (0 : CellTallies nD τ sig Ix) W) : sProp 𝕄) := by
  refine Pipeline.initEach L lv fun c => ?_
  rw [show unscopedBufs c (fun b => m ((c : Thread nD τ).loc b)) = held (c : Thread nD τ) (ucRefs τ sig) (launchContents m c) from Pipeline.unscopedBufs_held c (launchContents m c)]
  iintro ⟨⟨Hh, -, HO, -, -, -⟩, -⟩
  imodintro
  isplitl [Hh]; · iexact Hh
  iexists ∅; iexact HO

/-- Held buffers are the memory's. -/
theorem read_held (c : Dev nD) (W : Valuation τ sig (Elt F)) (s' : Phys nD τ sig (Elt F)) :
    iprop(held (c : Thread nD τ) (ucRefs τ sig) W ∗ SI s')
      ⊢ (|={Set.univ}=> iprop(⌜∀ b ∈ ucRefs τ sig, s'.mem.mem ((c : Dev nD), b) = W b⌝ ∗ SI s') : sProp 𝕄) := by
  unfold held
  iintro ⟨Hh, HSI⟩
  ihave Hr := (pointsTo_read_all (ucRefs τ sig) (fun b => ((c : Dev nD), b)) (fun b => W b) s') $$ [Hh HSI]
  · isplitl [Hh] <;> iassumption
  icases Hr with ⟨%h, HSI⟩
  imodintro
  isplitr; · ipureintro; exact h
  iexact HSI

end Ends

end Cert.Counted

end
-- ==== Proof.KernelRun.lean ====
/-
  THE KERNEL'S RUN. @main is a stretch of host operations, the forward loop, a stretch, the backward loop, three stretches up to
  the call, the call, and one reshape. `run_main` says what every buffer holds at the end; `frame` that the arguments are
  unchanged.
-/
module

public import proofs.«01_k».proof.Proof.KernelPoint
public import proofs.«01_k».proof.Proof.Loops

@[expose] public section

set_option maxRecDepth 16384

noncomputable section

namespace Cert.KernelIdeal.Run

open Cert.KernelIdeal Cert.KernelIdeal.Gen Cert.KernelIdeal.Point Cert.Counted
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

local notation "𝕄" => MT nD τ sig Unit (Elt F) ℕ UU ℕ

/-! ## The operations, cut at the loops and the call, and what each piece writes -/

/-- @main's arguments. -/
abbrev argRefs : List (Ref sig .tc) :=
    [main_arg0, main_arg1, main_arg2, main_arg3, main_arg4, main_arg5, main_arg6, main_arg7, main_arg8, main_arg9, main_arg10,
    main_arg11, main_arg12, main_arg13]

/-- Before the forward loop. -/
abbrev pre : List (List (HloOp τ sig (Elt F))) := [hostOps0]
abbrev pre_W : List (Ref sig .tc) :=
    [main_v0, main_v1, main_v2, main_cst, main_v3, main_c, main_v4_0, main_v4_1, main_v4_2, main_v4_3, main_v4_4,
    main_v4_5, main_v4_6, main_v4_7]
theorem pre_keep (X : Valuation τ sig (Elt F)) {b : Ref sig .tc} (h : b ∉ pre_W) :
    afterL pre X (Proc.devRef .tc b) = X (Proc.devRef .tc b) := by
  rw [afterL_eq_after_flatten]
  exact after_of_writes_sub _ X (W := pre_W) (forall_writes_sub_of_map rfl) h

/-- Between the loops. -/
abbrev mid : List (List (HloOp τ sig (Elt F))) := [hostOps0_1]
abbrev mid_W : List (Ref sig .tc) :=
    [main_v5, main_v6, main_v7, main_cst_0, main_v8, main_c_1, main_v9_0, main_v9_1, main_v9_2, main_v9_3, main_v9_4,
    main_v9_5, main_v9_6, main_v9_7]
theorem mid_keep (X : Valuation τ sig (Elt F)) {b : Ref sig .tc} (h : b ∉ mid_W) :
    afterL mid X (Proc.devRef .tc b) = X (Proc.devRef .tc b) := by
  rw [afterL_eq_after_flatten]
  exact after_of_writes_sub _ X (W := mid_W) (forall_writes_sub_of_map rfl) h

/-- From the loops to the call. -/
abbrev keys : List (List (HloOp τ sig (Elt F))) := [hostOps0_2, hostOps0_3, hostOps0_4]
abbrev keys_W : List (Ref sig .tc) :=
    [main_v10, main_v11, main_cst_2, main_v12, main_v13, main_cst_3, main_v14, main_v15, main_v16, main_v17, main_v18,
    main_cst_4, main_v19, main_v20, main_cst_5, main_v21, main_v22, main_v23, main_v24, main_cst_6, main_v25, main_v26,
    main_v27, main_v28, main_v29, main_v30, main_v31, main_v32, main_v33, main_v34, main_v35, main_call4_cst,
    main_call4_v0, main_v36, main_v37, main_v38, main_v39, main_cst_7, main_v40, main_v41, main_cst_8, main_v42,
    main_v43, main_v44, main_v45]
theorem keys_keep (X : Valuation τ sig (Elt F)) {b : Ref sig .tc} (h : b ∉ keys_W) :
    afterL keys X (Proc.devRef .tc b) = X (Proc.devRef .tc b) := by
  rw [afterL_eq_after_flatten]
  exact after_of_writes_sub _ X (W := keys_W) (forall_writes_sub_of_map rfl) h

/-- After the call. -/
abbrev post : List (List (HloOp τ sig (Elt F))) := [hostOps1]
abbrev post_W : List (Ref sig .tc) :=
    [main_v47]
theorem post_keep (X : Valuation τ sig (Elt F)) {b : Ref sig .tc} (h : b ∉ post_W) :
    afterL post X (Proc.devRef .tc b) = X (Proc.devRef .tc b) := by
  rw [afterL_eq_after_flatten]
  exact after_of_writes_sub _ X (W := post_W) (forall_writes_sub_of_map rfl) h

/-- Loop 0: its condition's operations, its body's stretches, and what they write. -/
abbrev cond0 : List (HloOp τ sig (Elt F)) :=
  [nullary main_while0c_c_16 (constantI S_ 32 24#32), binary main_v4_5 main_while0c_c_16 main_while0c_v48 (cmpi .slt)]
abbrev body0 : List (List (HloOp τ sig (Elt F))) := [while0Ops0, while0Ops0_1, while0Ops0_2, while0Ops0_3]
theorem body0_plain : Plain (body0 (F := F)) := .cons while0Ops0_sub <| .cons while0Ops0_1_sub <| .cons while0Ops0_2_sub <| .cons while0Ops0_3_sub .nil
abbrev cond0_W : List (Ref sig .tc) := [main_while0c_c_16, main_while0c_v48]
abbrev body0_W : List (Ref sig .tc) :=
    [main_while0b_call0_c, main_while0b_call0_v0, main_while0b_v48, main_while0b_v49, main_while0b_v50,
    main_while0b_v51, main_while0b_v52, main_while0b_v53, main_while0b_v54, main_while0b_v55, main_while0b_v56,
    main_while0b_v57, main_while0b_v58, main_while0b_v59, main_while0b_v60, main_while0b_v61, main_while0b_cst_16,
    main_while0b_v62, main_while0b_v63, main_while0b_cst_17, main_while0b_v64, main_while0b_v65, main_while0b_v66,
    main_while0b_v67, main_while0b_v68, main_while0b_cst_18, main_while0b_v69, main_while0b_v70, main_while0b_cst_19,
    main_while0b_v71, main_while0b_v72, main_while0b_v73, main_while0b_v74, main_while0b_v75, main_while0b_cst_20,
    main_while0b_v76, main_while0b_v77, main_while0b_v78, main_while0b_v79, main_while0b_v80, main_while0b_call1_v0,
    main_while0b_call1_c, main_while0b_v81, main_while0b_c_21, main_while0b_v82, main_v4_5, main_v4_6, main_v4_7]
theorem cond0_keep (X : Valuation τ sig (Elt F)) {b : Ref sig .tc} (h : b ∉ cond0_W) :
    after cond0 X (Proc.devRef .tc b) = X (Proc.devRef .tc b) :=
  after_of_writes_sub cond0 X (forall_writes_sub_of_map rfl) h
theorem body0_keep (X : Valuation τ sig (Elt F)) {b : Ref sig .tc} (h : b ∉ body0_W) :
    afterL body0 X (Proc.devRef .tc b) = X (Proc.devRef .tc b) := by
  rw [afterL_eq_after_flatten]
  exact after_of_writes_sub _ X (W := body0_W) (forall_writes_sub_of_map rfl) h
/-- A trip raises the counter by 1. -/
theorem body0_counter (X : Valuation τ sig (Elt F)) :
    afterL body0 X (Proc.devRef .tc main_v4_5) = addi (X (Proc.devRef .tc main_v4_5)) (constantI S_ 32 1#32) := by
  simp only [afterL_cons, afterL_nil]
  after_results
  rfl

/-- Loop 1: its condition's operations, its body's stretches, and what they write. -/
abbrev cond1 : List (HloOp τ sig (Elt F)) :=
  [nullary main_while1c_c_16 (constantI S_ 32 24#32), binary main_v9_5 main_while1c_c_16 main_while1c_v48 (cmpi .slt)]
abbrev body1 : List (List (HloOp τ sig (Elt F))) := [while1Ops0, while1Ops0_1, while1Ops0_2, while1Ops0_3]
theorem body1_plain : Plain (body1 (F := F)) := .cons while1Ops0_sub <| .cons while1Ops0_1_sub <| .cons while1Ops0_2_sub <| .cons while1Ops0_3_sub .nil
abbrev cond1_W : List (Ref sig .tc) := [main_while1c_c_16, main_while1c_v48]
abbrev body1_W : List (Ref sig .tc) :=
    [main_while1b_call2_c, main_while1b_call2_v0, main_while1b_v48, main_while1b_v49, main_while1b_v50,
    main_while1b_v51, main_while1b_v52, main_while1b_v53, main_while1b_v54, main_while1b_v55, main_while1b_v56,
    main_while1b_v57, main_while1b_v58, main_while1b_v59, main_while1b_v60, main_while1b_v61, main_while1b_cst_16,
    main_while1b_v62, main_while1b_v63, main_while1b_cst_17, main_while1b_v64, main_while1b_v65, main_while1b_v66,
    main_while1b_v67, main_while1b_v68, main_while1b_cst_18, main_while1b_v69, main_while1b_v70, main_while1b_cst_19,
    main_while1b_v71, main_while1b_v72, main_while1b_v73, main_while1b_v74, main_while1b_v75, main_while1b_cst_20,
    main_while1b_v76, main_while1b_v77, main_while1b_v78, main_while1b_v79, main_while1b_v80, main_while1b_call3_v0,
    main_while1b_call3_c, main_while1b_v81, main_while1b_c_21, main_while1b_v82, main_v9_5, main_v9_6, main_v9_7]
theorem cond1_keep (X : Valuation τ sig (Elt F)) {b : Ref sig .tc} (h : b ∉ cond1_W) :
    after cond1 X (Proc.devRef .tc b) = X (Proc.devRef .tc b) :=
  after_of_writes_sub cond1 X (forall_writes_sub_of_map rfl) h
theorem body1_keep (X : Valuation τ sig (Elt F)) {b : Ref sig .tc} (h : b ∉ body1_W) :
    afterL body1 X (Proc.devRef .tc b) = X (Proc.devRef .tc b) := by
  rw [afterL_eq_after_flatten]
  exact after_of_writes_sub _ X (W := body1_W) (forall_writes_sub_of_map rfl) h
/-- A trip raises the counter by 1. -/
theorem body1_counter (X : Valuation τ sig (Elt F)) :
    afterL body1 X (Proc.devRef .tc main_v9_5) = addi (X (Proc.devRef .tc main_v9_5)) (constantI S_ 32 1#32) := by
  simp only [afterL_cons, afterL_nil]
  after_results
  rfl

/-! ## The contents at each boundary -/

variable (m : (ℓ : Loc nD τ sig) → Buf (Elt F) ℓ)

/-- What rides along with the buffers: the core's `owes`. -/
abbrev Rc (c : Dev nD) : sProp 𝕄 := iprop(∃ W, owes (c : Thread nD τ) (0 : CellTallies nD τ sig Unit) W)

/-- The buffers when loop 0 is entered, before its `k`-th condition, and after it. -/
abbrev Ent0 (c : Dev nD) : Valuation τ sig (Elt F) := afterL pre (launchContents m c)
abbrev At0 (k : ℕ) (c : Dev nD) : Valuation τ sig (Elt F) := atTrip cond0 body0 (Ent0 m) k c
abbrev Ex0 (c : Dev nD) : Valuation τ sig (Elt F) := after cond0 (At0 m 24 c)
theorem Ent0_counter (c : Dev nD) : Ent0 m c (Proc.devRef .tc main_v4_5) = fun _ => (0#32 : BitVec 32) := by
  simp only [Ent0, afterL_cons, afterL_nil]
  after_results
  rfl
/-- Before the `k`-th condition the counter is `k`. -/
theorem At0_counter (c : Dev nD) (k : ℕ) : At0 m k c (Proc.devRef .tc main_v4_5) = fun _ => Scf.iv 0#32 1#32 k :=
  (atTrip_iterate cond0 body0 (Ent0 m) (Proc.devRef .tc main_v4_5) (fun x : IVec S_ 32 => addi x (constantI S_ 32 1#32))
    (fun X => cond0_keep X (by decide)) body0_counter c k).trans
    ((congrArg _ (Ent0_counter m c)).trans (counter_at k))
theorem At0_keep (c : Dev nD) {b : Ref sig .tc} (hc : b ∉ cond0_W) (hb : b ∉ body0_W) (k : ℕ) :
    At0 m k c (Proc.devRef .tc b) = Ent0 m c (Proc.devRef .tc b) :=
  atTrip_keep cond0 body0 (Ent0 m) _ (fun X => cond0_keep X hc) (fun X => body0_keep X hb) c k
theorem cond0_spec : LoopCond (pcfgs (F := F)) defs₀ 𝒱₀ loops Rc (main_while0_cond (F := F)) cond0 body0 (Ent0 m) 24 :=
  loopCond _ _ _ _ _ _ _ _ _ _ _ rfl (by decide) _ (by unfold main_while0_cond; simp only [bind_pure]) _ _ 24 fun k hk c => by
    show IntOp.cmpi .slt ((At0 m k c (Proc.devRef .tc main_v4_5) : IVec S_ 32) HostLoop.idx0) 24#32 = 1#1 ↔ k < 24
    rw [At0_counter m c k]
    exact Scf.cmpi_slt_iv_ub_iff (lb := 0#32) (ub := 24#32) (st := 1#32) (by decide) (show k ≤ Scf.trips 0#32 24#32 1#32 from hk)

/-- The buffers when loop 1 is entered, before its `k`-th condition, and after it. -/
abbrev Ent1 (c : Dev nD) : Valuation τ sig (Elt F) := afterL mid (Ex0 m c)
abbrev At1 (k : ℕ) (c : Dev nD) : Valuation τ sig (Elt F) := atTrip cond1 body1 (Ent1 m) k c
abbrev Ex1 (c : Dev nD) : Valuation τ sig (Elt F) := after cond1 (At1 m 24 c)
theorem Ent1_counter (c : Dev nD) : Ent1 m c (Proc.devRef .tc main_v9_5) = fun _ => (0#32 : BitVec 32) := by
  simp only [Ent1, afterL_cons, afterL_nil]
  after_results
  rfl
/-- Before the `k`-th condition the counter is `k`. -/
theorem At1_counter (c : Dev nD) (k : ℕ) : At1 m k c (Proc.devRef .tc main_v9_5) = fun _ => Scf.iv 0#32 1#32 k :=
  (atTrip_iterate cond1 body1 (Ent1 m) (Proc.devRef .tc main_v9_5) (fun x : IVec S_ 32 => addi x (constantI S_ 32 1#32))
    (fun X => cond1_keep X (by decide)) body1_counter c k).trans
    ((congrArg _ (Ent1_counter m c)).trans (counter_at k))
theorem At1_keep (c : Dev nD) {b : Ref sig .tc} (hc : b ∉ cond1_W) (hb : b ∉ body1_W) (k : ℕ) :
    At1 m k c (Proc.devRef .tc b) = Ent1 m c (Proc.devRef .tc b) :=
  atTrip_keep cond1 body1 (Ent1 m) _ (fun X => cond1_keep X hc) (fun X => body1_keep X hb) c k
theorem cond1_spec : LoopCond (pcfgs (F := F)) defs₀ 𝒱₀ loops Rc (main_while1_cond (F := F)) cond1 body1 (Ent1 m) 24 :=
  loopCond _ _ _ _ _ _ _ _ _ _ _ rfl (by decide) _ (by unfold main_while1_cond; simp only [bind_pure]) _ _ 24 fun k hk c => by
    show IntOp.cmpi .slt ((At1 m k c (Proc.devRef .tc main_v9_5) : IVec S_ 32) HostLoop.idx0) 24#32 = 1#1 ↔ k < 24
    rw [At1_counter m c k]
    exact Scf.cmpi_slt_iv_ub_iff (lb := 0#32) (ub := 24#32) (st := 1#32) (by decide) (show k ≤ Scf.trips 0#32 24#32 1#32 from hk)

/-- The buffers when the call is entered, when it is left, and at the end. -/
abbrev V (c : Dev nD) : Valuation τ sig (Elt F) := afterL keys (Ex1 m c)
abbrev Vp (c : Dev nD) : Valuation τ sig (Elt F) := Function.update (V m c) (Proc.devRef .tc main_v46) (written (fun c b => V m c b) c)
abbrev End (c : Dev nD) : Valuation τ sig (Elt F) := afterL post (Vp m c)

/-- The arguments are written nowhere. -/
theorem Ex0_args (c : Dev nD) : ∀ a ∈ argRefs, Ex0 m c (Proc.devRef .tc a) = m ((c : Thread nD τ).loc a) := fun a ha =>
  (cond0_keep _ ((by decide : ∀ a ∈ argRefs, a ∉ cond0_W) a ha)).trans <|
    (At0_keep m c ((by decide : ∀ a ∈ argRefs, a ∉ cond0_W) a ha) ((by decide : ∀ a ∈ argRefs, a ∉ body0_W) a ha) 24).trans <|
      pre_keep _ ((by decide : ∀ a ∈ argRefs, a ∉ pre_W) a ha)
theorem Ex1_args (c : Dev nD) : ∀ a ∈ argRefs, Ex1 m c (Proc.devRef .tc a) = m ((c : Thread nD τ).loc a) := fun a ha =>
  (cond1_keep _ ((by decide : ∀ a ∈ argRefs, a ∉ cond1_W) a ha)).trans <|
    (At1_keep m c ((by decide : ∀ a ∈ argRefs, a ∉ cond1_W) a ha) ((by decide : ∀ a ∈ argRefs, a ∉ body1_W) a ha) 24).trans <|
      (mid_keep _ ((by decide : ∀ a ∈ argRefs, a ∉ mid_W) a ha)).trans (Ex0_args m c a ha)
theorem V_args (c : Dev nD) : ∀ a ∈ argRefs, V m c (Proc.devRef .tc a) = m ((c : Thread nD τ).loc a) := fun a ha =>
  (keys_keep _ ((by decide : ∀ a ∈ argRefs, a ∉ keys_W) a ha)).trans (Ex1_args m c a ha)
theorem End_args (c : Dev nD) : ∀ a ∈ argRefs, End m c (Proc.devRef .tc a) = m ((c : Thread nD τ).loc a) := fun a ha =>
  (post_keep _ ((by decide : ∀ a ∈ argRefs, a ∉ post_W) a ha)).trans <|
    (Function.update_of_ne (devRef_ne_of_ne ((by decide : ∀ a ∈ argRefs, a ≠ main_v46) a ha)) _ _).trans (V_args m c a ha)

/-! ## The segments -/

section Call

variable (W Wp : Dev nD → Valuation τ sig (Elt F))

/-- The call's one entry: its proof data at the contents it finds. -/
def tk (_ : Fin 1) : Ticket (Ix := Unit) (Name := ℕ) (U := UU) (Lvl := ℕ) (nD := nD) (τ := τ) (pcfgs (F := F)) adm where
  p := 0
  pdats := pdats (fun c b => W c b)
  EP := embL

theorem call_inj : Function.Injective (Pipeline.cellOf (nD := nD) (τ := τ) (Pipeline.pin (pcfgs (F := F)) adm)) := cellOf_inj

/-- The call, entered at `W` and left at `Wp`. -/
def callAt (ho : ∀ c, Wp c main_v46 = written (fun c b => W c b) c) (hn : ∀ c (b : Ref sig .tc), b ≠ main_v46 → Wp c b = W c b) :
    CSeg (pcfgs (F := F)) adm defs₀ 𝒱₀ L lv loops (tk W) :=
  CSeg.region _ _ () call_inj _ _ _ _ _ _ 0 (reg (fun c b => W c b) (fun c b => Wp c b) ho hn)

/-- Into the call and out of it: the held buffers, spelt the launch's way. -/
theorem link_in (ho hn) (c : Dev nD) : iprop(held (c : Thread nD τ) (ucRefs τ sig) (W c) ∗ Rc c) ⊢ (callAt W Wp ho hn).pre c := by
  rw [← Pipeline.unscopedBufs_held c (W c)]
  exact .rfl
theorem link_out (ho hn) (c : Dev nD) : (callAt W Wp ho hn).post c ⊢ iprop(held (c : Thread nD τ) (ucRefs τ sig) (Wp c) ∗ Rc c) := by
  rw [← Pipeline.unscopedBufs_held c (Wp c)]
  exact .rfl

end Call

abbrev Seg : Type 1 := CSeg (pcfgs (F := F)) adm defs₀ 𝒱₀ L lv loops (tk (V m))

/-- A stretch of host operations entered at `W`. -/
abbrev stretch (ops : List (HloOp τ sig (Elt F))) (h : Plain [ops]) (W : Dev nD → Valuation τ sig (Elt F)) : Seg m :=
  CSeg.ofOps _ _ _ _ _ _ _ _ (ucRefs τ sig) ops (fun op hop => sub_ucRefs op ((h ops List.mem_cons_self).1 op hop))
    (h ops List.mem_cons_self).2 W Rc
abbrev loop0 : Seg m := loopSeg _ _ _ _ _ _ _ _ 0 (main_while0_cond (F := F)) (main_while0_body (F := F)) rfl cond0 body0 body0_plain
  (by rw [while0_body_chain]; rfl) 24 (Ent0 m) Rc (cond0_spec m)
abbrev loop1 : Seg m := loopSeg _ _ _ _ _ _ _ _ 1 (main_while1_cond (F := F)) (main_while1_body (F := F)) rfl cond1 body1 body1_plain
  (by rw [while1_body_chain]; rfl) 24 (Ent1 m) Rc (cond1_spec m)

theorem Vp_out (c : Dev nD) : Vp m c main_v46 = written (fun c b => V m c b) c := Function.update_self ..
theorem Vp_ne (c : Dev nD) (b : Ref sig .tc) (h : b ≠ main_v46) : Vp m c b = V m c b := Function.update_of_ne (devRef_ne_of_ne h) _ _
abbrev call : Seg m := callAt (V m) (Vp m) (Vp_out m) (Vp_ne m)

abbrev segs : List (Seg m) :=
  [ stretch m hostOps0 (.cons hostOps0_sub .nil) (launchContents m), loop0 m,
    stretch m hostOps0_1 (.cons hostOps0_1_sub .nil) (Ex0 m), loop1 m,
    stretch m hostOps0_2 (.cons hostOps0_2_sub .nil) (Ex1 m),
    stretch m hostOps0_3 (.cons hostOps0_3_sub .nil) (fun c => after hostOps0_2 (Ex1 m c)),
    stretch m hostOps0_4 (.cons hostOps0_4_sub .nil) (fun c => after hostOps0_3 (after hostOps0_2 (Ex1 m c))),
    call m,
    stretch m hostOps1 (.cons hostOps1_sub .nil) (Vp m) ]

theorem main_run (c : Dev nD) : main (F := F) c = CSeg.runL (segs m) := (main_chain c).trans (by chain_rfl)

/-- Only the call takes the ticket. -/
theorem segs_disjoint : (segs m).Pairwise fun s s' => Disjoint s.T s'.T := by
  have e : ∀ T : Finset (Fin 1), Disjoint (∅ : Finset (Fin 1)) T := fun T => Finset.disjoint_empty_left T
  have e' : ∀ T : Finset (Fin 1), Disjoint T (∅ : Finset (Fin 1)) := fun T => Finset.disjoint_empty_right T
  repeat' first
    | exact List.Pairwise.nil
    | refine List.Pairwise.cons (fun s hs => ?_) ?_
  all_goals first
    | exact e _
    | skip
  all_goals
    simp only [List.mem_singleton] at hs
    subst hs
    exact e' _

/-! ## The run -/

-- the kit's implicit arguments are found by unfolding plain definitions
set_option backward.isDefEq.respectTransparency.types false in
/-- Every weakly fair execution terminates, with every unscoped buffer at `End` and every counter at zero. -/
theorem run_main (g : Dev nD → PrngReg) : θ_run defs (onTc (τ := τ) (main (F := F))) ⟨m, fun _ => 0, g⟩
    (fun r => (∀ (c : Dev nD), ∀ b ∈ ucRefs τ sig, r.2.mem ((c : Dev nD), b) = End m c b) ∧ r.2.sem = fun _ => 0) :=
  Pipeline.θ_run_regions_loop_kit_sems (pcfgs (F := F)) adm call_inj defs₀ 𝒱₀ L lv loops (tk (V m)) m g main (segs m)
    (fun c Q => by rw [main_run m c]) (segs_disjoint m)
    (O₀ := 0) (hL := fun _ _ => rfl) (G := fun _ => iprop(emp))
    (u₀ := (Rounds.initOf (Pipeline.cells (Pipeline.pin (pcfgs (F := F)) adm) call_inj) (Pipeline.launchToks (Pipeline.pin (pcfgs (F := F)) adm) call_inj), 1))
    (hu₀ := by
      iintro Hu
      ihave H := (ownU_pair _ _) $$ Hu
      icases H with ⟨HP, -⟩
      imodintro
      isplitl [HP]
      · rw [show (Finset.univ : Finset (Fin 1)) = {0} from rfl, BI.bigSep_singleton]; iexact HP
      iapply (emp_dealt (nD := nD))
      iempintro)
    (T₀ := fun c => iprop(held (c : Thread nD τ) (ucRefs τ sig) (launchContents m c) ∗ Rc c))
    (Tₙ := fun c => held (c : Thread nD τ) (ucRefs τ sig) (End m c))
    (hch := ⟨fun _ => .rfl, fun _ => .rfl, fun _ => .rfl, fun _ => .rfl, fun _ => .rfl, fun _ => .rfl, fun _ => .rfl, link_in (V m) (Vp m) _ _, link_out (V m) (Vp m) _ _, fun _ => .rfl⟩)
    (hinit := init_held L lv m g)
    (QY := fun c s => ∀ b ∈ ucRefs τ sig, s.mem ((c : Dev nD), b) = End m c b)
    (hfin := fun c s' => read_held c (End m c) s')
    (hQ := fun s h hz => ⟨h, funext fun g => hz g (.inr ((by decide : ∀ sm : SemLoc sig, sm.isScoped .tc = true) g.2))⟩)

/-- THE FRAME, at any float values. -/
theorem frame (g : Dev nD → PrngReg) : θ_run defs (onTc (τ := τ) (main (F := F))) ⟨m, fun _ => 0, g⟩
    (fun r => (∀ c : Dev nD, ∀ a ∈ argRefs, r.2.mem ((c : Thread nD τ).loc a) = m ((c : Thread nD τ).loc a)) ∧ r.2.sem = fun _ => 0) :=
  (θ_run defs _ _).mono (fun _ h => ⟨fun c a ha => (h.1 c _ (devRef_mem_ucRefs a ((by decide : ∀ a ∈ argRefs, (Proc.devRef .tc a : DevRef τ sig).isScoped = false) a ha))).trans (End_args m c a ha), h.2⟩) (run_main m g)

end Cert.KernelIdeal.Run

end
-- ==== Proof.KernelFrame.lean ====
/-
  THE FRAME OF THE KERNEL AS PRINTED. The kernel and its idealization are the same text, so the idealization's frame, proved at any
  float values, is the kernel's.
-/
module

public import proofs.«01_k».proof.Proof.Gen.Kernel
public import proofs.«01_k».proof.Proof.KernelRun

@[expose] public section

set_option maxRecDepth 65536
set_option maxHeartbeats 20000000

noncomputable section

namespace Cert.Kernel.Run

open Idealize.ShloMosaic Idealize.SL.Sem Idealize.ShloMosaic.TcCoe

variable {F : FTy → Type} [FloatOps F]

/-- The same loops. -/
theorem loops_eq : @Cert.Kernel.loops F _ Cert.Kernel.Gen.facts = @Cert.KernelIdeal.loops F _ Cert.KernelIdeal.Gen.facts := by
  funext i
  match i with
  | 0 => rfl
  | 1 => rfl

/-- The same call body. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) => rfl

/-- The same body table. -/
theorem defs_eq : @Cert.Kernel.defs F _ Cert.Kernel.Gen.facts = @Cert.KernelIdeal.defs F _ Cert.KernelIdeal.Gen.facts := by
  unfold Cert.Kernel.defs Cert.KernelIdeal.defs
  exact congrArg₂ (fun a b => HostLoop.defs a (Pipeline.defs Cert.KernelIdeal.pcfgs b)) loops_eq bodies_eq

/-- The same host program. -/
theorem main_eq : @Cert.Kernel.main F _ Cert.Kernel.Gen.facts = @Cert.KernelIdeal.main F _ Cert.KernelIdeal.Gen.facts := rfl

/-- The arguments. -/
abbrev argRefs : List (Ref Cert.Kernel.sig .tc) := [Cert.Kernel.main_arg0, Cert.Kernel.main_arg1, Cert.Kernel.main_arg2, Cert.Kernel.main_arg3,
  Cert.Kernel.main_arg4, Cert.Kernel.main_arg5, Cert.Kernel.main_arg6, Cert.Kernel.main_arg7, Cert.Kernel.main_arg8, Cert.Kernel.main_arg9,
  Cert.Kernel.main_arg10, Cert.Kernel.main_arg11, Cert.Kernel.main_arg12, Cert.Kernel.main_arg13]

/-- THE FRAME, at any float values. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD, ∀ a ∈ argRefs, r.2.mem ((c : Thread Cert.Kernel.nD Cert.Kernel.τ).loc a)
        = m ((c : Thread Cert.Kernel.nD Cert.Kernel.τ).loc a)) ∧ r.2.sem = fun _ => 0) := by
  rw [defs_eq, main_eq]
  exact Cert.KernelIdeal.Run.frame (F := F) m g

end Cert.Kernel.Run

end
-- ==== Proof.Stretches.lean ====
/-
  The reference's host operations as lists, in order, and `main` and the two loop bodies as chains of those lists.
-/
module

public import proofs.«01_k».proof.Proof.Gen.ReferenceIdeal
public import Idealize.ShloMosaic.Lib.Pipeline.Kit
public import Idealize.ShloMosaic.Lib.Pipeline.Regions

@[expose] public section

set_option maxRecDepth 16384

noncomputable section

namespace Cert.ReferenceIdeal.Stretches

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Host operations, in order: @main. -/
abbrev hostOps0 : List (HloOp τ sig (Elt F)) :=
  [ StableHlo.reshape main_arg1 main_v0 (rfl : (.f32 : EltTy) = .f32) shapeCasts_S24x1x64_S24x64,
    StableHlo.unary main_arg2 main_v1 ((extractStridedSlice S1x1x128 ![0, 0, 0] · slices_S2x1x128_S1x1x128_0_0_0) : (⟨S2x1x128, .f32⟩ : BufTy).Contents (Elt F) → (⟨S1x1x128, .f32⟩ : BufTy).Contents (Elt F)),
    StableHlo.reshape main_v1 main_v2 (rfl : (.f32 : EltTy) = .f32) shapeCasts_S1x1x128_S128,
    StableHlo.nullary main_cst (constant S_ .f32 0x00000000#32),
    StableHlo.unary main_cst main_v3 (broadcastInDim S24x128 ![] bcast_S_S24x128 : (⟨S_, .f32⟩ : BufTy).Contents (Elt F) → (⟨S24x128, .f32⟩ : BufTy).Contents (Elt F)),
    StableHlo.nullary main_c (constantI S_ 32 0#32),
    StableHlo.unary main_v0 main_v4_0 id,
    StableHlo.unary main_arg3 main_v4_1 id,
    StableHlo.unary main_arg5 main_v4_2 id,
    StableHlo.unary main_arg4 main_v4_3 id,
    StableHlo.unary main_arg6 main_v4_4 id,
    StableHlo.unary main_c main_v4_5 id,
    StableHlo.unary main_v2 main_v4_6 id,
    StableHlo.unary main_v3 main_v4_7 id ]
theorem hostOps0_sub : (hostOps0 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, in order: @main. -/
abbrev hostOps0_1 : List (HloOp τ sig (Elt F)) :=
  [ StableHlo.unary main_v0 main_v5 (Host.reverse [0] : (⟨S24x64, .f32⟩ : BufTy).Contents (Elt F) → (⟨S24x64, .f32⟩ : BufTy).Contents (Elt F)),
    StableHlo.unary main_arg2 main_v6 ((extractStridedSlice S1x1x128 ![1, 0, 0] · slices_S2x1x128_S1x1x128_1_0_0) : (⟨S2x1x128, .f32⟩ : BufTy).Contents (Elt F) → (⟨S1x1x128, .f32⟩ : BufTy).Contents (Elt F)),
    StableHlo.reshape main_v6 main_v7 (rfl : (.f32 : EltTy) = .f32) shapeCasts_S1x1x128_S128,
    StableHlo.nullary main_cst_0 (constant S_ .f32 0x00000000#32),
    StableHlo.unary main_cst_0 main_v8 (broadcastInDim S24x128 ![] bcast_S_S24x128 : (⟨S_, .f32⟩ : BufTy).Contents (Elt F) → (⟨S24x128, .f32⟩ : BufTy).Contents (Elt F)),
    StableHlo.nullary main_c_1 (constantI S_ 32 0#32),
    StableHlo.unary main_v5 main_v9_0 id,
    StableHlo.unary main_arg7 main_v9_1 id,
    StableHlo.unary main_arg9 main_v9_2 id,
    StableHlo.unary main_arg8 main_v9_3 id,
    StableHlo.unary main_arg10 main_v9_4 id,
    StableHlo.unary main_c_1 main_v9_5 id,
    StableHlo.unary main_v7 main_v9_6 id,
    StableHlo.unary main_v8 main_v9_7 id ]
theorem hostOps0_1_sub : (hostOps0_1 : List (HloOp τ sig (Elt F))).Forall fun op => op.bufs ⊆ StableHlo.tcRefs τ sig :=
  ⟨StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, in order: @main. -/
abbrev hostOps0_2 : List (HloOp τ sig (Elt F)) :=
  [ StableHlo.unary main_v9_7 main_v10 (Host.reverse [0] : (⟨S24x128, .f32⟩ : BufTy).Contents (Elt F) → (⟨S24x128, .f32⟩ : BufTy).Contents (Elt F)),
    StableHlo.binary main_v4_7 main_v10 main_v11 ((fun a b => concatenate S24x256 1 [⟨S24x128, a⟩, ⟨S24x128, b⟩] concatenates_S24x128_S24x128_S24x256_d1) : (⟨S24x128, .f32⟩ : BufTy).Contents (Elt F) → (⟨S24x128, .f32⟩ : BufTy).Contents (Elt F) → (⟨S24x256, .f32⟩ : BufTy).Contents (Elt F)),
    StableHlo.nullary main_cst_2 (constant S_ .f32 0x00000000#32),
    StableHlo.binary main_v11 main_cst_2 main_v12 ((fun x v => Host.reduceAdd x v reducesTo_S24x256_S24_d1 h_S_) : (⟨S24x256, .f32⟩ : BufTy).Contents (Elt F) → (⟨S_, .f32⟩ : BufTy).Contents (Elt F) → (⟨S24, .f32⟩ : BufTy).Contents (Elt F)),
    StableHlo.unary main_v12 main_v13 (broadcastInDim S24x1 ![0] bcast_S24_S24x1_0 : (⟨S24, .f32⟩ : BufTy).Contents (Elt F) → (⟨S24x1, .f32⟩ : BufTy).Contents (Elt F)),
    StableHlo.nullary main_cst_3 (constant S_ .f32 0x43800000#32),
    StableHlo.unary main_cst_3 main_v14 (broadcastInDim S24x1 ![] bcast_S_S24x1 : (⟨S_, .f32⟩ : BufTy).Contents (Elt F) → (⟨S24x1, .f32⟩ : BufTy).Contents (Elt F)),
    StableHlo.binary main_v13 main_v14 main_v15 (Host.divf : (⟨S24x1, .f32⟩ : BufTy).Contents (Elt F) → (⟨S24x1, .f32⟩ : BufTy).Contents (Elt F) → (⟨S24x1, .f32⟩ : BufTy).Contents (Elt F)),
    StableHlo.unary main_v15 main_v16 (broadcastInDim S24x256 ![0, 1] bcast_S24x1_S24x256_0_1 : (⟨S24x1, .f32⟩ : BufTy).Contents (Elt F) → (⟨S24x256, .f32⟩ : BufTy).Contents (Elt F)),
    StableHlo.binary main_v11 main_v16 main_v17 (subf : (⟨S24x256, .f32⟩ : BufTy).Contents (Elt F) → (⟨S24x256, .f32⟩ : BufTy).Contents (Elt F) → (⟨S24x256, .f32⟩ : BufTy).Contents (Elt F)),
    StableHlo.binary main_v17 main_v17 main_v18 (mulf : (⟨S24x256, .f32⟩ : BufTy).Contents (Elt F) → (⟨S24x256, .f32⟩ : BufTy).Contents (Elt F) → (⟨S24x256, .f32⟩ : BufTy).Contents (Elt F)),
    StableHlo.nullary main_cst_4 (constant S_ .f32 0x00000000#32),
    StableHlo.binary main_v18 main_cst_4 main_v19 ((fun x v => Host.reduceAdd x v reducesTo_S24x256_S24_d1 h_S_) : (⟨S24x256, .f32⟩ : BufTy).Contents (Elt F) → (⟨S_, .f32⟩ : BufTy).Contents (Elt F) → (⟨S24, .f32⟩ : BufTy).Contents (Elt F)),
    StableHlo.unary main_v19 main_v20 (broadcastInDim S24x1 ![0] bcast_S24_S24x1_0 : (⟨S24, .f32⟩ : BufTy).Contents (Elt F) → (⟨S24x1, .f32⟩ : BufTy).Contents (Elt F)),
    StableHlo.nullary main_cst_5 (constant S_ .f32 0x43800000#32),
    StableHlo.unary main_cst_5 main_v21 (broadcastInDim S24x1 ![] bcast_S_S24x1 : (⟨S_, .f32⟩ : BufTy).Contents (Elt F) → (⟨S24x1, .f32⟩ : BufTy).Contents (Elt F)),
    StableHlo.binary main_v20 main_v21 main_v22 (Host.divf : (⟨S24x1, .f32⟩ : BufTy).Contents (Elt F) → (⟨S24x1, .f32⟩ : BufTy).Contents (Elt F) → (⟨S24x1, .f32⟩ : BufTy).Contents (Elt F)),
    StableHlo.unary main_v15 main_v23 (broadcastInDim S24x256 ![0, 1] bcast_S24x1_S24x256_0_1 : (⟨S24x1, .f32⟩ : BufTy).Contents (Elt F) → (⟨S24x256, .f32⟩ : BufTy).Contents (Elt F)),
    StableHlo.binary main_v11 main_v23 main_v24 (subf : (⟨S24x256, .f32⟩ : BufTy).Contents (Elt F) → (⟨S24x256, .f32⟩ : BufTy).Contents (Elt F) → (⟨S24x256, .f32⟩ : BufTy).Contents (Elt F)),
    StableHlo.nullary main_cst_6 (constant S_ .f32 0x3727C5AC#32),
    StableHlo.unary main_cst_6 main_v25 (broadcastInDim S24x1 ![] bcast_S_S24x1 : (⟨S_, .f32⟩ : BufTy).Contents (Elt F) → (⟨S24x1, .f32⟩ : BufTy).Contents (Elt F)),
    StableHlo.binary main_v22 main_v25 main_v26 (addf : (⟨S24x1, .f32⟩ : BufTy).Contents (Elt F) → (⟨S24x1, .f32⟩ : BufTy).Contents (Elt F) → (⟨S24x1, .f32⟩ : BufTy).Contents (Elt F)),
    StableHlo.unary main_v26 main_v27 (Host.sqrt : (⟨S24x1, .f32⟩ : BufTy).Contents (Elt F) → (⟨S24x1, .f32⟩ : BufTy).Contents (Elt F)),
    StableHlo.unary main_v27 main_v28 (broadcastInDim S24x256 ![0, 1] bcast_S24x1_S24x256_0_1 : (⟨S24x1, .f32⟩ : BufTy).Contents (Elt F) → (⟨S24x256, .f32⟩ : BufTy).Contents (Elt F)),
    StableHlo.binary main_v24 main_v28 main_v29 (Host.divf : (⟨S24x256, .f32⟩ : BufTy).Contents (Elt F) → (⟨S24x256, .f32⟩ : BufTy).Contents (Elt F) → (⟨S24x256, .f32⟩ : BufTy).Contents (Elt F)),
    StableHlo.unary main_arg11 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S24x256 ![0, 1] bcast_S1x256_S24x256_0_1 : (⟨S1x256, .f32⟩ : BufTy).Contents (Elt F) → (⟨S24x256, .f32⟩ : BufTy).Contents (Elt F)),
    StableHlo.binary main_v29 main_v31 main_v32 (mulf : (⟨S24x256, .f32⟩ : BufTy).Contents (Elt F) → (⟨S24x256, .f32⟩ : BufTy).Contents (Elt F) → (⟨S24x256, .f32⟩ : BufTy).Contents (Elt F)),
    StableHlo.unary main_arg12 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S24x256 ![0, 1] bcast_S1x256_S24x256_0_1 : (⟨S1x256, .f32⟩ : BufTy).Contents (Elt F) → (⟨S24x256, .f32⟩ : BufTy).Contents (Elt F)),
    StableHlo.binary main_v32 main_v34 main_v35 (addf : (⟨S24x256, .f32⟩ : BufTy).Contents (Elt F) → (⟨S24x256, .f32⟩ : BufTy).Contents (Elt F) → (⟨S24x256, .f32⟩ : BufTy).Contents (Elt F)) ]
theorem hostOps0_2_sub : (hostOps0_2 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- Host operations, in order: @relu (main_call4). -/
abbrev hostOps0_3 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S24x256, .f32⟩) (broadcastInDim S24x256 ![] bcast_S_S24x256),
    StableHlo.TRef.binary (.of main_v35 : StableHlo.TRef sig ⟨S24x256, .f32⟩) (.of main_call4_v0 : StableHlo.TRef sig ⟨S24x256, .f32⟩) (.of main_v36 : StableHlo.TRef sig ⟨S24x256, .f32⟩) maximumf ]
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub ..⟩
/-- Host operations, in order: @main. -/
abbrev hostOps0_4 : List (HloOp τ sig (Elt F)) :=
  [ StableHlo.binary main_arg13 main_v36 main_v37 ((fun l r => Host.dotGeneral dot_S24x1024x256_S24x256_S24x1024_2_1_1_n_0_0 none l r) : (⟨S24x1024x256, .f32⟩ : BufTy).Contents (Elt F) → (⟨S24x256, .f32⟩ : BufTy).Contents (Elt F) → (⟨S24x1024, .f32⟩ : BufTy).Contents (Elt F)),
    StableHlo.unary main_v37 main_v38 (Host.negf : (⟨S24x1024, .f32⟩ : BufTy).Contents (Elt F) → (⟨S24x1024, .f32⟩ : BufTy).Contents (Elt F)),
    StableHlo.unary main_v38 main_v39 (Host.exp : (⟨S24x1024, .f32⟩ : BufTy).Contents (Elt F) → (⟨S24x1024, .f32⟩ : BufTy).Contents (Elt F)),
    StableHlo.nullary main_cst_7 (constant S_ .f32 0x3F800000#32),
    StableHlo.unary main_cst_7 main_v40 (broadcastInDim S24x1024 ![] bcast_S_S24x1024 : (⟨S_, .f32⟩ : BufTy).Contents (Elt F) → (⟨S24x1024, .f32⟩ : BufTy).Contents (Elt F)),
    StableHlo.binary main_v40 main_v39 main_v41 (addf : (⟨S24x1024, .f32⟩ : BufTy).Contents (Elt F) → (⟨S24x1024, .f32⟩ : BufTy).Contents (Elt F) → (⟨S24x1024, .f32⟩ : BufTy).Contents (Elt F)),
    StableHlo.nullary main_cst_8 (constant S_ .f32 0x3F800000#32),
    StableHlo.unary main_cst_8 main_v42 (broadcastInDim S24x1024 ![] bcast_S_S24x1024 : (⟨S_, .f32⟩ : BufTy).Contents (Elt F) → (⟨S24x1024, .f32⟩ : BufTy).Contents (Elt F)),
    StableHlo.binary main_v42 main_v41 main_v43 (Host.divf : (⟨S24x1024, .f32⟩ : BufTy).Contents (Elt F) → (⟨S24x1024, .f32⟩ : BufTy).Contents (Elt F) → (⟨S24x1024, .f32⟩ : BufTy).Contents (Elt F)),
    StableHlo.nullary main_v44 (sitofp .f32 (iotaInDim S1024 32 0)),
    StableHlo.unary main_v43 main_v45 (Host.negf : (⟨S24x1024, .f32⟩ : BufTy).Contents (Elt F) → (⟨S24x1024, .f32⟩ : BufTy).Contents (Elt F)) ]
theorem hostOps0_4_sub : (hostOps0_4 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
/-- Host operations, in order: @argsort (main_call5). -/
abbrev hostOps0_5 : List (HloOp τ sig (Elt F)) :=
  [ StableHlo.TRef.nullary (.of main_call5_v0 : StableHlo.TRef sig ⟨S1024, .i32⟩) (iotaInDim S1024 32 0),
    StableHlo.TRef.unary (.of main_call5_v0 : StableHlo.TRef sig ⟨S1024, .i32⟩) (.of main_call5_v1 : StableHlo.TRef sig ⟨S24x1024, .i32⟩) (broadcastInDim S24x1024 ![1] bcast_S1024_S24x1024_1),
    StableHlo.TRef.binary (.of main_v45 : StableHlo.TRef sig ⟨S24x1024, .f32⟩) (.of main_call5_v1 : StableHlo.TRef sig ⟨S24x1024, .i32⟩) (.of main_call5_v2_0 : StableHlo.TRef sig ⟨S24x1024, .f32⟩) (fun x y => (Host.sort2 S24x1024 1 comparator_f32_i32_d1 x y).1),
    StableHlo.TRef.binary (.of main_v45 : StableHlo.TRef sig ⟨S24x1024, .f32⟩) (.of main_call5_v1 : StableHlo.TRef sig ⟨S24x1024, .i32⟩) (.of main_v46 : StableHlo.TRef sig ⟨S24x1024, .i32⟩) (fun x y => (Host.sort2 S24x1024 1 comparator_f32_i32_d1 x y).2) ]
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @argsort_0 (main_call6). -/
abbrev hostOps0_6 : List (HloOp τ sig (Elt F)) :=
  [ StableHlo.TRef.nullary (.of main_call6_v0 : StableHlo.TRef sig ⟨S1024, .i32⟩) (iotaInDim S1024 32 0),
    StableHlo.TRef.unary (.of main_call6_v0 : StableHlo.TRef sig ⟨S1024, .i32⟩) (.of main_call6_v1 : StableHlo.TRef sig ⟨S24x1024, .i32⟩) (broadcastInDim S24x1024 ![1] bcast_S1024_S24x1024_1),
    StableHlo.TRef.binary (.of main_v46 : StableHlo.TRef sig ⟨S24x1024, .i32⟩) (.of main_call6_v1 : StableHlo.TRef sig ⟨S24x1024, .i32⟩) (.of main_call6_v2_0 : StableHlo.TRef sig ⟨S24x1024, .i32⟩) (fun x y => (Host.sort2 S24x1024 1 comparator_i32_i32_d1 x y).1),
    StableHlo.TRef.binary (.of main_v46 : StableHlo.TRef sig ⟨S24x1024, .i32⟩) (.of main_call6_v1 : StableHlo.TRef sig ⟨S24x1024, .i32⟩) (.of main_v47 : StableHlo.TRef sig ⟨S24x1024, .i32⟩) (fun x y => (Host.sort2 S24x1024 1 comparator_i32_i32_d1 x y).2) ]
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @main. -/
abbrev hostOps0_7 : List (HloOp τ sig (Elt F)) :=
  [ StableHlo.nullary main_c_9 (constantI S_ 32 0#32),
    StableHlo.unary main_c_9 main_v48 (broadcastInDim S24x1024 ![] bcast_S_S24x1024 : (⟨S_, .i32⟩ : BufTy).Contents (Elt F) → (⟨S24x1024, .i32⟩ : BufTy).Contents (Elt F)),
    StableHlo.binary main_v47 main_v48 main_v49 (cmpi .slt : (⟨S24x1024, .i32⟩ : BufTy).Contents (Elt F) → (⟨S24x1024, .i32⟩ : BufTy).Contents (Elt F) → (⟨S24x1024, .i1⟩ : BufTy).Contents (Elt F)),
    StableHlo.nullary main_c_10 (constantI S_ 32 1024#32),
    StableHlo.unary main_c_10 main_v50 (broadcastInDim S24x1024 ![] bcast_S_S24x1024 : (⟨S_, .i32⟩ : BufTy).Contents (Elt F) → (⟨S24x1024, .i32⟩ : BufTy).Contents (Elt F)),
    StableHlo.binary main_v47 main_v50 main_v51 (addi : (⟨S24x1024, .i32⟩ : BufTy).Contents (Elt F) → (⟨S24x1024, .i32⟩ : BufTy).Contents (Elt F) → (⟨S24x1024, .i32⟩ : BufTy).Contents (Elt F)),
    StableHlo.ternary main_v49 main_v51 main_v47 main_v52 (select : (⟨S24x1024, .i1⟩ : BufTy).Contents (Elt F) → (⟨S24x1024, .i32⟩ : BufTy).Contents (Elt F) → (⟨S24x1024, .i32⟩ : BufTy).Contents (Elt F) → (⟨S24x1024, .i32⟩ : BufTy).Contents (Elt F)),
    StableHlo.unary main_v52 main_v53 (broadcastInDim S24x1024x1 ![0, 1] bcast_S24x1024_S24x1024x1_0_1 : (⟨S24x1024, .i32⟩ : BufTy).Contents (Elt F) → (⟨S24x1024x1, .i32⟩ : BufTy).Contents (Elt F)),
    StableHlo.binary main_arg0 main_v53 main_v54 ((fun x i => Host.gather gather_S24x1024_S24x1024x1_S24x1024_n_1_0_0_1_2_11 x i) : (⟨S24x1024, .f32⟩ : BufTy).Contents (Elt F) → (⟨S24x1024x1, .i32⟩ : BufTy).Contents (Elt F) → (⟨S24x1024, .f32⟩ : BufTy).Contents (Elt F)) ]
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- Host operations, in order: @argsort (main_call7). -/
abbrev hostOps0_8 : List (HloOp τ sig (Elt F)) :=
  [ StableHlo.TRef.nullary (.of main_call7_v0 : StableHlo.TRef sig ⟨S1024, .i32⟩) (iotaInDim S1024 32 0),
    StableHlo.TRef.unary (.of main_call7_v0 : StableHlo.TRef sig ⟨S1024, .i32⟩) (.of main_call7_v1 : StableHlo.TRef sig ⟨S24x1024, .i32⟩) (broadcastInDim S24x1024 ![1] bcast_S1024_S24x1024_1),
    StableHlo.TRef.binary (.of main_v43 : StableHlo.TRef sig ⟨S24x1024, .f32⟩) (.of main_call7_v1 : StableHlo.TRef sig ⟨S24x1024, .i32⟩) (.of main_call7_v2_0 : StableHlo.TRef sig ⟨S24x1024, .f32⟩) (fun x y => (Host.sort2 S24x1024 1 comparator_f32_i32_d1 x y).1),
    StableHlo.TRef.binary (.of main_v43 : StableHlo.TRef sig ⟨S24x1024, .f32⟩) (.of main_call7_v1 : StableHlo.TRef sig ⟨S24x1024, .i32⟩) (.of main_v55 : StableHlo.TRef sig ⟨S24x1024, .i32⟩) (fun x y => (Host.sort2 S24x1024 1 comparator_f32_i32_d1 x y).2) ]
theorem hostOps0_8_sub : (hostOps0_8 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @argsort_0 (main_call8). -/
abbrev hostOps0_9 : List (HloOp τ sig (Elt F)) :=
  [ StableHlo.TRef.nullary (.of main_call8_v0 : StableHlo.TRef sig ⟨S1024, .i32⟩) (iotaInDim S1024 32 0),
    StableHlo.TRef.unary (.of main_call8_v0 : StableHlo.TRef sig ⟨S1024, .i32⟩) (.of main_call8_v1 : StableHlo.TRef sig ⟨S24x1024, .i32⟩) (broadcastInDim S24x1024 ![1] bcast_S1024_S24x1024_1),
    StableHlo.TRef.binary (.of main_v55 : StableHlo.TRef sig ⟨S24x1024, .i32⟩) (.of main_call8_v1 : StableHlo.TRef sig ⟨S24x1024, .i32⟩) (.of main_call8_v2_0 : StableHlo.TRef sig ⟨S24x1024, .i32⟩) (fun x y => (Host.sort2 S24x1024 1 comparator_i32_i32_d1 x y).1),
    StableHlo.TRef.binary (.of main_v55 : StableHlo.TRef sig ⟨S24x1024, .i32⟩) (.of main_call8_v1 : StableHlo.TRef sig ⟨S24x1024, .i32⟩) (.of main_v56 : StableHlo.TRef sig ⟨S24x1024, .i32⟩) (fun x y => (Host.sort2 S24x1024 1 comparator_i32_i32_d1 x y).2) ]
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @main. -/
abbrev hostOps0_10 : List (HloOp τ sig (Elt F)) :=
  [ StableHlo.unary main_v56 main_v57 (sitofp .f32 : (⟨S24x1024, .i32⟩ : BufTy).Contents (Elt F) → (⟨S24x1024, .f32⟩ : BufTy).Contents (Elt F)),
    StableHlo.unary main_v44 main_v58 (broadcastInDim S1x1024 ![1] bcast_S1024_S1x1024_1 : (⟨S1024, .f32⟩ : BufTy).Contents (Elt F) → (⟨S1x1024, .f32⟩ : BufTy).Contents (Elt F)),
    StableHlo.unary main_v57 main_v59 (broadcastInDim S24x1024x1 ![0, 1] bcast_S24x1024_S24x1024x1_0_1 : (⟨S24x1024, .f32⟩ : BufTy).Contents (Elt F) → (⟨S24x1024x1, .f32⟩ : BufTy).Contents (Elt F)),
    StableHlo.unary main_v58 main_v60 (broadcastInDim S1x1x1024 ![1, 2] bcast_S1x1024_S1x1x1024_1_2 : (⟨S1x1024, .f32⟩ : BufTy).Contents (Elt F) → (⟨S1x1x1024, .f32⟩ : BufTy).Contents (Elt F)),
    StableHlo.unary main_v60 main_v61 (broadcastInDim S24x1024x1024 ![0, 1, 2] bcast_S1x1x1024_S24x1024x1024_0_1_2 : (⟨S1x1x1024, .f32⟩ : BufTy).Contents (Elt F) → (⟨S24x1024x1024, .f32⟩ : BufTy).Contents (Elt F)),
    StableHlo.unary main_v59 main_v62 (broadcastInDim S24x1024x1024 ![0, 1, 2] bcast_S24x1024x1_S24x1024x1024_0_1_2 : (⟨S24x1024x1, .f32⟩ : BufTy).Contents (Elt F) → (⟨S24x1024x1024, .f32⟩ : BufTy).Contents (Elt F)),
    StableHlo.binary main_v61 main_v62 main_v63 (subf : (⟨S24x1024x1024, .f32⟩ : BufTy).Contents (Elt F) → (⟨S24x1024x1024, .f32⟩ : BufTy).Contents (Elt F) → (⟨S24x1024x1024, .f32⟩ : BufTy).Contents (Elt F)),
    StableHlo.unary main_v63 main_v64 (Host.absf : (⟨S24x1024x1024, .f32⟩ : BufTy).Contents (Elt F) → (⟨S24x1024x1024, .f32⟩ : BufTy).Contents (Elt F)),
    StableHlo.nullary main_cst_11 (constant S_ .f32 0x40A00000#32),
    StableHlo.unary main_cst_11 main_v65 (broadcastInDim S24x1024x1024 ![] bcast_S_S24x1024x1024 : (⟨S_, .f32⟩ : BufTy).Contents (Elt F) → (⟨S24x1024x1024, .f32⟩ : BufTy).Contents (Elt F)),
    StableHlo.binary main_v64 main_v65 main_v66 (cmpf .ole : (⟨S24x1024x1024, .f32⟩ : BufTy).Contents (Elt F) → (⟨S24x1024x1024, .f32⟩ : BufTy).Contents (Elt F) → (⟨S24x1024x1024, .i1⟩ : BufTy).Contents (Elt F)),
    StableHlo.binary main_v63 main_v63 main_v67 (mulf : (⟨S24x1024x1024, .f32⟩ : BufTy).Contents (Elt F) → (⟨S24x1024x1024, .f32⟩ : BufTy).Contents (Elt F) → (⟨S24x1024x1024, .f32⟩ : BufTy).Contents (Elt F)),
    StableHlo.unary main_v67 main_v68 (Host.negf : (⟨S24x1024x1024, .f32⟩ : BufTy).Contents (Elt F) → (⟨S24x1024x1024, .f32⟩ : BufTy).Contents (Elt F)),
    StableHlo.unary main_v68 main_v69 (Host.exp : (⟨S24x1024x1024, .f32⟩ : BufTy).Contents (Elt F) → (⟨S24x1024x1024, .f32⟩ : BufTy).Contents (Elt F)),
    StableHlo.nullary main_cst_12 (constant S_ .f32 0x00000000#32) ]
theorem hostOps0_10_sub : (hostOps0_10 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub ..⟩
/-- Host operations, in order: @_where (main_call9). -/
abbrev hostOps0_11 : List (HloOp τ sig (Elt F)) :=
  [ StableHlo.TRef.unary (.of main_cst_12 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S1024x1024, .f32⟩) (broadcastInDim S1024x1024 ![] bcast_S_S1024x1024),
    StableHlo.TRef.unary (.of main_call9_v1 : StableHlo.TRef sig ⟨S1024x1024, .f32⟩) (.of main_call9_v2 : StableHlo.TRef sig ⟨S24x1024x1024, .f32⟩) (broadcastInDim S24x1024x1024 ![1, 2] bcast_S1024x1024_S24x1024x1024_1_2),
    StableHlo.TRef.ternary (.of main_v66 : StableHlo.TRef sig ⟨S24x1024x1024, .i1⟩) (.of main_v69 : StableHlo.TRef sig ⟨S24x1024x1024, .f32⟩) (.of main_call9_v2 : StableHlo.TRef sig ⟨S24x1024x1024, .f32⟩) (.of main_v70 : StableHlo.TRef sig ⟨S24x1024x1024, .f32⟩) select ]
theorem hostOps0_11_sub : (hostOps0_11 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- Host operations, in order: @main. -/
abbrev hostOps0_12 : List (HloOp τ sig (Elt F)) :=
  [ StableHlo.nullary main_cst_13 (constant S_ .f32 0x00000000#32),
    StableHlo.binary main_v70 main_cst_13 main_v71 ((fun x v => Host.reduceAdd x v reducesTo_S24x1024x1024_S24x1024_d2 h_S_) : (⟨S24x1024x1024, .f32⟩ : BufTy).Contents (Elt F) → (⟨S_, .f32⟩ : BufTy).Contents (Elt F) → (⟨S24x1024, .f32⟩ : BufTy).Contents (Elt F)),
    StableHlo.unary main_v71 main_v72 (broadcastInDim S24x1024x1 ![0, 1] bcast_S24x1024_S24x1024x1_0_1 : (⟨S24x1024, .f32⟩ : BufTy).Contents (Elt F) → (⟨S24x1024x1, .f32⟩ : BufTy).Contents (Elt F)),
    StableHlo.unary main_v72 main_v73 (broadcastInDim S24x1024x1024 ![0, 1, 2] bcast_S24x1024x1_S24x1024x1024_0_1_2 : (⟨S24x1024x1, .f32⟩ : BufTy).Contents (Elt F) → (⟨S24x1024x1024, .f32⟩ : BufTy).Contents (Elt F)),
    StableHlo.binary main_v70 main_v73 main_v74 (Host.divf : (⟨S24x1024x1024, .f32⟩ : BufTy).Contents (Elt F) → (⟨S24x1024x1024, .f32⟩ : BufTy).Contents (Elt F) → (⟨S24x1024x1024, .f32⟩ : BufTy).Contents (Elt F)),
    StableHlo.unary main_v54 main_v75 (broadcastInDim S24x1x1024 ![0, 2] bcast_S24x1024_S24x1x1024_0_2 : (⟨S24x1024, .f32⟩ : BufTy).Contents (Elt F) → (⟨S24x1x1024, .f32⟩ : BufTy).Contents (Elt F)),
    StableHlo.unary main_v75 main_v76 (broadcastInDim S24x1024x1024 ![0, 1, 2] bcast_S24x1x1024_S24x1024x1024_0_1_2 : (⟨S24x1x1024, .f32⟩ : BufTy).Contents (Elt F) → (⟨S24x1024x1024, .f32⟩ : BufTy).Contents (Elt F)),
    StableHlo.binary main_v74 main_v76 main_v77 (mulf : (⟨S24x1024x1024, .f32⟩ : BufTy).Contents (Elt F) → (⟨S24x1024x1024, .f32⟩ : BufTy).Contents (Elt F) → (⟨S24x1024x1024, .f32⟩ : BufTy).Contents (Elt F)),
    StableHlo.nullary main_cst_14 (constant S_ .f32 0x00000000#32),
    StableHlo.binary main_v77 main_cst_14 main_v78 ((fun x v => Host.reduceAdd x v reducesTo_S24x1024x1024_S24x1024_d2 h_S_) : (⟨S24x1024x1024, .f32⟩ : BufTy).Contents (Elt F) → (⟨S_, .f32⟩ : BufTy).Contents (Elt F) → (⟨S24x1024, .f32⟩ : BufTy).Contents (Elt F)),
    StableHlo.nullary main_cst_15 (constant S_ .f32 0x3F000000#32),
    StableHlo.unary main_cst_15 main_v79 (broadcastInDim S24x1024 ![] bcast_S_S24x1024 : (⟨S_, .f32⟩ : BufTy).Contents (Elt F) → (⟨S24x1024, .f32⟩ : BufTy).Contents (Elt F)),
    StableHlo.binary main_v78 main_v79 main_v80 (cmpf .oge : (⟨S24x1024, .f32⟩ : BufTy).Contents (Elt F) → (⟨S24x1024, .f32⟩ : BufTy).Contents (Elt F) → (⟨S24x1024, .i1⟩ : BufTy).Contents (Elt F)),
    StableHlo.unary main_v80 main_v81 (uitofp .f32 : (⟨S24x1024, .i1⟩ : BufTy).Contents (Elt F) → (⟨S24x1024, .f32⟩ : BufTy).Contents (Elt F)),
    StableHlo.binary main_v78 main_v81 main_v82 (subf : (⟨S24x1024, .f32⟩ : BufTy).Contents (Elt F) → (⟨S24x1024, .f32⟩ : BufTy).Contents (Elt F) → (⟨S24x1024, .f32⟩ : BufTy).Contents (Elt F)),
    StableHlo.binary main_v82 main_v78 main_v83 (addf : (⟨S24x1024, .f32⟩ : BufTy).Contents (Elt F) → (⟨S24x1024, .f32⟩ : BufTy).Contents (Elt F) → (⟨S24x1024, .f32⟩ : BufTy).Contents (Elt F)),
    StableHlo.nullary main_c_16 (constantI S_ 32 0#32),
    StableHlo.unary main_c_16 main_v84 (broadcastInDim S24x1024 ![] bcast_S_S24x1024 : (⟨S_, .i32⟩ : BufTy).Contents (Elt F) → (⟨S24x1024, .i32⟩ : BufTy).Contents (Elt F)),
    StableHlo.binary main_v47 main_v84 main_v85 (cmpi .slt : (⟨S24x1024, .i32⟩ : BufTy).Contents (Elt F) → (⟨S24x1024, .i32⟩ : BufTy).Contents (Elt F) → (⟨S24x1024, .i1⟩ : BufTy).Contents (Elt F)),
    StableHlo.nullary main_c_17 (constantI S_ 32 1024#32),
    StableHlo.unary main_c_17 main_v86 (broadcastInDim S24x1024 ![] bcast_S_S24x1024 : (⟨S_, .i32⟩ : BufTy).Contents (Elt F) → (⟨S24x1024, .i32⟩ : BufTy).Contents (Elt F)),
    StableHlo.binary main_v47 main_v86 main_v87 (addi : (⟨S24x1024, .i32⟩ : BufTy).Contents (Elt F) → (⟨S24x1024, .i32⟩ : BufTy).Contents (Elt F) → (⟨S24x1024, .i32⟩ : BufTy).Contents (Elt F)),
    StableHlo.ternary main_v85 main_v87 main_v47 main_v88 (select : (⟨S24x1024, .i1⟩ : BufTy).Contents (Elt F) → (⟨S24x1024, .i32⟩ : BufTy).Contents (Elt F) → (⟨S24x1024, .i32⟩ : BufTy).Contents (Elt F) → (⟨S24x1024, .i32⟩ : BufTy).Contents (Elt F)),
    StableHlo.unary main_v88 main_v89 (broadcastInDim S24x1024x1 ![0, 1] bcast_S24x1024_S24x1024x1_0_1 : (⟨S24x1024, .i32⟩ : BufTy).Contents (Elt F) → (⟨S24x1024x1, .i32⟩ : BufTy).Contents (Elt F)),
    StableHlo.binary main_v83 main_v89 main_v90 ((fun x i => Host.gather gather_S24x1024_S24x1024x1_S24x1024_n_1_0_0_1_2_11 x i) : (⟨S24x1024, .f32⟩ : BufTy).Contents (Elt F) → (⟨S24x1024x1, .i32⟩ : BufTy).Contents (Elt F) → (⟨S24x1024, .f32⟩ : BufTy).Contents (Elt F)) ]
theorem hostOps0_12_sub : (hostOps0_12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- Host operations, in order: @main, window 0 (statements 1 … 60). -/
abbrev main_part0_ops0 : List (HloOp τ sig (Elt F)) :=
  [ StableHlo.reshape main_arg1 main_v0 (rfl : (.f32 : EltTy) = .f32) shapeCasts_S24x1x64_S24x64,
    StableHlo.unary main_arg2 main_v1 ((extractStridedSlice S1x1x128 ![0, 0, 0] · slices_S2x1x128_S1x1x128_0_0_0) : (⟨S2x1x128, .f32⟩ : BufTy).Contents (Elt F) → (⟨S1x1x128, .f32⟩ : BufTy).Contents (Elt F)),
    StableHlo.reshape main_v1 main_v2 (rfl : (.f32 : EltTy) = .f32) shapeCasts_S1x1x128_S128,
    StableHlo.nullary main_cst (constant S_ .f32 0x00000000#32),
    StableHlo.unary main_cst main_v3 (broadcastInDim S24x128 ![] bcast_S_S24x128 : (⟨S_, .f32⟩ : BufTy).Contents (Elt F) → (⟨S24x128, .f32⟩ : BufTy).Contents (Elt F)),
    StableHlo.nullary main_c (constantI S_ 32 0#32),
    StableHlo.unary main_v0 main_v4_0 id,
    StableHlo.unary main_arg3 main_v4_1 id,
    StableHlo.unary main_arg5 main_v4_2 id,
    StableHlo.unary main_arg4 main_v4_3 id,
    StableHlo.unary main_arg6 main_v4_4 id,
    StableHlo.unary main_c main_v4_5 id,
    StableHlo.unary main_v2 main_v4_6 id,
    StableHlo.unary main_v3 main_v4_7 id ]
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, in order: @main, window 0 (statements 1 … 60). -/
abbrev main_part0_ops1 : List (HloOp τ sig (Elt F)) :=
  [ StableHlo.unary main_v0 main_v5 (Host.reverse [0] : (⟨S24x64, .f32⟩ : BufTy).Contents (Elt F) → (⟨S24x64, .f32⟩ : BufTy).Contents (Elt F)),
    StableHlo.unary main_arg2 main_v6 ((extractStridedSlice S1x1x128 ![1, 0, 0] · slices_S2x1x128_S1x1x128_1_0_0) : (⟨S2x1x128, .f32⟩ : BufTy).Contents (Elt F) → (⟨S1x1x128, .f32⟩ : BufTy).Contents (Elt F)),
    StableHlo.reshape main_v6 main_v7 (rfl : (.f32 : EltTy) = .f32) shapeCasts_S1x1x128_S128,
    StableHlo.nullary main_cst_0 (constant S_ .f32 0x00000000#32),
    StableHlo.unary main_cst_0 main_v8 (broadcastInDim S24x128 ![] bcast_S_S24x128 : (⟨S_, .f32⟩ : BufTy).Contents (Elt F) → (⟨S24x128, .f32⟩ : BufTy).Contents (Elt F)),
    StableHlo.nullary main_c_1 (constantI S_ 32 0#32),
    StableHlo.unary main_v5 main_v9_0 id,
    StableHlo.unary main_arg7 main_v9_1 id,
    StableHlo.unary main_arg9 main_v9_2 id,
    StableHlo.unary main_arg8 main_v9_3 id,
    StableHlo.unary main_arg10 main_v9_4 id,
    StableHlo.unary main_c_1 main_v9_5 id,
    StableHlo.unary main_v7 main_v9_6 id,
    StableHlo.unary main_v8 main_v9_7 id ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, in order: @main, window 0 (statements 1 … 60). -/
abbrev main_part0_ops2 : List (HloOp τ sig (Elt F)) :=
  [ StableHlo.unary main_v9_7 main_v10 (Host.reverse [0] : (⟨S24x128, .f32⟩ : BufTy).Contents (Elt F) → (⟨S24x128, .f32⟩ : BufTy).Contents (Elt F)),
    StableHlo.binary main_v4_7 main_v10 main_v11 ((fun a b => concatenate S24x256 1 [⟨S24x128, a⟩, ⟨S24x128, b⟩] concatenates_S24x128_S24x128_S24x256_d1) : (⟨S24x128, .f32⟩ : BufTy).Contents (Elt F) → (⟨S24x128, .f32⟩ : BufTy).Contents (Elt F) → (⟨S24x256, .f32⟩ : BufTy).Contents (Elt F)),
    StableHlo.nullary main_cst_2 (constant S_ .f32 0x00000000#32),
    StableHlo.binary main_v11 main_cst_2 main_v12 ((fun x v => Host.reduceAdd x v reducesTo_S24x256_S24_d1 h_S_) : (⟨S24x256, .f32⟩ : BufTy).Contents (Elt F) → (⟨S_, .f32⟩ : BufTy).Contents (Elt F) → (⟨S24, .f32⟩ : BufTy).Contents (Elt F)),
    StableHlo.unary main_v12 main_v13 (broadcastInDim S24x1 ![0] bcast_S24_S24x1_0 : (⟨S24, .f32⟩ : BufTy).Contents (Elt F) → (⟨S24x1, .f32⟩ : BufTy).Contents (Elt F)),
    StableHlo.nullary main_cst_3 (constant S_ .f32 0x43800000#32),
    StableHlo.unary main_cst_3 main_v14 (broadcastInDim S24x1 ![] bcast_S_S24x1 : (⟨S_, .f32⟩ : BufTy).Contents (Elt F) → (⟨S24x1, .f32⟩ : BufTy).Contents (Elt F)),
    StableHlo.binary main_v13 main_v14 main_v15 (Host.divf : (⟨S24x1, .f32⟩ : BufTy).Contents (Elt F) → (⟨S24x1, .f32⟩ : BufTy).Contents (Elt F) → (⟨S24x1, .f32⟩ : BufTy).Contents (Elt F)),
    StableHlo.unary main_v15 main_v16 (broadcastInDim S24x256 ![0, 1] bcast_S24x1_S24x256_0_1 : (⟨S24x1, .f32⟩ : BufTy).Contents (Elt F) → (⟨S24x256, .f32⟩ : BufTy).Contents (Elt F)),
    StableHlo.binary main_v11 main_v16 main_v17 (subf : (⟨S24x256, .f32⟩ : BufTy).Contents (Elt F) → (⟨S24x256, .f32⟩ : BufTy).Contents (Elt F) → (⟨S24x256, .f32⟩ : BufTy).Contents (Elt F)),
    StableHlo.binary main_v17 main_v17 main_v18 (mulf : (⟨S24x256, .f32⟩ : BufTy).Contents (Elt F) → (⟨S24x256, .f32⟩ : BufTy).Contents (Elt F) → (⟨S24x256, .f32⟩ : BufTy).Contents (Elt F)),
    StableHlo.nullary main_cst_4 (constant S_ .f32 0x00000000#32),
    StableHlo.binary main_v18 main_cst_4 main_v19 ((fun x v => Host.reduceAdd x v reducesTo_S24x256_S24_d1 h_S_) : (⟨S24x256, .f32⟩ : BufTy).Contents (Elt F) → (⟨S_, .f32⟩ : BufTy).Contents (Elt F) → (⟨S24, .f32⟩ : BufTy).Contents (Elt F)),
    StableHlo.unary main_v19 main_v20 (broadcastInDim S24x1 ![0] bcast_S24_S24x1_0 : (⟨S24, .f32⟩ : BufTy).Contents (Elt F) → (⟨S24x1, .f32⟩ : BufTy).Contents (Elt F)),
    StableHlo.nullary main_cst_5 (constant S_ .f32 0x43800000#32),
    StableHlo.unary main_cst_5 main_v21 (broadcastInDim S24x1 ![] bcast_S_S24x1 : (⟨S_, .f32⟩ : BufTy).Contents (Elt F) → (⟨S24x1, .f32⟩ : BufTy).Contents (Elt F)),
    StableHlo.binary main_v20 main_v21 main_v22 (Host.divf : (⟨S24x1, .f32⟩ : BufTy).Contents (Elt F) → (⟨S24x1, .f32⟩ : BufTy).Contents (Elt F) → (⟨S24x1, .f32⟩ : BufTy).Contents (Elt F)),
    StableHlo.unary main_v15 main_v23 (broadcastInDim S24x256 ![0, 1] bcast_S24x1_S24x256_0_1 : (⟨S24x1, .f32⟩ : BufTy).Contents (Elt F) → (⟨S24x256, .f32⟩ : BufTy).Contents (Elt F)),
    StableHlo.binary main_v11 main_v23 main_v24 (subf : (⟨S24x256, .f32⟩ : BufTy).Contents (Elt F) → (⟨S24x256, .f32⟩ : BufTy).Contents (Elt F) → (⟨S24x256, .f32⟩ : BufTy).Contents (Elt F)),
    StableHlo.nullary main_cst_6 (constant S_ .f32 0x3727C5AC#32),
    StableHlo.unary main_cst_6 main_v25 (broadcastInDim S24x1 ![] bcast_S_S24x1 : (⟨S_, .f32⟩ : BufTy).Contents (Elt F) → (⟨S24x1, .f32⟩ : BufTy).Contents (Elt F)),
    StableHlo.binary main_v22 main_v25 main_v26 (addf : (⟨S24x1, .f32⟩ : BufTy).Contents (Elt F) → (⟨S24x1, .f32⟩ : BufTy).Contents (Elt F) → (⟨S24x1, .f32⟩ : BufTy).Contents (Elt F)),
    StableHlo.unary main_v26 main_v27 (Host.sqrt : (⟨S24x1, .f32⟩ : BufTy).Contents (Elt F) → (⟨S24x1, .f32⟩ : BufTy).Contents (Elt F)),
    StableHlo.unary main_v27 main_v28 (broadcastInDim S24x256 ![0, 1] bcast_S24x1_S24x256_0_1 : (⟨S24x1, .f32⟩ : BufTy).Contents (Elt F) → (⟨S24x256, .f32⟩ : BufTy).Contents (Elt F)),
    StableHlo.binary main_v24 main_v28 main_v29 (Host.divf : (⟨S24x256, .f32⟩ : BufTy).Contents (Elt F) → (⟨S24x256, .f32⟩ : BufTy).Contents (Elt F) → (⟨S24x256, .f32⟩ : BufTy).Contents (Elt F)),
    StableHlo.unary main_arg11 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S24x256 ![0, 1] bcast_S1x256_S24x256_0_1 : (⟨S1x256, .f32⟩ : BufTy).Contents (Elt F) → (⟨S24x256, .f32⟩ : BufTy).Contents (Elt F)),
    StableHlo.binary main_v29 main_v31 main_v32 (mulf : (⟨S24x256, .f32⟩ : BufTy).Contents (Elt F) → (⟨S24x256, .f32⟩ : BufTy).Contents (Elt F) → (⟨S24x256, .f32⟩ : BufTy).Contents (Elt F)),
    StableHlo.unary main_arg12 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S24x256 ![0, 1] bcast_S1x256_S24x256_0_1 : (⟨S1x256, .f32⟩ : BufTy).Contents (Elt F) → (⟨S24x256, .f32⟩ : BufTy).Contents (Elt F)) ]
theorem main_part0_ops2_sub : (main_part0_ops2 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩
/-- This window of `main` is the chain of its stretches and loops. -/
theorem main_part0_chain (c : Dev nD) : main_part0 (F := F) c = (Pipeline.chainK
  [ StableHlo.seq main_part0_ops0,
    HostLoop.enter 0,
    StableHlo.seq main_part0_ops1,
    HostLoop.enter 1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- Host operations, in order: @main, window 1 (statements 61 … 120). -/
abbrev main_part1_ops0 : List (HloOp τ sig (Elt F)) :=
  [ StableHlo.binary main_v32 main_v34 main_v35 (addf : (⟨S24x256, .f32⟩ : BufTy).Contents (Elt F) → (⟨S24x256, .f32⟩ : BufTy).Contents (Elt F) → (⟨S24x256, .f32⟩ : BufTy).Contents (Elt F)) ]
theorem main_part1_ops0_sub : (main_part1_ops0 : List (HloOp τ sig (Elt F))).Forall fun op => op.bufs ⊆ StableHlo.tcRefs τ sig :=
  StableHlo.binary_bufs_sub ..
/-- Host operations, in order: @relu (main_call4), window 1 (statements 61 … 120). -/
abbrev main_part1_ops1 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S24x256, .f32⟩) (broadcastInDim S24x256 ![] bcast_S_S24x256),
    StableHlo.TRef.binary (.of main_v35 : StableHlo.TRef sig ⟨S24x256, .f32⟩) (.of main_call4_v0 : StableHlo.TRef sig ⟨S24x256, .f32⟩) (.of main_v36 : StableHlo.TRef sig ⟨S24x256, .f32⟩) maximumf ]
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub ..⟩
/-- Host operations, in order: @main, window 1 (statements 61 … 120). -/
abbrev main_part1_ops2 : List (HloOp τ sig (Elt F)) :=
  [ StableHlo.binary main_arg13 main_v36 main_v37 ((fun l r => Host.dotGeneral dot_S24x1024x256_S24x256_S24x1024_2_1_1_n_0_0 none l r) : (⟨S24x1024x256, .f32⟩ : BufTy).Contents (Elt F) → (⟨S24x256, .f32⟩ : BufTy).Contents (Elt F) → (⟨S24x1024, .f32⟩ : BufTy).Contents (Elt F)),
    StableHlo.unary main_v37 main_v38 (Host.negf : (⟨S24x1024, .f32⟩ : BufTy).Contents (Elt F) → (⟨S24x1024, .f32⟩ : BufTy).Contents (Elt F)),
    StableHlo.unary main_v38 main_v39 (Host.exp : (⟨S24x1024, .f32⟩ : BufTy).Contents (Elt F) → (⟨S24x1024, .f32⟩ : BufTy).Contents (Elt F)),
    StableHlo.nullary main_cst_7 (constant S_ .f32 0x3F800000#32),
    StableHlo.unary main_cst_7 main_v40 (broadcastInDim S24x1024 ![] bcast_S_S24x1024 : (⟨S_, .f32⟩ : BufTy).Contents (Elt F) → (⟨S24x1024, .f32⟩ : BufTy).Contents (Elt F)),
    StableHlo.binary main_v40 main_v39 main_v41 (addf : (⟨S24x1024, .f32⟩ : BufTy).Contents (Elt F) → (⟨S24x1024, .f32⟩ : BufTy).Contents (Elt F) → (⟨S24x1024, .f32⟩ : BufTy).Contents (Elt F)),
    StableHlo.nullary main_cst_8 (constant S_ .f32 0x3F800000#32),
    StableHlo.unary main_cst_8 main_v42 (broadcastInDim S24x1024 ![] bcast_S_S24x1024 : (⟨S_, .f32⟩ : BufTy).Contents (Elt F) → (⟨S24x1024, .f32⟩ : BufTy).Contents (Elt F)),
    StableHlo.binary main_v42 main_v41 main_v43 (Host.divf : (⟨S24x1024, .f32⟩ : BufTy).Contents (Elt F) → (⟨S24x1024, .f32⟩ : BufTy).Contents (Elt F) → (⟨S24x1024, .f32⟩ : BufTy).Contents (Elt F)),
    StableHlo.nullary main_v44 (sitofp .f32 (iotaInDim S1024 32 0)),
    StableHlo.unary main_v43 main_v45 (Host.negf : (⟨S24x1024, .f32⟩ : BufTy).Contents (Elt F) → (⟨S24x1024, .f32⟩ : BufTy).Contents (Elt F)) ]
theorem main_part1_ops2_sub : (main_part1_ops2 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
/-- Host operations, in order: @argsort (main_call5), window 1 (statements 61 … 120). -/
abbrev main_part1_ops3 : List (HloOp τ sig (Elt F)) :=
  [ StableHlo.TRef.nullary (.of main_call5_v0 : StableHlo.TRef sig ⟨S1024, .i32⟩) (iotaInDim S1024 32 0),
    StableHlo.TRef.unary (.of main_call5_v0 : StableHlo.TRef sig ⟨S1024, .i32⟩) (.of main_call5_v1 : StableHlo.TRef sig ⟨S24x1024, .i32⟩) (broadcastInDim S24x1024 ![1] bcast_S1024_S24x1024_1),
    StableHlo.TRef.binary (.of main_v45 : StableHlo.TRef sig ⟨S24x1024, .f32⟩) (.of main_call5_v1 : StableHlo.TRef sig ⟨S24x1024, .i32⟩) (.of main_call5_v2_0 : StableHlo.TRef sig ⟨S24x1024, .f32⟩) (fun x y => (Host.sort2 S24x1024 1 comparator_f32_i32_d1 x y).1),
    StableHlo.TRef.binary (.of main_v45 : StableHlo.TRef sig ⟨S24x1024, .f32⟩) (.of main_call5_v1 : StableHlo.TRef sig ⟨S24x1024, .i32⟩) (.of main_v46 : StableHlo.TRef sig ⟨S24x1024, .i32⟩) (fun x y => (Host.sort2 S24x1024 1 comparator_f32_i32_d1 x y).2) ]
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @argsort_0 (main_call6), window 1 (statements 61 … 120). -/
abbrev main_part1_ops4 : List (HloOp τ sig (Elt F)) :=
  [ StableHlo.TRef.nullary (.of main_call6_v0 : StableHlo.TRef sig ⟨S1024, .i32⟩) (iotaInDim S1024 32 0),
    StableHlo.TRef.unary (.of main_call6_v0 : StableHlo.TRef sig ⟨S1024, .i32⟩) (.of main_call6_v1 : StableHlo.TRef sig ⟨S24x1024, .i32⟩) (broadcastInDim S24x1024 ![1] bcast_S1024_S24x1024_1),
    StableHlo.TRef.binary (.of main_v46 : StableHlo.TRef sig ⟨S24x1024, .i32⟩) (.of main_call6_v1 : StableHlo.TRef sig ⟨S24x1024, .i32⟩) (.of main_call6_v2_0 : StableHlo.TRef sig ⟨S24x1024, .i32⟩) (fun x y => (Host.sort2 S24x1024 1 comparator_i32_i32_d1 x y).1),
    StableHlo.TRef.binary (.of main_v46 : StableHlo.TRef sig ⟨S24x1024, .i32⟩) (.of main_call6_v1 : StableHlo.TRef sig ⟨S24x1024, .i32⟩) (.of main_v47 : StableHlo.TRef sig ⟨S24x1024, .i32⟩) (fun x y => (Host.sort2 S24x1024 1 comparator_i32_i32_d1 x y).2) ]
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @main, window 1 (statements 61 … 120). -/
abbrev main_part1_ops5 : List (HloOp τ sig (Elt F)) :=
  [ StableHlo.nullary main_c_9 (constantI S_ 32 0#32),
    StableHlo.unary main_c_9 main_v48 (broadcastInDim S24x1024 ![] bcast_S_S24x1024 : (⟨S_, .i32⟩ : BufTy).Contents (Elt F) → (⟨S24x1024, .i32⟩ : BufTy).Contents (Elt F)),
    StableHlo.binary main_v47 main_v48 main_v49 (cmpi .slt : (⟨S24x1024, .i32⟩ : BufTy).Contents (Elt F) → (⟨S24x1024, .i32⟩ : BufTy).Contents (Elt F) → (⟨S24x1024, .i1⟩ : BufTy).Contents (Elt F)),
    StableHlo.nullary main_c_10 (constantI S_ 32 1024#32),
    StableHlo.unary main_c_10 main_v50 (broadcastInDim S24x1024 ![] bcast_S_S24x1024 : (⟨S_, .i32⟩ : BufTy).Contents (Elt F) → (⟨S24x1024, .i32⟩ : BufTy).Contents (Elt F)),
    StableHlo.binary main_v47 main_v50 main_v51 (addi : (⟨S24x1024, .i32⟩ : BufTy).Contents (Elt F) → (⟨S24x1024, .i32⟩ : BufTy).Contents (Elt F) → (⟨S24x1024, .i32⟩ : BufTy).Contents (Elt F)),
    StableHlo.ternary main_v49 main_v51 main_v47 main_v52 (select : (⟨S24x1024, .i1⟩ : BufTy).Contents (Elt F) → (⟨S24x1024, .i32⟩ : BufTy).Contents (Elt F) → (⟨S24x1024, .i32⟩ : BufTy).Contents (Elt F) → (⟨S24x1024, .i32⟩ : BufTy).Contents (Elt F)),
    StableHlo.unary main_v52 main_v53 (broadcastInDim S24x1024x1 ![0, 1] bcast_S24x1024_S24x1024x1_0_1 : (⟨S24x1024, .i32⟩ : BufTy).Contents (Elt F) → (⟨S24x1024x1, .i32⟩ : BufTy).Contents (Elt F)),
    StableHlo.binary main_arg0 main_v53 main_v54 ((fun x i => Host.gather gather_S24x1024_S24x1024x1_S24x1024_n_1_0_0_1_2_11 x i) : (⟨S24x1024, .f32⟩ : BufTy).Contents (Elt F) → (⟨S24x1024x1, .i32⟩ : BufTy).Contents (Elt F) → (⟨S24x1024, .f32⟩ : BufTy).Contents (Elt F)) ]
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- Host operations, in order: @argsort (main_call7), window 1 (statements 61 … 120). -/
abbrev main_part1_ops6 : List (HloOp τ sig (Elt F)) :=
  [ StableHlo.TRef.nullary (.of main_call7_v0 : StableHlo.TRef sig ⟨S1024, .i32⟩) (iotaInDim S1024 32 0),
    StableHlo.TRef.unary (.of main_call7_v0 : StableHlo.TRef sig ⟨S1024, .i32⟩) (.of main_call7_v1 : StableHlo.TRef sig ⟨S24x1024, .i32⟩) (broadcastInDim S24x1024 ![1] bcast_S1024_S24x1024_1),
    StableHlo.TRef.binary (.of main_v43 : StableHlo.TRef sig ⟨S24x1024, .f32⟩) (.of main_call7_v1 : StableHlo.TRef sig ⟨S24x1024, .i32⟩) (.of main_call7_v2_0 : StableHlo.TRef sig ⟨S24x1024, .f32⟩) (fun x y => (Host.sort2 S24x1024 1 comparator_f32_i32_d1 x y).1),
    StableHlo.TRef.binary (.of main_v43 : StableHlo.TRef sig ⟨S24x1024, .f32⟩) (.of main_call7_v1 : StableHlo.TRef sig ⟨S24x1024, .i32⟩) (.of main_v55 : StableHlo.TRef sig ⟨S24x1024, .i32⟩) (fun x y => (Host.sort2 S24x1024 1 comparator_f32_i32_d1 x y).2) ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @argsort_0 (main_call8), window 1 (statements 61 … 120). -/
abbrev main_part1_ops7 : List (HloOp τ sig (Elt F)) :=
  [ StableHlo.TRef.nullary (.of main_call8_v0 : StableHlo.TRef sig ⟨S1024, .i32⟩) (iotaInDim S1024 32 0),
    StableHlo.TRef.unary (.of main_call8_v0 : StableHlo.TRef sig ⟨S1024, .i32⟩) (.of main_call8_v1 : StableHlo.TRef sig ⟨S24x1024, .i32⟩) (broadcastInDim S24x1024 ![1] bcast_S1024_S24x1024_1),
    StableHlo.TRef.binary (.of main_v55 : StableHlo.TRef sig ⟨S24x1024, .i32⟩) (.of main_call8_v1 : StableHlo.TRef sig ⟨S24x1024, .i32⟩) (.of main_call8_v2_0 : StableHlo.TRef sig ⟨S24x1024, .i32⟩) (fun x y => (Host.sort2 S24x1024 1 comparator_i32_i32_d1 x y).1),
    StableHlo.TRef.binary (.of main_v55 : StableHlo.TRef sig ⟨S24x1024, .i32⟩) (.of main_call8_v1 : StableHlo.TRef sig ⟨S24x1024, .i32⟩) (.of main_v56 : StableHlo.TRef sig ⟨S24x1024, .i32⟩) (fun x y => (Host.sort2 S24x1024 1 comparator_i32_i32_d1 x y).2) ]
theorem main_part1_ops7_sub : (main_part1_ops7 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Host operations, in order: @main, window 1 (statements 61 … 120). -/
abbrev main_part1_ops8 : List (HloOp τ sig (Elt F)) :=
  [ StableHlo.unary main_v56 main_v57 (sitofp .f32 : (⟨S24x1024, .i32⟩ : BufTy).Contents (Elt F) → (⟨S24x1024, .f32⟩ : BufTy).Contents (Elt F)),
    StableHlo.unary main_v44 main_v58 (broadcastInDim S1x1024 ![1] bcast_S1024_S1x1024_1 : (⟨S1024, .f32⟩ : BufTy).Contents (Elt F) → (⟨S1x1024, .f32⟩ : BufTy).Contents (Elt F)),
    StableHlo.unary main_v57 main_v59 (broadcastInDim S24x1024x1 ![0, 1] bcast_S24x1024_S24x1024x1_0_1 : (⟨S24x1024, .f32⟩ : BufTy).Contents (Elt F) → (⟨S24x1024x1, .f32⟩ : BufTy).Contents (Elt F)),
    StableHlo.unary main_v58 main_v60 (broadcastInDim S1x1x1024 ![1, 2] bcast_S1x1024_S1x1x1024_1_2 : (⟨S1x1024, .f32⟩ : BufTy).Contents (Elt F) → (⟨S1x1x1024, .f32⟩ : BufTy).Contents (Elt F)),
    StableHlo.unary main_v60 main_v61 (broadcastInDim S24x1024x1024 ![0, 1, 2] bcast_S1x1x1024_S24x1024x1024_0_1_2 : (⟨S1x1x1024, .f32⟩ : BufTy).Contents (Elt F) → (⟨S24x1024x1024, .f32⟩ : BufTy).Contents (Elt F)),
    StableHlo.unary main_v59 main_v62 (broadcastInDim S24x1024x1024 ![0, 1, 2] bcast_S24x1024x1_S24x1024x1024_0_1_2 : (⟨S24x1024x1, .f32⟩ : BufTy).Contents (Elt F) → (⟨S24x1024x1024, .f32⟩ : BufTy).Contents (Elt F)),
    StableHlo.binary main_v61 main_v62 main_v63 (subf : (⟨S24x1024x1024, .f32⟩ : BufTy).Contents (Elt F) → (⟨S24x1024x1024, .f32⟩ : BufTy).Contents (Elt F) → (⟨S24x1024x1024, .f32⟩ : BufTy).Contents (Elt F)),
    StableHlo.unary main_v63 main_v64 (Host.absf : (⟨S24x1024x1024, .f32⟩ : BufTy).Contents (Elt F) → (⟨S24x1024x1024, .f32⟩ : BufTy).Contents (Elt F)),
    StableHlo.nullary main_cst_11 (constant S_ .f32 0x40A00000#32),
    StableHlo.unary main_cst_11 main_v65 (broadcastInDim S24x1024x1024 ![] bcast_S_S24x1024x1024 : (⟨S_, .f32⟩ : BufTy).Contents (Elt F) → (⟨S24x1024x1024, .f32⟩ : BufTy).Contents (Elt F)),
    StableHlo.binary main_v64 main_v65 main_v66 (cmpf .ole : (⟨S24x1024x1024, .f32⟩ : BufTy).Contents (Elt F) → (⟨S24x1024x1024, .f32⟩ : BufTy).Contents (Elt F) → (⟨S24x1024x1024, .i1⟩ : BufTy).Contents (Elt F)),
    StableHlo.binary main_v63 main_v63 main_v67 (mulf : (⟨S24x1024x1024, .f32⟩ : BufTy).Contents (Elt F) → (⟨S24x1024x1024, .f32⟩ : BufTy).Contents (Elt F) → (⟨S24x1024x1024, .f32⟩ : BufTy).Contents (Elt F)),
    StableHlo.unary main_v67 main_v68 (Host.negf : (⟨S24x1024x1024, .f32⟩ : BufTy).Contents (Elt F) → (⟨S24x1024x1024, .f32⟩ : BufTy).Contents (Elt F)),
    StableHlo.unary main_v68 main_v69 (Host.exp : (⟨S24x1024x1024, .f32⟩ : BufTy).Contents (Elt F) → (⟨S24x1024x1024, .f32⟩ : BufTy).Contents (Elt F)),
    StableHlo.nullary main_cst_12 (constant S_ .f32 0x00000000#32) ]
theorem main_part1_ops8_sub : (main_part1_ops8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub ..⟩
/-- Host operations, in order: @_where (main_call9), window 1 (statements 61 … 120). -/
abbrev main_part1_ops9 : List (HloOp τ sig (Elt F)) :=
  [ StableHlo.TRef.unary (.of main_cst_12 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S1024x1024, .f32⟩) (broadcastInDim S1024x1024 ![] bcast_S_S1024x1024),
    StableHlo.TRef.unary (.of main_call9_v1 : StableHlo.TRef sig ⟨S1024x1024, .f32⟩) (.of main_call9_v2 : StableHlo.TRef sig ⟨S24x1024x1024, .f32⟩) (broadcastInDim S24x1024x1024 ![1, 2] bcast_S1024x1024_S24x1024x1024_1_2),
    StableHlo.TRef.ternary (.of main_v66 : StableHlo.TRef sig ⟨S24x1024x1024, .i1⟩) (.of main_v69 : StableHlo.TRef sig ⟨S24x1024x1024, .f32⟩) (.of main_call9_v2 : StableHlo.TRef sig ⟨S24x1024x1024, .f32⟩) (.of main_v70 : StableHlo.TRef sig ⟨S24x1024x1024, .f32⟩) select ]
theorem main_part1_ops9_sub : (main_part1_ops9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- Host operations, in order: @main, window 1 (statements 61 … 120). -/
abbrev main_part1_ops10 : List (HloOp τ sig (Elt F)) :=
  [ StableHlo.nullary main_cst_13 (constant S_ .f32 0x00000000#32),
    StableHlo.binary main_v70 main_cst_13 main_v71 ((fun x v => Host.reduceAdd x v reducesTo_S24x1024x1024_S24x1024_d2 h_S_) : (⟨S24x1024x1024, .f32⟩ : BufTy).Contents (Elt F) → (⟨S_, .f32⟩ : BufTy).Contents (Elt F) → (⟨S24x1024, .f32⟩ : BufTy).Contents (Elt F)),
    StableHlo.unary main_v71 main_v72 (broadcastInDim S24x1024x1 ![0, 1] bcast_S24x1024_S24x1024x1_0_1 : (⟨S24x1024, .f32⟩ : BufTy).Contents (Elt F) → (⟨S24x1024x1, .f32⟩ : BufTy).Contents (Elt F)),
    StableHlo.unary main_v72 main_v73 (broadcastInDim S24x1024x1024 ![0, 1, 2] bcast_S24x1024x1_S24x1024x1024_0_1_2 : (⟨S24x1024x1, .f32⟩ : BufTy).Contents (Elt F) → (⟨S24x1024x1024, .f32⟩ : BufTy).Contents (Elt F)),
    StableHlo.binary main_v70 main_v73 main_v74 (Host.divf : (⟨S24x1024x1024, .f32⟩ : BufTy).Contents (Elt F) → (⟨S24x1024x1024, .f32⟩ : BufTy).Contents (Elt F) → (⟨S24x1024x1024, .f32⟩ : BufTy).Contents (Elt F)),
    StableHlo.unary main_v54 main_v75 (broadcastInDim S24x1x1024 ![0, 2] bcast_S24x1024_S24x1x1024_0_2 : (⟨S24x1024, .f32⟩ : BufTy).Contents (Elt F) → (⟨S24x1x1024, .f32⟩ : BufTy).Contents (Elt F)),
    StableHlo.unary main_v75 main_v76 (broadcastInDim S24x1024x1024 ![0, 1, 2] bcast_S24x1x1024_S24x1024x1024_0_1_2 : (⟨S24x1x1024, .f32⟩ : BufTy).Contents (Elt F) → (⟨S24x1024x1024, .f32⟩ : BufTy).Contents (Elt F)),
    StableHlo.binary main_v74 main_v76 main_v77 (mulf : (⟨S24x1024x1024, .f32⟩ : BufTy).Contents (Elt F) → (⟨S24x1024x1024, .f32⟩ : BufTy).Contents (Elt F) → (⟨S24x1024x1024, .f32⟩ : BufTy).Contents (Elt F)),
    StableHlo.nullary main_cst_14 (constant S_ .f32 0x00000000#32),
    StableHlo.binary main_v77 main_cst_14 main_v78 ((fun x v => Host.reduceAdd x v reducesTo_S24x1024x1024_S24x1024_d2 h_S_) : (⟨S24x1024x1024, .f32⟩ : BufTy).Contents (Elt F) → (⟨S_, .f32⟩ : BufTy).Contents (Elt F) → (⟨S24x1024, .f32⟩ : BufTy).Contents (Elt F)),
    StableHlo.nullary main_cst_15 (constant S_ .f32 0x3F000000#32),
    StableHlo.unary main_cst_15 main_v79 (broadcastInDim S24x1024 ![] bcast_S_S24x1024 : (⟨S_, .f32⟩ : BufTy).Contents (Elt F) → (⟨S24x1024, .f32⟩ : BufTy).Contents (Elt F)),
    StableHlo.binary main_v78 main_v79 main_v80 (cmpf .oge : (⟨S24x1024, .f32⟩ : BufTy).Contents (Elt F) → (⟨S24x1024, .f32⟩ : BufTy).Contents (Elt F) → (⟨S24x1024, .i1⟩ : BufTy).Contents (Elt F)),
    StableHlo.unary main_v80 main_v81 (uitofp .f32 : (⟨S24x1024, .i1⟩ : BufTy).Contents (Elt F) → (⟨S24x1024, .f32⟩ : BufTy).Contents (Elt F)),
    StableHlo.binary main_v78 main_v81 main_v82 (subf : (⟨S24x1024, .f32⟩ : BufTy).Contents (Elt F) → (⟨S24x1024, .f32⟩ : BufTy).Contents (Elt F) → (⟨S24x1024, .f32⟩ : BufTy).Contents (Elt F)),
    StableHlo.binary main_v82 main_v78 main_v83 (addf : (⟨S24x1024, .f32⟩ : BufTy).Contents (Elt F) → (⟨S24x1024, .f32⟩ : BufTy).Contents (Elt F) → (⟨S24x1024, .f32⟩ : BufTy).Contents (Elt F)),
    StableHlo.nullary main_c_16 (constantI S_ 32 0#32),
    StableHlo.unary main_c_16 main_v84 (broadcastInDim S24x1024 ![] bcast_S_S24x1024 : (⟨S_, .i32⟩ : BufTy).Contents (Elt F) → (⟨S24x1024, .i32⟩ : BufTy).Contents (Elt F)) ]
theorem main_part1_ops10_sub : (main_part1_ops10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub ..⟩
/-- This window of `main` is the chain of its stretches and loops. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9 ]
  (StableHlo.seq main_part1_ops10) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, Pipeline.chainK_cons, StableHlo.chainK_seq_cons, Pipeline.chainK_cons, Pipeline.chainK_cons, StableHlo.chainK_seq_cons, Pipeline.chainK_cons]
  chain_rfl

/-- Host operations, in order: @main, window 2 (statements 121 … 128). -/
abbrev main_part2_ops0 : List (HloOp τ sig (Elt F)) :=
  [ StableHlo.binary main_v47 main_v84 main_v85 (cmpi .slt : (⟨S24x1024, .i32⟩ : BufTy).Contents (Elt F) → (⟨S24x1024, .i32⟩ : BufTy).Contents (Elt F) → (⟨S24x1024, .i1⟩ : BufTy).Contents (Elt F)),
    StableHlo.nullary main_c_17 (constantI S_ 32 1024#32),
    StableHlo.unary main_c_17 main_v86 (broadcastInDim S24x1024 ![] bcast_S_S24x1024 : (⟨S_, .i32⟩ : BufTy).Contents (Elt F) → (⟨S24x1024, .i32⟩ : BufTy).Contents (Elt F)),
    StableHlo.binary main_v47 main_v86 main_v87 (addi : (⟨S24x1024, .i32⟩ : BufTy).Contents (Elt F) → (⟨S24x1024, .i32⟩ : BufTy).Contents (Elt F) → (⟨S24x1024, .i32⟩ : BufTy).Contents (Elt F)),
    StableHlo.ternary main_v85 main_v87 main_v47 main_v88 (select : (⟨S24x1024, .i1⟩ : BufTy).Contents (Elt F) → (⟨S24x1024, .i32⟩ : BufTy).Contents (Elt F) → (⟨S24x1024, .i32⟩ : BufTy).Contents (Elt F) → (⟨S24x1024, .i32⟩ : BufTy).Contents (Elt F)),
    StableHlo.unary main_v88 main_v89 (broadcastInDim S24x1024x1 ![0, 1] bcast_S24x1024_S24x1024x1_0_1 : (⟨S24x1024, .i32⟩ : BufTy).Contents (Elt F) → (⟨S24x1024x1, .i32⟩ : BufTy).Contents (Elt F)),
    StableHlo.binary main_v83 main_v89 main_v90 ((fun x i => Host.gather gather_S24x1024_S24x1024x1_S24x1024_n_1_0_0_1_2_11 x i) : (⟨S24x1024, .f32⟩ : BufTy).Contents (Elt F) → (⟨S24x1024x1, .i32⟩ : BufTy).Contents (Elt F) → (⟨S24x1024, .f32⟩ : BufTy).Contents (Elt F)) ]
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
/-- This window of `main` is the chain of its stretches and loops. -/
theorem main_part2_chain (c : Dev nD) : main_part2 (F := F) c = (Pipeline.chain
  [ StableHlo.seq main_part2_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- `main` is the chain of its windows. -/
theorem main_chain_windows (c : Dev nD) : main (F := F) c = (Pipeline.chain
  [ StableHlo.seq main_part0_ops0,
    HostLoop.enter 0,
    StableHlo.seq main_part0_ops1,
    HostLoop.enter 1,
    StableHlo.seq main_part0_ops2,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10,
    StableHlo.seq main_part2_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- Each stretch with the window lists that make it up. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1],
    .prog (HostLoop.enter 1),
    .ops [main_part0_ops2, main_part1_ops0],
    .ops [main_part1_ops1],
    .ops [main_part1_ops2],
    .ops [main_part1_ops3],
    .ops [main_part1_ops4],
    .ops [main_part1_ops5],
    .ops [main_part1_ops6],
    .ops [main_part1_ops7],
    .ops [main_part1_ops8],
    .ops [main_part1_ops9],
    .ops [main_part1_ops10, main_part2_ops0] ]

theorem main_chain_cut (c : Dev nD) : (Pipeline.chain
  [ StableHlo.seq main_part0_ops0,
    HostLoop.enter 0,
    StableHlo.seq main_part0_ops1,
    HostLoop.enter 1,
    StableHlo.seq main_part0_ops2,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10,
    StableHlo.seq main_part2_ops0 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12 ] : Prog (TpuEff nD τ sig (Elt F) (HostLoop.Sig (Pipeline.Sig Λ₀ (Fin 0) fun p => (pcfgs (F := F) p).Adm) 2) .tc) PUnit) := by
  chain_rfl

/-- `main` is the chain of its stretches and its two loops. -/
theorem main_chain (c : Dev nD) : main (F := F) c = (Pipeline.chain
  [ StableHlo.seq hostOps0,
    HostLoop.enter 0,
    StableHlo.seq hostOps0_1,
    HostLoop.enter 1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- Host operations, in order: @dynamic_index_in_dim (main_while0b_call0). -/
abbrev while0Ops0 : List (HloOp τ sig (Elt F)) :=
  [ StableHlo.TRef.nullary (.of main_while0b_call0_c : StableHlo.TRef sig ⟨S_, .i32⟩) (constantI S_ 32 0#32),
    StableHlo.TRef.unaryIndexed (.of main_v4_0 : StableHlo.TRef sig ⟨S24x64, .f32⟩) ![(.of main_v4_5 : StableHlo.TRef sig ⟨S_, .i32⟩), (.of main_while0b_call0_c : StableHlo.TRef sig ⟨S_, .i32⟩)] (.of main_while0b_call0_v0 : StableHlo.TRef sig ⟨S1x64, .f32⟩) (fun x i => Host.dynamicSlice S1x64 x (fun k => (i k (Shape.Idx.first h_S_)).toInt) sliceFits_S24x64_S1x64),
    StableHlo.TRef.reshape (.of main_while0b_call0_v0 : StableHlo.TRef sig ⟨S1x64, .f32⟩) (.of main_while0b_v91 : StableHlo.TRef sig ⟨S64, .f32⟩) (rfl : (.f32 : EltTy) = .f32) shapeCasts_S1x64_S64 ]
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- Host operations, in order: host loop 0's body region. -/
abbrev while0Ops0_1 : List (HloOp τ sig (Elt F)) :=
  ( StableHlo.binary main_v4_1 main_while0b_v91 main_while0b_v92 ((fun l r => Host.dotGeneral dot_S384x64_S64_S384_1_0_0_n_n_n none l r) : (⟨S384x64, .f32⟩ : BufTy).Contents (Elt F) → (⟨S64, .f32⟩ : BufTy).Contents (Elt F) → (⟨S384, .f32⟩ : BufTy).Contents (Elt F))
  :: StableHlo.binary main_while0b_v92 main_v4_2 main_while0b_v93 (addf : (⟨S384, .f32⟩ : BufTy).Contents (Elt F) → (⟨S384, .f32⟩ : BufTy).Contents (Elt F) → (⟨S384, .f32⟩ : BufTy).Contents (Elt F))
  :: StableHlo.binary main_v4_3 main_v4_6 main_while0b_v94 ((fun l r => Host.dotGeneral dot_S384x128_S128_S384_1_0_0_n_n_n none l r) : (⟨S384x128, .f32⟩ : BufTy).Contents (Elt F) → (⟨S128, .f32⟩ : BufTy).Contents (Elt F) → (⟨S384, .f32⟩ : BufTy).Contents (Elt F))
  :: StableHlo.binary main_while0b_v94 main_v4_4 main_while0b_v95 (addf : (⟨S384, .f32⟩ : BufTy).Contents (Elt F) → (⟨S384, .f32⟩ : BufTy).Contents (Elt F) → (⟨S384, .f32⟩ : BufTy).Contents (Elt F))
  :: StableHlo.unary main_while0b_v93 main_while0b_v96 ((extractStridedSlice S128 ![0] · slices_S384_S128_0) : (⟨S384, .f32⟩ : BufTy).Contents (Elt F) → (⟨S128, .f32⟩ : BufTy).Contents (Elt F))
  :: StableHlo.unary main_while0b_v93 main_while0b_v97 ((extractStridedSlice S128 ![128] · slices_S384_S128_128) : (⟨S384, .f32⟩ : BufTy).Contents (Elt F) → (⟨S128, .f32⟩ : BufTy).Contents (Elt F))
  :: StableHlo.unary main_while0b_v93 main_while0b_v98 ((extractStridedSlice S128 ![256] · slices_S384_S128_256) : (⟨S384, .f32⟩ : BufTy).Contents (Elt F) → (⟨S128, .f32⟩ : BufTy).Contents (Elt F))
  :: StableHlo.unary main_while0b_v95 main_while0b_v99 ((extractStridedSlice S128 ![0] · slices_S384_S128_0) : (⟨S384, .f32⟩ : BufTy).Contents (Elt F) → (⟨S128, .f32⟩ : BufTy).Contents (Elt F))
  :: StableHlo.unary main_while0b_v95 main_while0b_v100 ((extractStridedSlice S128 ![128] · slices_S384_S128_128) : (⟨S384, .f32⟩ : BufTy).Contents (Elt F) → (⟨S128, .f32⟩ : BufTy).Contents (Elt F))
  :: StableHlo.unary main_while0b_v95 main_while0b_v101 ((extractStridedSlice S128 ![256] · slices_S384_S128_256) : (⟨S384, .f32⟩ : BufTy).Contents (Elt F) → (⟨S128, .f32⟩ : BufTy).Contents (Elt F))
  :: StableHlo.binary main_while0b_v96 main_while0b_v99 main_while0b_v102 (addf : (⟨S128, .f32⟩ : BufTy).Contents (Elt F) → (⟨S128, .f32⟩ : BufTy).Contents (Elt F) → (⟨S128, .f32⟩ : BufTy).Contents (Elt F))
  :: StableHlo.unary main_while0b_v102 main_while0b_v103 (Host.negf : (⟨S128, .f32⟩ : BufTy).Contents (Elt F) → (⟨S128, .f32⟩ : BufTy).Contents (Elt F))
  :: StableHlo.unary main_while0b_v103 main_while0b_v104 (Host.exp : (⟨S128, .f32⟩ : BufTy).Contents (Elt F) → (⟨S128, .f32⟩ : BufTy).Contents (Elt F))
  :: StableHlo.nullary main_while0b_cst_25 (constant S_ .f32 0x3F800000#32)
  :: StableHlo.unary main_while0b_cst_25 main_while0b_v105 (broadcastInDim S128 ![] bcast_S_S128 : (⟨S_, .f32⟩ : BufTy).Contents (Elt F) → (⟨S128, .f32⟩ : BufTy).Contents (Elt F))
  :: StableHlo.binary main_while0b_v105 main_while0b_v104 main_while0b_v106 (addf : (⟨S128, .f32⟩ : BufTy).Contents (Elt F) → (⟨S128, .f32⟩ : BufTy).Contents (Elt F) → (⟨S128, .f32⟩ : BufTy).Contents (Elt F))
  :: StableHlo.nullary main_while0b_cst_26 (constant S_ .f32 0x3F800000#32)
  :: StableHlo.unary main_while0b_cst_26 main_while0b_v107 (broadcastInDim S128 ![] bcast_S_S128 : (⟨S_, .f32⟩ : BufTy).Contents (Elt F) → (⟨S128, .f32⟩ : BufTy).Contents (Elt F))
  :: StableHlo.binary main_while0b_v107 main_while0b_v106 main_while0b_v108 (Host.divf : (⟨S128, .f32⟩ : BufTy).Contents (Elt F) → (⟨S128, .f32⟩ : BufTy).Contents (Elt F) → (⟨S128, .f32⟩ : BufTy).Contents (Elt F))
  :: StableHlo.binary main_while0b_v97 main_while0b_v100 main_while0b_v109 (addf : (⟨S128, .f32⟩ : BufTy).Contents (Elt F) → (⟨S128, .f32⟩ : BufTy).Contents (Elt F) → (⟨S128, .f32⟩ : BufTy).Contents (Elt F))
  :: StableHlo.unary main_while0b_v109 main_while0b_v110 (Host.negf : (⟨S128, .f32⟩ : BufTy).Contents (Elt F) → (⟨S128, .f32⟩ : BufTy).Contents (Elt F))
  :: StableHlo.unary main_while0b_v110 main_while0b_v111 (Host.exp : (⟨S128, .f32⟩ : BufTy).Contents (Elt F) → (⟨S128, .f32⟩ : BufTy).Contents (Elt F))
  :: StableHlo.nullary main_while0b_cst_27 (constant S_ .f32 0x3F800000#32)
  :: StableHlo.unary main_while0b_cst_27 main_while0b_v112 (broadcastInDim S128 ![] bcast_S_S128 : (⟨S_, .f32⟩ : BufTy).Contents (Elt F) → (⟨S128, .f32⟩ : BufTy).Contents (Elt F))
  :: StableHlo.binary main_while0b_v112 main_while0b_v111 main_while0b_v113 (addf : (⟨S128, .f32⟩ : BufTy).Contents (Elt F) → (⟨S128, .f32⟩ : BufTy).Contents (Elt F) → (⟨S128, .f32⟩ : BufTy).Contents (Elt F))
  :: StableHlo.nullary main_while0b_cst_28 (constant S_ .f32 0x3F800000#32)
  :: StableHlo.unary main_while0b_cst_28 main_while0b_v114 (broadcastInDim S128 ![] bcast_S_S128 : (⟨S_, .f32⟩ : BufTy).Contents (Elt F) → (⟨S128, .f32⟩ : BufTy).Contents (Elt F))
  :: StableHlo.binary main_while0b_v114 main_while0b_v113 main_while0b_v115 (Host.divf : (⟨S128, .f32⟩ : BufTy).Contents (Elt F) → (⟨S128, .f32⟩ : BufTy).Contents (Elt F) → (⟨S128, .f32⟩ : BufTy).Contents (Elt F))
  :: StableHlo.binary main_while0b_v108 main_while0b_v101 main_while0b_v116 (mulf : (⟨S128, .f32⟩ : BufTy).Contents (Elt F) → (⟨S128, .f32⟩ : BufTy).Contents (Elt F) → (⟨S128, .f32⟩ : BufTy).Contents (Elt F))
  :: StableHlo.binary main_while0b_v98 main_while0b_v116 main_while0b_v117 (addf : (⟨S128, .f32⟩ : BufTy).Contents (Elt F) → (⟨S128, .f32⟩ : BufTy).Contents (Elt F) → (⟨S128, .f32⟩ : BufTy).Contents (Elt F))
  :: StableHlo.unary main_while0b_v117 main_while0b_v118 (Host.tanh : (⟨S128, .f32⟩ : BufTy).Contents (Elt F) → (⟨S128, .f32⟩ : BufTy).Contents (Elt F))
  :: StableHlo.nullary main_while0b_cst_29 (constant S_ .f32 0x3F800000#32)
  :: StableHlo.unary main_while0b_cst_29 main_while0b_v119 (broadcastInDim S128 ![] bcast_S_S128 : (⟨S_, .f32⟩ : BufTy).Contents (Elt F) → (⟨S128, .f32⟩ : BufTy).Contents (Elt F))
  :: StableHlo.binary main_while0b_v119 main_while0b_v115 main_while0b_v120 (subf : (⟨S128, .f32⟩ : BufTy).Contents (Elt F) → (⟨S128, .f32⟩ : BufTy).Contents (Elt F) → (⟨S128, .f32⟩ : BufTy).Contents (Elt F))
  :: StableHlo.binary main_while0b_v120 main_while0b_v118 main_while0b_v121 (mulf : (⟨S128, .f32⟩ : BufTy).Contents (Elt F) → (⟨S128, .f32⟩ : BufTy).Contents (Elt F) → (⟨S128, .f32⟩ : BufTy).Contents (Elt F))
  :: StableHlo.binary main_while0b_v115 main_v4_6 main_while0b_v122 (mulf : (⟨S128, .f32⟩ : BufTy).Contents (Elt F) → (⟨S128, .f32⟩ : BufTy).Contents (Elt F) → (⟨S128, .f32⟩ : BufTy).Contents (Elt F))
  :: StableHlo.binary main_while0b_v121 main_while0b_v122 main_while0b_v123 (addf : (⟨S128, .f32⟩ : BufTy).Contents (Elt F) → (⟨S128, .f32⟩ : BufTy).Contents (Elt F) → (⟨S128, .f32⟩ : BufTy).Contents (Elt F))
  :: [] )
theorem while0Ops0_1_sub : (while0Ops0_1 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- Host operations, in order: @dynamic_update_index_in_dim (main_while0b_call1). -/
abbrev while0Ops0_2 : List (HloOp τ sig (Elt F)) :=
  [ StableHlo.TRef.unary (.of main_while0b_v123 : StableHlo.TRef sig ⟨S128, .f32⟩) (.of main_while0b_call1_v0 : StableHlo.TRef sig ⟨S1x128, .f32⟩) (broadcastInDim S1x128 ![1] bcast_S128_S1x128_1),
    StableHlo.TRef.nullary (.of main_while0b_call1_c : StableHlo.TRef sig ⟨S_, .i32⟩) (constantI S_ 32 0#32),
    StableHlo.TRef.binaryIndexed (.of main_v4_7 : StableHlo.TRef sig ⟨S24x128, .f32⟩) (.of main_while0b_call1_v0 : StableHlo.TRef sig ⟨S1x128, .f32⟩) ![(.of main_v4_5 : StableHlo.TRef sig ⟨S_, .i32⟩), (.of main_while0b_call1_c : StableHlo.TRef sig ⟨S_, .i32⟩)] (.of main_while0b_v124 : StableHlo.TRef sig ⟨S24x128, .f32⟩) (fun x u i => Host.dynamicUpdateSlice x u (fun k => (i k (Shape.Idx.first h_S_)).toInt) updateFits_S24x128_S1x128) ]
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.binaryIndexed_bufs_sub ..⟩
/-- Host operations, in order: host loop 0's body region. -/
abbrev while0Ops0_3 : List (HloOp τ sig (Elt F)) :=
  [ StableHlo.nullary main_while0b_c_30 (constantI S_ 32 1#32),
    StableHlo.binary main_v4_5 main_while0b_c_30 main_while0b_v125 (addi : (⟨S_, .i32⟩ : BufTy).Contents (Elt F) → (⟨S_, .i32⟩ : BufTy).Contents (Elt F) → (⟨S_, .i32⟩ : BufTy).Contents (Elt F)),
    StableHlo.unary main_while0b_v125 main_v4_5 id,
    StableHlo.unary main_while0b_v123 main_v4_6 id,
    StableHlo.unary main_while0b_v124 main_v4_7 id ]
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The body of loop 0 is the chain of its stretches. -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- Host operations, in order: @dynamic_index_in_dim (main_while1b_call2). -/
abbrev while1Ops0 : List (HloOp τ sig (Elt F)) :=
  [ StableHlo.TRef.nullary (.of main_while1b_call2_c : StableHlo.TRef sig ⟨S_, .i32⟩) (constantI S_ 32 0#32),
    StableHlo.TRef.unaryIndexed (.of main_v9_0 : StableHlo.TRef sig ⟨S24x64, .f32⟩) ![(.of main_v9_5 : StableHlo.TRef sig ⟨S_, .i32⟩), (.of main_while1b_call2_c : StableHlo.TRef sig ⟨S_, .i32⟩)] (.of main_while1b_call2_v0 : StableHlo.TRef sig ⟨S1x64, .f32⟩) (fun x i => Host.dynamicSlice S1x64 x (fun k => (i k (Shape.Idx.first h_S_)).toInt) sliceFits_S24x64_S1x64),
    StableHlo.TRef.reshape (.of main_while1b_call2_v0 : StableHlo.TRef sig ⟨S1x64, .f32⟩) (.of main_while1b_v91 : StableHlo.TRef sig ⟨S64, .f32⟩) (rfl : (.f32 : EltTy) = .f32) shapeCasts_S1x64_S64 ]
theorem while1Ops0_sub : (while1Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- Host operations, in order: host loop 1's body region. -/
abbrev while1Ops0_1 : List (HloOp τ sig (Elt F)) :=
  ( StableHlo.binary main_v9_1 main_while1b_v91 main_while1b_v92 ((fun l r => Host.dotGeneral dot_S384x64_S64_S384_1_0_0_n_n_n none l r) : (⟨S384x64, .f32⟩ : BufTy).Contents (Elt F) → (⟨S64, .f32⟩ : BufTy).Contents (Elt F) → (⟨S384, .f32⟩ : BufTy).Contents (Elt F))
  :: StableHlo.binary main_while1b_v92 main_v9_2 main_while1b_v93 (addf : (⟨S384, .f32⟩ : BufTy).Contents (Elt F) → (⟨S384, .f32⟩ : BufTy).Contents (Elt F) → (⟨S384, .f32⟩ : BufTy).Contents (Elt F))
  :: StableHlo.binary main_v9_3 main_v9_6 main_while1b_v94 ((fun l r => Host.dotGeneral dot_S384x128_S128_S384_1_0_0_n_n_n none l r) : (⟨S384x128, .f32⟩ : BufTy).Contents (Elt F) → (⟨S128, .f32⟩ : BufTy).Contents (Elt F) → (⟨S384, .f32⟩ : BufTy).Contents (Elt F))
  :: StableHlo.binary main_while1b_v94 main_v9_4 main_while1b_v95 (addf : (⟨S384, .f32⟩ : BufTy).Contents (Elt F) → (⟨S384, .f32⟩ : BufTy).Contents (Elt F) → (⟨S384, .f32⟩ : BufTy).Contents (Elt F))
  :: StableHlo.unary main_while1b_v93 main_while1b_v96 ((extractStridedSlice S128 ![0] · slices_S384_S128_0) : (⟨S384, .f32⟩ : BufTy).Contents (Elt F) → (⟨S128, .f32⟩ : BufTy).Contents (Elt F))
  :: StableHlo.unary main_while1b_v93 main_while1b_v97 ((extractStridedSlice S128 ![128] · slices_S384_S128_128) : (⟨S384, .f32⟩ : BufTy).Contents (Elt F) → (⟨S128, .f32⟩ : BufTy).Contents (Elt F))
  :: StableHlo.unary main_while1b_v93 main_while1b_v98 ((extractStridedSlice S128 ![256] · slices_S384_S128_256) : (⟨S384, .f32⟩ : BufTy).Contents (Elt F) → (⟨S128, .f32⟩ : BufTy).Contents (Elt F))
  :: StableHlo.unary main_while1b_v95 main_while1b_v99 ((extractStridedSlice S128 ![0] · slices_S384_S128_0) : (⟨S384, .f32⟩ : BufTy).Contents (Elt F) → (⟨S128, .f32⟩ : BufTy).Contents (Elt F))
  :: StableHlo.unary main_while1b_v95 main_while1b_v100 ((extractStridedSlice S128 ![128] · slices_S384_S128_128) : (⟨S384, .f32⟩ : BufTy).Contents (Elt F) → (⟨S128, .f32⟩ : BufTy).Contents (Elt F))
  :: StableHlo.unary main_while1b_v95 main_while1b_v101 ((extractStridedSlice S128 ![256] · slices_S384_S128_256) : (⟨S384, .f32⟩ : BufTy).Contents (Elt F) → (⟨S128, .f32⟩ : BufTy).Contents (Elt F))
  :: StableHlo.binary main_while1b_v96 main_while1b_v99 main_while1b_v102 (addf : (⟨S128, .f32⟩ : BufTy).Contents (Elt F) → (⟨S128, .f32⟩ : BufTy).Contents (Elt F) → (⟨S128, .f32⟩ : BufTy).Contents (Elt F))
  :: StableHlo.unary main_while1b_v102 main_while1b_v103 (Host.negf : (⟨S128, .f32⟩ : BufTy).Contents (Elt F) → (⟨S128, .f32⟩ : BufTy).Contents (Elt F))
  :: StableHlo.unary main_while1b_v103 main_while1b_v104 (Host.exp : (⟨S128, .f32⟩ : BufTy).Contents (Elt F) → (⟨S128, .f32⟩ : BufTy).Contents (Elt F))
  :: StableHlo.nullary main_while1b_cst_25 (constant S_ .f32 0x3F800000#32)
  :: StableHlo.unary main_while1b_cst_25 main_while1b_v105 (broadcastInDim S128 ![] bcast_S_S128 : (⟨S_, .f32⟩ : BufTy).Contents (Elt F) → (⟨S128, .f32⟩ : BufTy).Contents (Elt F))
  :: StableHlo.binary main_while1b_v105 main_while1b_v104 main_while1b_v106 (addf : (⟨S128, .f32⟩ : BufTy).Contents (Elt F) → (⟨S128, .f32⟩ : BufTy).Contents (Elt F) → (⟨S128, .f32⟩ : BufTy).Contents (Elt F))
  :: StableHlo.nullary main_while1b_cst_26 (constant S_ .f32 0x3F800000#32)
  :: StableHlo.unary main_while1b_cst_26 main_while1b_v107 (broadcastInDim S128 ![] bcast_S_S128 : (⟨S_, .f32⟩ : BufTy).Contents (Elt F) → (⟨S128, .f32⟩ : BufTy).Contents (Elt F))
  :: StableHlo.binary main_while1b_v107 main_while1b_v106 main_while1b_v108 (Host.divf : (⟨S128, .f32⟩ : BufTy).Contents (Elt F) → (⟨S128, .f32⟩ : BufTy).Contents (Elt F) → (⟨S128, .f32⟩ : BufTy).Contents (Elt F))
  :: StableHlo.binary main_while1b_v97 main_while1b_v100 main_while1b_v109 (addf : (⟨S128, .f32⟩ : BufTy).Contents (Elt F) → (⟨S128, .f32⟩ : BufTy).Contents (Elt F) → (⟨S128, .f32⟩ : BufTy).Contents (Elt F))
  :: StableHlo.unary main_while1b_v109 main_while1b_v110 (Host.negf : (⟨S128, .f32⟩ : BufTy).Contents (Elt F) → (⟨S128, .f32⟩ : BufTy).Contents (Elt F))
  :: StableHlo.unary main_while1b_v110 main_while1b_v111 (Host.exp : (⟨S128, .f32⟩ : BufTy).Contents (Elt F) → (⟨S128, .f32⟩ : BufTy).Contents (Elt F))
  :: StableHlo.nullary main_while1b_cst_27 (constant S_ .f32 0x3F800000#32)
  :: StableHlo.unary main_while1b_cst_27 main_while1b_v112 (broadcastInDim S128 ![] bcast_S_S128 : (⟨S_, .f32⟩ : BufTy).Contents (Elt F) → (⟨S128, .f32⟩ : BufTy).Contents (Elt F))
  :: StableHlo.binary main_while1b_v112 main_while1b_v111 main_while1b_v113 (addf : (⟨S128, .f32⟩ : BufTy).Contents (Elt F) → (⟨S128, .f32⟩ : BufTy).Contents (Elt F) → (⟨S128, .f32⟩ : BufTy).Contents (Elt F))
  :: StableHlo.nullary main_while1b_cst_28 (constant S_ .f32 0x3F800000#32)
  :: StableHlo.unary main_while1b_cst_28 main_while1b_v114 (broadcastInDim S128 ![] bcast_S_S128 : (⟨S_, .f32⟩ : BufTy).Contents (Elt F) → (⟨S128, .f32⟩ : BufTy).Contents (Elt F))
  :: StableHlo.binary main_while1b_v114 main_while1b_v113 main_while1b_v115 (Host.divf : (⟨S128, .f32⟩ : BufTy).Contents (Elt F) → (⟨S128, .f32⟩ : BufTy).Contents (Elt F) → (⟨S128, .f32⟩ : BufTy).Contents (Elt F))
  :: StableHlo.binary main_while1b_v108 main_while1b_v101 main_while1b_v116 (mulf : (⟨S128, .f32⟩ : BufTy).Contents (Elt F) → (⟨S128, .f32⟩ : BufTy).Contents (Elt F) → (⟨S128, .f32⟩ : BufTy).Contents (Elt F))
  :: StableHlo.binary main_while1b_v98 main_while1b_v116 main_while1b_v117 (addf : (⟨S128, .f32⟩ : BufTy).Contents (Elt F) → (⟨S128, .f32⟩ : BufTy).Contents (Elt F) → (⟨S128, .f32⟩ : BufTy).Contents (Elt F))
  :: StableHlo.unary main_while1b_v117 main_while1b_v118 (Host.tanh : (⟨S128, .f32⟩ : BufTy).Contents (Elt F) → (⟨S128, .f32⟩ : BufTy).Contents (Elt F))
  :: StableHlo.nullary main_while1b_cst_29 (constant S_ .f32 0x3F800000#32)
  :: StableHlo.unary main_while1b_cst_29 main_while1b_v119 (broadcastInDim S128 ![] bcast_S_S128 : (⟨S_, .f32⟩ : BufTy).Contents (Elt F) → (⟨S128, .f32⟩ : BufTy).Contents (Elt F))
  :: StableHlo.binary main_while1b_v119 main_while1b_v115 main_while1b_v120 (subf : (⟨S128, .f32⟩ : BufTy).Contents (Elt F) → (⟨S128, .f32⟩ : BufTy).Contents (Elt F) → (⟨S128, .f32⟩ : BufTy).Contents (Elt F))
  :: StableHlo.binary main_while1b_v120 main_while1b_v118 main_while1b_v121 (mulf : (⟨S128, .f32⟩ : BufTy).Contents (Elt F) → (⟨S128, .f32⟩ : BufTy).Contents (Elt F) → (⟨S128, .f32⟩ : BufTy).Contents (Elt F))
  :: StableHlo.binary main_while1b_v115 main_v9_6 main_while1b_v122 (mulf : (⟨S128, .f32⟩ : BufTy).Contents (Elt F) → (⟨S128, .f32⟩ : BufTy).Contents (Elt F) → (⟨S128, .f32⟩ : BufTy).Contents (Elt F))
  :: StableHlo.binary main_while1b_v121 main_while1b_v122 main_while1b_v123 (addf : (⟨S128, .f32⟩ : BufTy).Contents (Elt F) → (⟨S128, .f32⟩ : BufTy).Contents (Elt F) → (⟨S128, .f32⟩ : BufTy).Contents (Elt F))
  :: [] )
theorem while1Ops0_1_sub : (while1Ops0_1 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- Host operations, in order: @dynamic_update_index_in_dim (main_while1b_call3). -/
abbrev while1Ops0_2 : List (HloOp τ sig (Elt F)) :=
  [ StableHlo.TRef.unary (.of main_while1b_v123 : StableHlo.TRef sig ⟨S128, .f32⟩) (.of main_while1b_call3_v0 : StableHlo.TRef sig ⟨S1x128, .f32⟩) (broadcastInDim S1x128 ![1] bcast_S128_S1x128_1),
    StableHlo.TRef.nullary (.of main_while1b_call3_c : StableHlo.TRef sig ⟨S_, .i32⟩) (constantI S_ 32 0#32),
    StableHlo.TRef.binaryIndexed (.of main_v9_7 : StableHlo.TRef sig ⟨S24x128, .f32⟩) (.of main_while1b_call3_v0 : StableHlo.TRef sig ⟨S1x128, .f32⟩) ![(.of main_v9_5 : StableHlo.TRef sig ⟨S_, .i32⟩), (.of main_while1b_call3_c : StableHlo.TRef sig ⟨S_, .i32⟩)] (.of main_while1b_v124 : StableHlo.TRef sig ⟨S24x128, .f32⟩) (fun x u i => Host.dynamicUpdateSlice x u (fun k => (i k (Shape.Idx.first h_S_)).toInt) updateFits_S24x128_S1x128) ]
theorem while1Ops0_2_sub : (while1Ops0_2 : List (HloOp τ sig (Elt F))).Forall fun op => op.bufs ⊆ StableHlo.tcRefs τ sig :=
  ⟨StableHlo.unary_bufs_sub .., StableHlo.nullary_bufs_sub .., StableHlo.binaryIndexed_bufs_sub ..⟩
/-- Host operations, in order: host loop 1's body region. -/
abbrev while1Ops0_3 : List (HloOp τ sig (Elt F)) :=
  [ StableHlo.nullary main_while1b_c_30 (constantI S_ 32 1#32),
    StableHlo.binary main_v9_5 main_while1b_c_30 main_while1b_v125 (addi : (⟨S_, .i32⟩ : BufTy).Contents (Elt F) → (⟨S_, .i32⟩ : BufTy).Contents (Elt F) → (⟨S_, .i32⟩ : BufTy).Contents (Elt F)),
    StableHlo.unary main_while1b_v125 main_v9_5 id,
    StableHlo.unary main_while1b_v123 main_v9_6 id,
    StableHlo.unary main_while1b_v124 main_v9_7 id ]
theorem while1Ops0_3_sub : (while1Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The body of loop 1 is the chain of its stretches. -/
theorem while1_body_chain : main_while1_body (F := F) = (Pipeline.chain
  [ StableHlo.seq while1Ops0,
    StableHlo.seq while1Ops0_1,
    StableHlo.seq while1Ops0_2,
    StableHlo.seq while1Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

end Cert.ReferenceIdeal.Stretches

end
-- ==== Proof.RefRun.lean ====
/-
  THE REFERENCE'S RUN. @main is a stretch of host operations, the forward loop, a stretch, the backward loop, and eleven
  stretches. `run_main` says what every buffer holds at the end; `frame` that the arguments are unchanged.
-/
module

public import proofs.«01_k».proof.Proof.Stretches
public import proofs.«01_k».proof.Proof.Loops

@[expose] public section

set_option maxRecDepth 16384

noncomputable section

namespace Cert.ReferenceIdeal.Run

open Cert.ReferenceIdeal Cert.ReferenceIdeal.Gen Cert.ReferenceIdeal.Stretches Cert.Counted
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

/-- No pipeline, so the algebra is the trivial one. -/
abbrev UU : Type := Option PUnit

local notation "𝕄" => MT nD τ sig Unit (Elt F) ℕ UU ℕ

abbrev 𝒱₀ : Variants := Variants.none
abbrev L : GSem nD τ sig → Finset Unit := fun _ => ∅
abbrev lv : GSem nD τ sig → Unit → ℕ := fun _ _ => 0
abbrev adm : (p : Fin 0) → (pcfgs (F := F) p).Adm := fun p => p.elim0
abbrev tk : Fin 0 → Ticket (Ix := Unit) (Name := ℕ) (U := UU) (Lvl := ℕ) (nD := nD) (τ := τ) (pcfgs (F := F)) adm := fun j => j.elim0

/-! ## The operations, cut at the loops, and what each piece writes -/

/-- @main's arguments. -/
abbrev argRefs : List (Ref sig .tc) :=
    [main_arg0, main_arg1, main_arg2, main_arg3, main_arg4, main_arg5, main_arg6, main_arg7, main_arg8, main_arg9, main_arg10,
    main_arg11, main_arg12, main_arg13]

/-- Before the forward loop. -/
abbrev pre : List (List (HloOp τ sig (Elt F))) := [hostOps0]
abbrev pre_W : List (Ref sig .tc) :=
    [main_v0, main_v1, main_v2, main_cst, main_v3, main_c, main_v4_0, main_v4_1, main_v4_2, main_v4_3, main_v4_4,
    main_v4_5, main_v4_6, main_v4_7]
theorem pre_keep (X : Valuation τ sig (Elt F)) {b : Ref sig .tc} (h : b ∉ pre_W) :
    afterL pre X (Proc.devRef .tc b) = X (Proc.devRef .tc b) := by
  rw [afterL_eq_after_flatten]
  exact after_of_writes_sub _ X (W := pre_W) (forall_writes_sub_of_map rfl) h

/-- Between the loops. -/
abbrev mid : List (List (HloOp τ sig (Elt F))) := [hostOps0_1]
abbrev mid_W : List (Ref sig .tc) :=
    [main_v5, main_v6, main_v7, main_cst_0, main_v8, main_c_1, main_v9_0, main_v9_1, main_v9_2, main_v9_3, main_v9_4,
    main_v9_5, main_v9_6, main_v9_7]
theorem mid_keep (X : Valuation τ sig (Elt F)) {b : Ref sig .tc} (h : b ∉ mid_W) :
    afterL mid X (Proc.devRef .tc b) = X (Proc.devRef .tc b) := by
  rw [afterL_eq_after_flatten]
  exact after_of_writes_sub _ X (W := mid_W) (forall_writes_sub_of_map rfl) h

/-- From the loops to the keys. -/
abbrev keys : List (List (HloOp τ sig (Elt F))) := [hostOps0_2, hostOps0_3, hostOps0_4]
abbrev keys_W : List (Ref sig .tc) :=
    [main_v10, main_v11, main_cst_2, main_v12, main_v13, main_cst_3, main_v14, main_v15, main_v16, main_v17, main_v18,
    main_cst_4, main_v19, main_v20, main_cst_5, main_v21, main_v22, main_v23, main_v24, main_cst_6, main_v25, main_v26,
    main_v27, main_v28, main_v29, main_v30, main_v31, main_v32, main_v33, main_v34, main_v35, main_call4_cst,
    main_call4_v0, main_v36, main_v37, main_v38, main_v39, main_cst_7, main_v40, main_v41, main_cst_8, main_v42,
    main_v43, main_v44, main_v45]
theorem keys_keep (X : Valuation τ sig (Elt F)) {b : Ref sig .tc} (h : b ∉ keys_W) :
    afterL keys X (Proc.devRef .tc b) = X (Proc.devRef .tc b) := by
  rw [afterL_eq_after_flatten]
  exact after_of_writes_sub _ X (W := keys_W) (forall_writes_sub_of_map rfl) h

/-- The soft indexing. -/
abbrev tail : List (List (HloOp τ sig (Elt F))) := [hostOps0_5, hostOps0_6, hostOps0_7, hostOps0_8, hostOps0_9, hostOps0_10, hostOps0_11, hostOps0_12]
abbrev tail_W : List (Ref sig .tc) :=
    [main_call5_v0, main_call5_v1, main_call5_v2_0, main_v46, main_call6_v0, main_call6_v1, main_call6_v2_0, main_v47,
    main_c_9, main_v48, main_v49, main_c_10, main_v50, main_v51, main_v52, main_v53, main_v54, main_call7_v0,
    main_call7_v1, main_call7_v2_0, main_v55, main_call8_v0, main_call8_v1, main_call8_v2_0, main_v56, main_v57,
    main_v58, main_v59, main_v60, main_v61, main_v62, main_v63, main_v64, main_cst_11, main_v65, main_v66, main_v67,
    main_v68, main_v69, main_cst_12, main_call9_v0, main_call9_v1, main_call9_v2, main_v70, main_cst_13, main_v71,
    main_v72, main_v73, main_v74, main_v75, main_v76, main_v77, main_cst_14, main_v78, main_cst_15, main_v79, main_v80,
    main_v81, main_v82, main_v83, main_c_16, main_v84, main_v85, main_c_17, main_v86, main_v87, main_v88, main_v89,
    main_v90]
theorem tail_keep (X : Valuation τ sig (Elt F)) {b : Ref sig .tc} (h : b ∉ tail_W) :
    afterL tail X (Proc.devRef .tc b) = X (Proc.devRef .tc b) := by
  rw [afterL_eq_after_flatten]
  exact after_of_writes_sub _ X (W := tail_W) (forall_writes_sub_of_map rfl) h

/-- Loop 0: its condition's operations, its body's stretches, and what they write. -/
abbrev cond0 : List (HloOp τ sig (Elt F)) :=
  [nullary main_while0c_c_25 (constantI S_ 32 24#32), binary main_v4_5 main_while0c_c_25 main_while0c_v91 (cmpi .slt)]
abbrev body0 : List (List (HloOp τ sig (Elt F))) := [while0Ops0, while0Ops0_1, while0Ops0_2, while0Ops0_3]
theorem body0_plain : Plain (body0 (F := F)) := .cons while0Ops0_sub <| .cons while0Ops0_1_sub <| .cons while0Ops0_2_sub <| .cons while0Ops0_3_sub .nil
abbrev cond0_W : List (Ref sig .tc) := [main_while0c_c_25, main_while0c_v91]
abbrev body0_W : List (Ref sig .tc) :=
    [main_while0b_call0_c, main_while0b_call0_v0, main_while0b_v91, main_while0b_v92, main_while0b_v93,
    main_while0b_v94, main_while0b_v95, main_while0b_v96, main_while0b_v97, main_while0b_v98, main_while0b_v99,
    main_while0b_v100, main_while0b_v101, main_while0b_v102, main_while0b_v103, main_while0b_v104, main_while0b_cst_25,
    main_while0b_v105, main_while0b_v106, main_while0b_cst_26, main_while0b_v107, main_while0b_v108, main_while0b_v109,
    main_while0b_v110, main_while0b_v111, main_while0b_cst_27, main_while0b_v112, main_while0b_v113,
    main_while0b_cst_28, main_while0b_v114, main_while0b_v115, main_while0b_v116, main_while0b_v117, main_while0b_v118,
    main_while0b_cst_29, main_while0b_v119, main_while0b_v120, main_while0b_v121, main_while0b_v122, main_while0b_v123,
    main_while0b_call1_v0, main_while0b_call1_c, main_while0b_v124, main_while0b_c_30, main_while0b_v125, main_v4_5,
    main_v4_6, main_v4_7]
theorem cond0_keep (X : Valuation τ sig (Elt F)) {b : Ref sig .tc} (h : b ∉ cond0_W) :
    after cond0 X (Proc.devRef .tc b) = X (Proc.devRef .tc b) :=
  after_of_writes_sub cond0 X (forall_writes_sub_of_map rfl) h
theorem body0_keep (X : Valuation τ sig (Elt F)) {b : Ref sig .tc} (h : b ∉ body0_W) :
    afterL body0 X (Proc.devRef .tc b) = X (Proc.devRef .tc b) := by
  rw [afterL_eq_after_flatten]
  exact after_of_writes_sub _ X (W := body0_W) (forall_writes_sub_of_map rfl) h
/-- A trip raises the counter by 1. -/
theorem body0_counter (X : Valuation τ sig (Elt F)) :
    afterL body0 X (Proc.devRef .tc main_v4_5) = addi (X (Proc.devRef .tc main_v4_5)) (constantI S_ 32 1#32) := by
  simp only [afterL_cons, afterL_nil]
  after_results
  rfl

/-- Loop 1: its condition's operations, its body's stretches, and what they write. -/
abbrev cond1 : List (HloOp τ sig (Elt F)) :=
  [nullary main_while1c_c_25 (constantI S_ 32 24#32), binary main_v9_5 main_while1c_c_25 main_while1c_v91 (cmpi .slt)]
abbrev body1 : List (List (HloOp τ sig (Elt F))) := [while1Ops0, while1Ops0_1, while1Ops0_2, while1Ops0_3]
theorem body1_plain : Plain (body1 (F := F)) := .cons while1Ops0_sub <| .cons while1Ops0_1_sub <| .cons while1Ops0_2_sub <| .cons while1Ops0_3_sub .nil
abbrev cond1_W : List (Ref sig .tc) := [main_while1c_c_25, main_while1c_v91]
abbrev body1_W : List (Ref sig .tc) :=
    [main_while1b_call2_c, main_while1b_call2_v0, main_while1b_v91, main_while1b_v92, main_while1b_v93,
    main_while1b_v94, main_while1b_v95, main_while1b_v96, main_while1b_v97, main_while1b_v98, main_while1b_v99,
    main_while1b_v100, main_while1b_v101, main_while1b_v102, main_while1b_v103, main_while1b_v104, main_while1b_cst_25,
    main_while1b_v105, main_while1b_v106, main_while1b_cst_26, main_while1b_v107, main_while1b_v108, main_while1b_v109,
    main_while1b_v110, main_while1b_v111, main_while1b_cst_27, main_while1b_v112, main_while1b_v113,
    main_while1b_cst_28, main_while1b_v114, main_while1b_v115, main_while1b_v116, main_while1b_v117, main_while1b_v118,
    main_while1b_cst_29, main_while1b_v119, main_while1b_v120, main_while1b_v121, main_while1b_v122, main_while1b_v123,
    main_while1b_call3_v0, main_while1b_call3_c, main_while1b_v124, main_while1b_c_30, main_while1b_v125, main_v9_5,
    main_v9_6, main_v9_7]
theorem cond1_keep (X : Valuation τ sig (Elt F)) {b : Ref sig .tc} (h : b ∉ cond1_W) :
    after cond1 X (Proc.devRef .tc b) = X (Proc.devRef .tc b) :=
  after_of_writes_sub cond1 X (forall_writes_sub_of_map rfl) h
theorem body1_keep (X : Valuation τ sig (Elt F)) {b : Ref sig .tc} (h : b ∉ body1_W) :
    afterL body1 X (Proc.devRef .tc b) = X (Proc.devRef .tc b) := by
  rw [afterL_eq_after_flatten]
  exact after_of_writes_sub _ X (W := body1_W) (forall_writes_sub_of_map rfl) h
/-- A trip raises the counter by 1. -/
theorem body1_counter (X : Valuation τ sig (Elt F)) :
    afterL body1 X (Proc.devRef .tc main_v9_5) = addi (X (Proc.devRef .tc main_v9_5)) (constantI S_ 32 1#32) := by
  simp only [afterL_cons, afterL_nil]
  after_results
  rfl

/-! ## The contents at each boundary -/

variable (m : (ℓ : Loc nD τ sig) → Buf (Elt F) ℓ)

/-- What rides along with the buffers: the core's `owes`. -/
abbrev Rc (c : Dev nD) : sProp 𝕄 := iprop(∃ W, owes (c : Thread nD τ) (0 : CellTallies nD τ sig Unit) W)

/-- The buffers when loop 0 is entered, before its `k`-th condition, and after it. -/
abbrev Ent0 (c : Dev nD) : Valuation τ sig (Elt F) := afterL pre (launchContents m c)
abbrev At0 (k : ℕ) (c : Dev nD) : Valuation τ sig (Elt F) := atTrip cond0 body0 (Ent0 m) k c
abbrev Ex0 (c : Dev nD) : Valuation τ sig (Elt F) := after cond0 (At0 m 24 c)
theorem Ent0_counter (c : Dev nD) : Ent0 m c (Proc.devRef .tc main_v4_5) = fun _ => (0#32 : BitVec 32) := by
  simp only [Ent0, afterL_cons, afterL_nil]
  after_results
  rfl
/-- Before the `k`-th condition the counter is `k`. -/
theorem At0_counter (c : Dev nD) (k : ℕ) : At0 m k c (Proc.devRef .tc main_v4_5) = fun _ => Scf.iv 0#32 1#32 k :=
  (atTrip_iterate cond0 body0 (Ent0 m) (Proc.devRef .tc main_v4_5) (fun x : IVec S_ 32 => addi x (constantI S_ 32 1#32))
    (fun X => cond0_keep X (by decide)) body0_counter c k).trans
    ((congrArg _ (Ent0_counter m c)).trans (counter_at k))
theorem At0_keep (c : Dev nD) {b : Ref sig .tc} (hc : b ∉ cond0_W) (hb : b ∉ body0_W) (k : ℕ) :
    At0 m k c (Proc.devRef .tc b) = Ent0 m c (Proc.devRef .tc b) :=
  atTrip_keep cond0 body0 (Ent0 m) _ (fun X => cond0_keep X hc) (fun X => body0_keep X hb) c k
theorem cond0_spec : LoopCond (pcfgs (F := F)) defs₀ 𝒱₀ loops Rc (main_while0_cond (F := F)) cond0 body0 (Ent0 m) 24 :=
  loopCond _ _ _ _ _ _ _ _ _ _ _ rfl (by decide) _ (by unfold main_while0_cond; simp only [bind_pure]) _ _ 24 fun k hk c => by
    show IntOp.cmpi .slt ((At0 m k c (Proc.devRef .tc main_v4_5) : IVec S_ 32) HostLoop.idx0) 24#32 = 1#1 ↔ k < 24
    rw [At0_counter m c k]
    exact Scf.cmpi_slt_iv_ub_iff (lb := 0#32) (ub := 24#32) (st := 1#32) (by decide) (show k ≤ Scf.trips 0#32 24#32 1#32 from hk)

/-- The buffers when loop 1 is entered, before its `k`-th condition, and after it. -/
abbrev Ent1 (c : Dev nD) : Valuation τ sig (Elt F) := afterL mid (Ex0 m c)
abbrev At1 (k : ℕ) (c : Dev nD) : Valuation τ sig (Elt F) := atTrip cond1 body1 (Ent1 m) k c
abbrev Ex1 (c : Dev nD) : Valuation τ sig (Elt F) := after cond1 (At1 m 24 c)
theorem Ent1_counter (c : Dev nD) : Ent1 m c (Proc.devRef .tc main_v9_5) = fun _ => (0#32 : BitVec 32) := by
  simp only [Ent1, afterL_cons, afterL_nil]
  after_results
  rfl
/-- Before the `k`-th condition the counter is `k`. -/
theorem At1_counter (c : Dev nD) (k : ℕ) : At1 m k c (Proc.devRef .tc main_v9_5) = fun _ => Scf.iv 0#32 1#32 k :=
  (atTrip_iterate cond1 body1 (Ent1 m) (Proc.devRef .tc main_v9_5) (fun x : IVec S_ 32 => addi x (constantI S_ 32 1#32))
    (fun X => cond1_keep X (by decide)) body1_counter c k).trans
    ((congrArg _ (Ent1_counter m c)).trans (counter_at k))
theorem At1_keep (c : Dev nD) {b : Ref sig .tc} (hc : b ∉ cond1_W) (hb : b ∉ body1_W) (k : ℕ) :
    At1 m k c (Proc.devRef .tc b) = Ent1 m c (Proc.devRef .tc b) :=
  atTrip_keep cond1 body1 (Ent1 m) _ (fun X => cond1_keep X hc) (fun X => body1_keep X hb) c k
theorem cond1_spec : LoopCond (pcfgs (F := F)) defs₀ 𝒱₀ loops Rc (main_while1_cond (F := F)) cond1 body1 (Ent1 m) 24 :=
  loopCond _ _ _ _ _ _ _ _ _ _ _ rfl (by decide) _ (by unfold main_while1_cond; simp only [bind_pure]) _ _ 24 fun k hk c => by
    show IntOp.cmpi .slt ((At1 m k c (Proc.devRef .tc main_v9_5) : IVec S_ 32) HostLoop.idx0) 24#32 = 1#1 ↔ k < 24
    rw [At1_counter m c k]
    exact Scf.cmpi_slt_iv_ub_iff (lb := 0#32) (ub := 24#32) (st := 1#32) (by decide) (show k ≤ Scf.trips 0#32 24#32 1#32 from hk)

/-- The buffers when the keys are known, and at the end. -/
abbrev V (c : Dev nD) : Valuation τ sig (Elt F) := afterL keys (Ex1 m c)
abbrev End (c : Dev nD) : Valuation τ sig (Elt F) := afterL tail (V m c)

/-- The arguments are written nowhere. -/
theorem Ex0_args (c : Dev nD) : ∀ a ∈ argRefs, Ex0 m c (Proc.devRef .tc a) = m ((c : Thread nD τ).loc a) := fun a ha =>
  (cond0_keep _ ((by decide : ∀ a ∈ argRefs, a ∉ cond0_W) a ha)).trans <|
    (At0_keep m c ((by decide : ∀ a ∈ argRefs, a ∉ cond0_W) a ha) ((by decide : ∀ a ∈ argRefs, a ∉ body0_W) a ha) 24).trans <|
      pre_keep _ ((by decide : ∀ a ∈ argRefs, a ∉ pre_W) a ha)
theorem Ex1_args (c : Dev nD) : ∀ a ∈ argRefs, Ex1 m c (Proc.devRef .tc a) = m ((c : Thread nD τ).loc a) := fun a ha =>
  (cond1_keep _ ((by decide : ∀ a ∈ argRefs, a ∉ cond1_W) a ha)).trans <|
    (At1_keep m c ((by decide : ∀ a ∈ argRefs, a ∉ cond1_W) a ha) ((by decide : ∀ a ∈ argRefs, a ∉ body1_W) a ha) 24).trans <|
      (mid_keep _ ((by decide : ∀ a ∈ argRefs, a ∉ mid_W) a ha)).trans (Ex0_args m c a ha)
theorem V_args (c : Dev nD) : ∀ a ∈ argRefs, V m c (Proc.devRef .tc a) = m ((c : Thread nD τ).loc a) := fun a ha =>
  (keys_keep _ ((by decide : ∀ a ∈ argRefs, a ∉ keys_W) a ha)).trans (Ex1_args m c a ha)
theorem End_args (c : Dev nD) : ∀ a ∈ argRefs, End m c (Proc.devRef .tc a) = m ((c : Thread nD τ).loc a) := fun a ha =>
  (tail_keep _ ((by decide : ∀ a ∈ argRefs, a ∉ tail_W) a ha)).trans (V_args m c a ha)

/-! ## The segments -/

abbrev Seg : Type 1 := CSeg (pcfgs (F := F)) adm defs₀ 𝒱₀ L lv loops tk

/-- A stretch of host operations entered at `W`. -/
abbrev stretch (ops : List (HloOp τ sig (Elt F))) (h : Plain [ops]) (W : Dev nD → Valuation τ sig (Elt F)) : Seg (F := F) :=
  CSeg.ofOps _ _ _ _ _ _ _ _ (ucRefs τ sig) ops (fun op hop => sub_ucRefs op ((h ops List.mem_cons_self).1 op hop))
    (h ops List.mem_cons_self).2 W Rc
abbrev loop0 : Seg (F := F) := loopSeg _ _ _ _ _ _ _ _ 0 (main_while0_cond (F := F)) (main_while0_body (F := F)) rfl cond0 body0 body0_plain
  (by rw [while0_body_chain]; rfl) 24 (Ent0 m) Rc (cond0_spec m)
abbrev loop1 : Seg (F := F) := loopSeg _ _ _ _ _ _ _ _ 1 (main_while1_cond (F := F)) (main_while1_body (F := F)) rfl cond1 body1 body1_plain
  (by rw [while1_body_chain]; rfl) 24 (Ent1 m) Rc (cond1_spec m)

abbrev segs : List (Seg (F := F)) :=
  [ stretch hostOps0 (.cons hostOps0_sub .nil) (launchContents m), loop0 m,
    stretch hostOps0_1 (.cons hostOps0_1_sub .nil) (Ex0 m), loop1 m,
    stretch hostOps0_2 (.cons hostOps0_2_sub .nil) (fun c => afterL [] (Ex1 m c)),
    stretch hostOps0_3 (.cons hostOps0_3_sub .nil) (fun c => afterL [hostOps0_2] (Ex1 m c)),
    stretch hostOps0_4 (.cons hostOps0_4_sub .nil) (fun c => afterL [hostOps0_2, hostOps0_3] (Ex1 m c)),
    stretch hostOps0_5 (.cons hostOps0_5_sub .nil) (fun c => afterL [hostOps0_2, hostOps0_3, hostOps0_4] (Ex1 m c)),
    stretch hostOps0_6 (.cons hostOps0_6_sub .nil) (fun c => afterL [hostOps0_2, hostOps0_3, hostOps0_4, hostOps0_5] (Ex1 m c)),
    stretch hostOps0_7 (.cons hostOps0_7_sub .nil) (fun c => afterL [hostOps0_2, hostOps0_3, hostOps0_4, hostOps0_5, hostOps0_6] (Ex1 m c)),
    stretch hostOps0_8 (.cons hostOps0_8_sub .nil) (fun c => afterL [hostOps0_2, hostOps0_3, hostOps0_4, hostOps0_5, hostOps0_6, hostOps0_7] (Ex1 m c)),
    stretch hostOps0_9 (.cons hostOps0_9_sub .nil) (fun c => afterL [hostOps0_2, hostOps0_3, hostOps0_4, hostOps0_5, hostOps0_6, hostOps0_7, hostOps0_8] (Ex1 m c)),
    stretch hostOps0_10 (.cons hostOps0_10_sub .nil) (fun c => afterL [hostOps0_2, hostOps0_3, hostOps0_4, hostOps0_5, hostOps0_6, hostOps0_7, hostOps0_8, hostOps0_9] (Ex1 m c)),
    stretch hostOps0_11 (.cons hostOps0_11_sub .nil) (fun c => afterL [hostOps0_2, hostOps0_3, hostOps0_4, hostOps0_5, hostOps0_6, hostOps0_7, hostOps0_8, hostOps0_9, hostOps0_10] (Ex1 m c)),
    stretch hostOps0_12 (.cons hostOps0_12_sub .nil) (fun c => afterL [hostOps0_2, hostOps0_3, hostOps0_4, hostOps0_5, hostOps0_6, hostOps0_7, hostOps0_8, hostOps0_9, hostOps0_10, hostOps0_11] (Ex1 m c)) ]

theorem main_run (c : Dev nD) : main (F := F) c = CSeg.runL (segs m) := (main_chain c).trans (by chain_rfl)
theorem no_call : Function.Injective (Pipeline.cellOf (nD := nD) (τ := τ) (Pipeline.pin (pcfgs (F := F)) adm)) := fun p _ _ => p.1.elim0

/-! ## The run -/

-- the kit's implicit arguments are found by unfolding plain definitions
set_option backward.isDefEq.respectTransparency.types false in
/-- Every weakly fair execution terminates, with every unscoped buffer at `End` and every counter at zero. -/
theorem run_main (g : Dev nD → PrngReg) : θ_run defs (onTc (τ := τ) (main (F := F))) ⟨m, fun _ => 0, g⟩
    (fun r => (∀ (c : Dev nD), ∀ b ∈ ucRefs τ sig, r.2.mem ((c : Dev nD), b) = End m c b) ∧ r.2.sem = fun _ => 0) :=
  Pipeline.θ_run_regions_loop_kit_sems (pcfgs (F := F)) adm no_call defs₀ 𝒱₀ L lv loops tk m g main (segs m)
    (fun c Q => by rw [main_run m c]) (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      iapply (emp_dealt (nD := nD))
      iempintro)
    (T₀ := fun c => iprop(held (c : Thread nD τ) (ucRefs τ sig) (launchContents m c) ∗ Rc c))
    (Tₙ := fun c => held (c : Thread nD τ) (ucRefs τ sig) (End m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := init_held L lv m g)
    (QY := fun c s => ∀ b ∈ ucRefs τ sig, s.mem ((c : Dev nD), b) = End m c b)
    (hfin := fun c s' => read_held c (End m c) s')
    (hQ := fun s h hz => ⟨h, sem_eq_zero_of_no_sems (by decide) _⟩)

/-- THE FRAME, at any float values. -/
theorem frame (g : Dev nD → PrngReg) : θ_run defs (onTc (τ := τ) (main (F := F))) ⟨m, fun _ => 0, g⟩
    (fun r => (∀ c : Dev nD, ∀ a ∈ argRefs, r.2.mem ((c : Thread nD τ).loc a) = m ((c : Thread nD τ).loc a)) ∧ r.2.sem = fun _ => 0) :=
  (θ_run defs _ _).mono (fun _ h => ⟨fun c a ha => (h.1 c _ (devRef_mem_ucRefs a ((by decide : ∀ a ∈ argRefs, (Proc.devRef .tc a : DevRef τ sig).isScoped = false) a ha))).trans (End_args m c a ha), h.2⟩) (run_main m g)

end Cert.ReferenceIdeal.Run

end
-- ==== Proof.Same.lean ====
/-
  THE TWO PROGRAMS, SIDE BY SIDE, UP TO THE KEYS. Both run the same recurrences and the same layer norm, on buffers of their own.
  From equal arguments their carried buffers agree after every trip of each loop, and so do the keys.
-/
module

public import proofs.«01_k».proof.Proof.KernelRun
public import proofs.«01_k».proof.Proof.RefRun

@[expose] public section

set_option maxRecDepth 16384

noncomputable section

namespace Cert.Same

open Idealize.ShloMosaic Idealize.ShloMosaic.TcCoe Idealize.ShloMosaic.StableHlo

variable {F : FTy → Type} [FloatOps F]

/-- The contents of the kernel's buffers, and of the reference's. -/
abbrev KVal (F : FTy → Type) : Type := Valuation Cert.KernelIdeal.τ Cert.KernelIdeal.sig (Elt F)
abbrev RVal (F : FTy → Type) : Type := Valuation Cert.ReferenceIdeal.τ Cert.ReferenceIdeal.sig (Elt F)

/-- Equal arguments. -/
structure Inputs (X : KVal F) (Y : RVal F) : Prop where
  a0 : X (Proc.devRef .tc Cert.KernelIdeal.main_arg0) = Y (Proc.devRef .tc Cert.ReferenceIdeal.main_arg0)
  a1 : X (Proc.devRef .tc Cert.KernelIdeal.main_arg1) = Y (Proc.devRef .tc Cert.ReferenceIdeal.main_arg1)
  a2 : X (Proc.devRef .tc Cert.KernelIdeal.main_arg2) = Y (Proc.devRef .tc Cert.ReferenceIdeal.main_arg2)
  a3 : X (Proc.devRef .tc Cert.KernelIdeal.main_arg3) = Y (Proc.devRef .tc Cert.ReferenceIdeal.main_arg3)
  a4 : X (Proc.devRef .tc Cert.KernelIdeal.main_arg4) = Y (Proc.devRef .tc Cert.ReferenceIdeal.main_arg4)
  a5 : X (Proc.devRef .tc Cert.KernelIdeal.main_arg5) = Y (Proc.devRef .tc Cert.ReferenceIdeal.main_arg5)
  a6 : X (Proc.devRef .tc Cert.KernelIdeal.main_arg6) = Y (Proc.devRef .tc Cert.ReferenceIdeal.main_arg6)
  a7 : X (Proc.devRef .tc Cert.KernelIdeal.main_arg7) = Y (Proc.devRef .tc Cert.ReferenceIdeal.main_arg7)
  a8 : X (Proc.devRef .tc Cert.KernelIdeal.main_arg8) = Y (Proc.devRef .tc Cert.ReferenceIdeal.main_arg8)
  a9 : X (Proc.devRef .tc Cert.KernelIdeal.main_arg9) = Y (Proc.devRef .tc Cert.ReferenceIdeal.main_arg9)
  a10 : X (Proc.devRef .tc Cert.KernelIdeal.main_arg10) = Y (Proc.devRef .tc Cert.ReferenceIdeal.main_arg10)
  a11 : X (Proc.devRef .tc Cert.KernelIdeal.main_arg11) = Y (Proc.devRef .tc Cert.ReferenceIdeal.main_arg11)
  a12 : X (Proc.devRef .tc Cert.KernelIdeal.main_arg12) = Y (Proc.devRef .tc Cert.ReferenceIdeal.main_arg12)
  a13 : X (Proc.devRef .tc Cert.KernelIdeal.main_arg13) = Y (Proc.devRef .tc Cert.ReferenceIdeal.main_arg13)

/-- Contents that keep these buffers still agree on them. -/
theorem Inputs.keep {X X' : KVal F} {Y Y' : RVal F} (h : Inputs X Y)
    (hX : ∀ b ∈ ([Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12, Cert.KernelIdeal.main_arg13] : List (Ref Cert.KernelIdeal.sig .tc)), X' (Proc.devRef .tc b) = X (Proc.devRef .tc b))
    (hY : ∀ b ∈ ([Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13] : List (Ref Cert.ReferenceIdeal.sig .tc)), Y' (Proc.devRef .tc b) = Y (Proc.devRef .tc b)) : Inputs X' Y' where
  a0 := (hX _ (by decide)).trans (h.a0.trans (hY _ (by decide)).symm)
  a1 := (hX _ (by decide)).trans (h.a1.trans (hY _ (by decide)).symm)
  a2 := (hX _ (by decide)).trans (h.a2.trans (hY _ (by decide)).symm)
  a3 := (hX _ (by decide)).trans (h.a3.trans (hY _ (by decide)).symm)
  a4 := (hX _ (by decide)).trans (h.a4.trans (hY _ (by decide)).symm)
  a5 := (hX _ (by decide)).trans (h.a5.trans (hY _ (by decide)).symm)
  a6 := (hX _ (by decide)).trans (h.a6.trans (hY _ (by decide)).symm)
  a7 := (hX _ (by decide)).trans (h.a7.trans (hY _ (by decide)).symm)
  a8 := (hX _ (by decide)).trans (h.a8.trans (hY _ (by decide)).symm)
  a9 := (hX _ (by decide)).trans (h.a9.trans (hY _ (by decide)).symm)
  a10 := (hX _ (by decide)).trans (h.a10.trans (hY _ (by decide)).symm)
  a11 := (hX _ (by decide)).trans (h.a11.trans (hY _ (by decide)).symm)
  a12 := (hX _ (by decide)).trans (h.a12.trans (hY _ (by decide)).symm)
  a13 := (hX _ (by decide)).trans (h.a13.trans (hY _ (by decide)).symm)

/-- Equal carried buffers of loop 0: the inputs, the weights, the counter, the state, the outputs so far. -/
structure Carried0 (X : KVal F) (Y : RVal F) : Prop where
  c0 : X (Proc.devRef .tc Cert.KernelIdeal.main_v4_0) = Y (Proc.devRef .tc Cert.ReferenceIdeal.main_v4_0)
  c1 : X (Proc.devRef .tc Cert.KernelIdeal.main_v4_1) = Y (Proc.devRef .tc Cert.ReferenceIdeal.main_v4_1)
  c2 : X (Proc.devRef .tc Cert.KernelIdeal.main_v4_2) = Y (Proc.devRef .tc Cert.ReferenceIdeal.main_v4_2)
  c3 : X (Proc.devRef .tc Cert.KernelIdeal.main_v4_3) = Y (Proc.devRef .tc Cert.ReferenceIdeal.main_v4_3)
  c4 : X (Proc.devRef .tc Cert.KernelIdeal.main_v4_4) = Y (Proc.devRef .tc Cert.ReferenceIdeal.main_v4_4)
  c5 : X (Proc.devRef .tc Cert.KernelIdeal.main_v4_5) = Y (Proc.devRef .tc Cert.ReferenceIdeal.main_v4_5)
  c6 : X (Proc.devRef .tc Cert.KernelIdeal.main_v4_6) = Y (Proc.devRef .tc Cert.ReferenceIdeal.main_v4_6)
  c7 : X (Proc.devRef .tc Cert.KernelIdeal.main_v4_7) = Y (Proc.devRef .tc Cert.ReferenceIdeal.main_v4_7)

/-- Contents that keep these buffers still agree on them. -/
theorem Carried0.keep {X X' : KVal F} {Y Y' : RVal F} (h : Carried0 X Y)
    (hX : ∀ b ∈ ([Cert.KernelIdeal.main_v4_0, Cert.KernelIdeal.main_v4_1, Cert.KernelIdeal.main_v4_2, Cert.KernelIdeal.main_v4_3, Cert.KernelIdeal.main_v4_4, Cert.KernelIdeal.main_v4_5, Cert.KernelIdeal.main_v4_6, Cert.KernelIdeal.main_v4_7] : List (Ref Cert.KernelIdeal.sig .tc)), X' (Proc.devRef .tc b) = X (Proc.devRef .tc b))
    (hY : ∀ b ∈ ([Cert.ReferenceIdeal.main_v4_0, Cert.ReferenceIdeal.main_v4_1, Cert.ReferenceIdeal.main_v4_2, Cert.ReferenceIdeal.main_v4_3, Cert.ReferenceIdeal.main_v4_4, Cert.ReferenceIdeal.main_v4_5, Cert.ReferenceIdeal.main_v4_6, Cert.ReferenceIdeal.main_v4_7] : List (Ref Cert.ReferenceIdeal.sig .tc)), Y' (Proc.devRef .tc b) = Y (Proc.devRef .tc b)) : Carried0 X' Y' where
  c0 := (hX _ (by decide)).trans (h.c0.trans (hY _ (by decide)).symm)
  c1 := (hX _ (by decide)).trans (h.c1.trans (hY _ (by decide)).symm)
  c2 := (hX _ (by decide)).trans (h.c2.trans (hY _ (by decide)).symm)
  c3 := (hX _ (by decide)).trans (h.c3.trans (hY _ (by decide)).symm)
  c4 := (hX _ (by decide)).trans (h.c4.trans (hY _ (by decide)).symm)
  c5 := (hX _ (by decide)).trans (h.c5.trans (hY _ (by decide)).symm)
  c6 := (hX _ (by decide)).trans (h.c6.trans (hY _ (by decide)).symm)
  c7 := (hX _ (by decide)).trans (h.c7.trans (hY _ (by decide)).symm)

/-- Equal carried buffers of loop 1: the inputs, the weights, the counter, the state, the outputs so far. -/
structure Carried1 (X : KVal F) (Y : RVal F) : Prop where
  c0 : X (Proc.devRef .tc Cert.KernelIdeal.main_v9_0) = Y (Proc.devRef .tc Cert.ReferenceIdeal.main_v9_0)
  c1 : X (Proc.devRef .tc Cert.KernelIdeal.main_v9_1) = Y (Proc.devRef .tc Cert.ReferenceIdeal.main_v9_1)
  c2 : X (Proc.devRef .tc Cert.KernelIdeal.main_v9_2) = Y (Proc.devRef .tc Cert.ReferenceIdeal.main_v9_2)
  c3 : X (Proc.devRef .tc Cert.KernelIdeal.main_v9_3) = Y (Proc.devRef .tc Cert.ReferenceIdeal.main_v9_3)
  c4 : X (Proc.devRef .tc Cert.KernelIdeal.main_v9_4) = Y (Proc.devRef .tc Cert.ReferenceIdeal.main_v9_4)
  c5 : X (Proc.devRef .tc Cert.KernelIdeal.main_v9_5) = Y (Proc.devRef .tc Cert.ReferenceIdeal.main_v9_5)
  c6 : X (Proc.devRef .tc Cert.KernelIdeal.main_v9_6) = Y (Proc.devRef .tc Cert.ReferenceIdeal.main_v9_6)
  c7 : X (Proc.devRef .tc Cert.KernelIdeal.main_v9_7) = Y (Proc.devRef .tc Cert.ReferenceIdeal.main_v9_7)

/-- Contents that keep these buffers still agree on them. -/
theorem Carried1.keep {X X' : KVal F} {Y Y' : RVal F} (h : Carried1 X Y)
    (hX : ∀ b ∈ ([Cert.KernelIdeal.main_v9_0, Cert.KernelIdeal.main_v9_1, Cert.KernelIdeal.main_v9_2, Cert.KernelIdeal.main_v9_3, Cert.KernelIdeal.main_v9_4, Cert.KernelIdeal.main_v9_5, Cert.KernelIdeal.main_v9_6, Cert.KernelIdeal.main_v9_7] : List (Ref Cert.KernelIdeal.sig .tc)), X' (Proc.devRef .tc b) = X (Proc.devRef .tc b))
    (hY : ∀ b ∈ ([Cert.ReferenceIdeal.main_v9_0, Cert.ReferenceIdeal.main_v9_1, Cert.ReferenceIdeal.main_v9_2, Cert.ReferenceIdeal.main_v9_3, Cert.ReferenceIdeal.main_v9_4, Cert.ReferenceIdeal.main_v9_5, Cert.ReferenceIdeal.main_v9_6, Cert.ReferenceIdeal.main_v9_7] : List (Ref Cert.ReferenceIdeal.sig .tc)), Y' (Proc.devRef .tc b) = Y (Proc.devRef .tc b)) : Carried1 X' Y' where
  c0 := (hX _ (by decide)).trans (h.c0.trans (hY _ (by decide)).symm)
  c1 := (hX _ (by decide)).trans (h.c1.trans (hY _ (by decide)).symm)
  c2 := (hX _ (by decide)).trans (h.c2.trans (hY _ (by decide)).symm)
  c3 := (hX _ (by decide)).trans (h.c3.trans (hY _ (by decide)).symm)
  c4 := (hX _ (by decide)).trans (h.c4.trans (hY _ (by decide)).symm)
  c5 := (hX _ (by decide)).trans (h.c5.trans (hY _ (by decide)).symm)
  c6 := (hX _ (by decide)).trans (h.c6.trans (hY _ (by decide)).symm)
  c7 := (hX _ (by decide)).trans (h.c7.trans (hY _ (by decide)).symm)

/-! ## One trip of loop 0 -/

/-- The trip's input row. -/
theorem row0 {X : KVal F} {Y : RVal F} (h : Carried0 X Y) :
    (after Cert.KernelIdeal.Gen.while0Ops0 X) (Proc.devRef .tc Cert.KernelIdeal.main_while0b_v48) = (after Cert.ReferenceIdeal.Stretches.while0Ops0 Y) (Proc.devRef .tc Cert.ReferenceIdeal.main_while0b_v91) := by
  simp only [Cert.KernelIdeal.Gen.while0Ops0, Cert.ReferenceIdeal.Stretches.while0Ops0, TRef.nullary, TRef.unary, TRef.unaryIndexed, TRef.binaryIndexed, TRef.reshape, TRef.of, TRef.toBuf, TRef.ofBuf, cast_eq]
  after_results_simp
  refine congrArg₂ (fun (x : FVec F Cert.ReferenceIdeal.S24x64 .f32) (i : Fin 2 → Int) => fun j =>
    shapeCast Cert.ReferenceIdeal.S64 (Host.dynamicSlice Cert.ReferenceIdeal.S1x64 x i Cert.ReferenceIdeal.Gen.sliceFits_S24x64_S1x64) Cert.ReferenceIdeal.Gen.shapeCasts_S1x64_S64 j) h.c0 (funext fun k => ?_)
  match k with
  | ⟨0, _⟩ =>
    exact congrArg (fun i : IVec Cert.ReferenceIdeal.S_ 32 => BitVec.toInt (i (Shape.Idx.first Cert.ReferenceIdeal.Gen.h_S_)))
      ((nullary_result_ne _ _ _ _ (r := Cert.KernelIdeal.main_v4_5) (by decide)).trans
        (h.c5.trans (nullary_result_ne _ _ _ _ (r := Cert.ReferenceIdeal.main_v4_5) (by decide)).symm))
  | ⟨1, _⟩ =>
    exact congrArg (fun i : IVec Cert.ReferenceIdeal.S_ 32 => BitVec.toInt (i (Shape.Idx.first Cert.ReferenceIdeal.Gen.h_S_)))
      ((nullary_result (Val := Elt F) (τ := Cert.KernelIdeal.τ) Cert.KernelIdeal.main_while0b_call0_c (constantI Cert.KernelIdeal.S_ 32 0#32) _ _).trans
        (nullary_result (Val := Elt F) (τ := Cert.ReferenceIdeal.τ) Cert.ReferenceIdeal.main_while0b_call0_c (constantI Cert.ReferenceIdeal.S_ 32 0#32) _ _).symm)

/-- The new state. -/
theorem cell0 {X : KVal F} {Y : RVal F} (h : Carried0 X Y) (hr : X (Proc.devRef .tc Cert.KernelIdeal.main_while0b_v48) = Y (Proc.devRef .tc Cert.ReferenceIdeal.main_while0b_v91)) :
    (after Cert.KernelIdeal.Gen.while0Ops0_1 X) (Proc.devRef .tc Cert.KernelIdeal.main_while0b_v80) = (after Cert.ReferenceIdeal.Stretches.while0Ops0_1 Y) (Proc.devRef .tc Cert.ReferenceIdeal.main_while0b_v123) := by
  after_results
  rw [hr, h.c1, h.c2, h.c3, h.c4, h.c6]
  rfl

/-- The outputs, the new state written at the counter. -/
theorem outs0 {X : KVal F} {Y : RVal F} (h : Carried0 X Y) (hs : X (Proc.devRef .tc Cert.KernelIdeal.main_while0b_v80) = Y (Proc.devRef .tc Cert.ReferenceIdeal.main_while0b_v123)) :
    (after Cert.KernelIdeal.Gen.while0Ops0_2 X) (Proc.devRef .tc Cert.KernelIdeal.main_while0b_v81) = (after Cert.ReferenceIdeal.Stretches.while0Ops0_2 Y) (Proc.devRef .tc Cert.ReferenceIdeal.main_while0b_v124) := by
  simp only [Cert.KernelIdeal.Gen.while0Ops0_2, Cert.ReferenceIdeal.Stretches.while0Ops0_2, TRef.nullary, TRef.unary, TRef.unaryIndexed, TRef.binaryIndexed, TRef.reshape, TRef.of, TRef.toBuf, TRef.ofBuf, cast_eq]
  after_results_simp
  rw [hs, h.c7]
  refine congrArg (fun i : Fin 2 → Int => Host.dynamicUpdateSlice (Y (Proc.devRef .tc Cert.ReferenceIdeal.main_v4_7))
    (broadcastInDim Cert.ReferenceIdeal.S1x128 ![1] Cert.ReferenceIdeal.Gen.bcast_S128_S1x128_1 (Y (Proc.devRef .tc Cert.ReferenceIdeal.main_while0b_v123))) i Cert.ReferenceIdeal.Gen.updateFits_S24x128_S1x128) (funext fun k => ?_)
  match k with
  | ⟨0, _⟩ =>
    exact congrArg (fun i : IVec Cert.ReferenceIdeal.S_ 32 => BitVec.toInt (i (Shape.Idx.first Cert.ReferenceIdeal.Gen.h_S_)))
      (((nullary_result_ne _ _ _ _ (r := Cert.KernelIdeal.main_v4_5) (by decide)).trans (unary_result_ne _ _ _ _ _ _ (r := Cert.KernelIdeal.main_v4_5) (by decide))).trans
        (h.c5.trans ((nullary_result_ne _ _ _ _ (r := Cert.ReferenceIdeal.main_v4_5) (by decide)).trans
          (unary_result_ne _ _ _ _ _ _ (r := Cert.ReferenceIdeal.main_v4_5) (by decide))).symm))
  | ⟨1, _⟩ =>
    exact congrArg (fun i : IVec Cert.ReferenceIdeal.S_ 32 => BitVec.toInt (i (Shape.Idx.first Cert.ReferenceIdeal.Gen.h_S_)))
      ((nullary_result (Val := Elt F) (τ := Cert.KernelIdeal.τ) Cert.KernelIdeal.main_while0b_call1_c (constantI Cert.KernelIdeal.S_ 32 0#32) _ _).trans
        (nullary_result (Val := Elt F) (τ := Cert.ReferenceIdeal.τ) Cert.ReferenceIdeal.main_while0b_call1_c (constantI Cert.ReferenceIdeal.S_ 32 0#32) _ _).symm)

/-! ## One trip of loop 1 -/

/-- The trip's input row. -/
theorem row1 {X : KVal F} {Y : RVal F} (h : Carried1 X Y) :
    (after Cert.KernelIdeal.Gen.while1Ops0 X) (Proc.devRef .tc Cert.KernelIdeal.main_while1b_v48) = (after Cert.ReferenceIdeal.Stretches.while1Ops0 Y) (Proc.devRef .tc Cert.ReferenceIdeal.main_while1b_v91) := by
  simp only [Cert.KernelIdeal.Gen.while1Ops0, Cert.ReferenceIdeal.Stretches.while1Ops0, TRef.nullary, TRef.unary, TRef.unaryIndexed, TRef.binaryIndexed, TRef.reshape, TRef.of, TRef.toBuf, TRef.ofBuf, cast_eq]
  after_results_simp
  refine congrArg₂ (fun (x : FVec F Cert.ReferenceIdeal.S24x64 .f32) (i : Fin 2 → Int) => fun j =>
    shapeCast Cert.ReferenceIdeal.S64 (Host.dynamicSlice Cert.ReferenceIdeal.S1x64 x i Cert.ReferenceIdeal.Gen.sliceFits_S24x64_S1x64) Cert.ReferenceIdeal.Gen.shapeCasts_S1x64_S64 j) h.c0 (funext fun k => ?_)
  match k with
  | ⟨0, _⟩ =>
    exact congrArg (fun i : IVec Cert.ReferenceIdeal.S_ 32 => BitVec.toInt (i (Shape.Idx.first Cert.ReferenceIdeal.Gen.h_S_)))
      ((nullary_result_ne _ _ _ _ (r := Cert.KernelIdeal.main_v9_5) (by decide)).trans
        (h.c5.trans (nullary_result_ne _ _ _ _ (r := Cert.ReferenceIdeal.main_v9_5) (by decide)).symm))
  | ⟨1, _⟩ =>
    exact congrArg (fun i : IVec Cert.ReferenceIdeal.S_ 32 => BitVec.toInt (i (Shape.Idx.first Cert.ReferenceIdeal.Gen.h_S_)))
      ((nullary_result (Val := Elt F) (τ := Cert.KernelIdeal.τ) Cert.KernelIdeal.main_while1b_call2_c (constantI Cert.KernelIdeal.S_ 32 0#32) _ _).trans
        (nullary_result (Val := Elt F) (τ := Cert.ReferenceIdeal.τ) Cert.ReferenceIdeal.main_while1b_call2_c (constantI Cert.ReferenceIdeal.S_ 32 0#32) _ _).symm)

/-- The new state. -/
theorem cell1 {X : KVal F} {Y : RVal F} (h : Carried1 X Y) (hr : X (Proc.devRef .tc Cert.KernelIdeal.main_while1b_v48) = Y (Proc.devRef .tc Cert.ReferenceIdeal.main_while1b_v91)) :
    (after Cert.KernelIdeal.Gen.while1Ops0_1 X) (Proc.devRef .tc Cert.KernelIdeal.main_while1b_v80) = (after Cert.ReferenceIdeal.Stretches.while1Ops0_1 Y) (Proc.devRef .tc Cert.ReferenceIdeal.main_while1b_v123) := by
  after_results
  rw [hr, h.c1, h.c2, h.c3, h.c4, h.c6]
  rfl

/-- The outputs, the new state written at the counter. -/
theorem outs1 {X : KVal F} {Y : RVal F} (h : Carried1 X Y) (hs : X (Proc.devRef .tc Cert.KernelIdeal.main_while1b_v80) = Y (Proc.devRef .tc Cert.ReferenceIdeal.main_while1b_v123)) :
    (after Cert.KernelIdeal.Gen.while1Ops0_2 X) (Proc.devRef .tc Cert.KernelIdeal.main_while1b_v81) = (after Cert.ReferenceIdeal.Stretches.while1Ops0_2 Y) (Proc.devRef .tc Cert.ReferenceIdeal.main_while1b_v124) := by
  simp only [Cert.KernelIdeal.Gen.while1Ops0_2, Cert.ReferenceIdeal.Stretches.while1Ops0_2, TRef.nullary, TRef.unary, TRef.unaryIndexed, TRef.binaryIndexed, TRef.reshape, TRef.of, TRef.toBuf, TRef.ofBuf, cast_eq]
  after_results_simp
  rw [hs, h.c7]
  refine congrArg (fun i : Fin 2 → Int => Host.dynamicUpdateSlice (Y (Proc.devRef .tc Cert.ReferenceIdeal.main_v9_7))
    (broadcastInDim Cert.ReferenceIdeal.S1x128 ![1] Cert.ReferenceIdeal.Gen.bcast_S128_S1x128_1 (Y (Proc.devRef .tc Cert.ReferenceIdeal.main_while1b_v123))) i Cert.ReferenceIdeal.Gen.updateFits_S24x128_S1x128) (funext fun k => ?_)
  match k with
  | ⟨0, _⟩ =>
    exact congrArg (fun i : IVec Cert.ReferenceIdeal.S_ 32 => BitVec.toInt (i (Shape.Idx.first Cert.ReferenceIdeal.Gen.h_S_)))
      (((nullary_result_ne _ _ _ _ (r := Cert.KernelIdeal.main_v9_5) (by decide)).trans (unary_result_ne _ _ _ _ _ _ (r := Cert.KernelIdeal.main_v9_5) (by decide))).trans
        (h.c5.trans ((nullary_result_ne _ _ _ _ (r := Cert.ReferenceIdeal.main_v9_5) (by decide)).trans
          (unary_result_ne _ _ _ _ _ _ (r := Cert.ReferenceIdeal.main_v9_5) (by decide))).symm))
  | ⟨1, _⟩ =>
    exact congrArg (fun i : IVec Cert.ReferenceIdeal.S_ 32 => BitVec.toInt (i (Shape.Idx.first Cert.ReferenceIdeal.Gen.h_S_)))
      ((nullary_result (Val := Elt F) (τ := Cert.KernelIdeal.τ) Cert.KernelIdeal.main_while1b_call3_c (constantI Cert.KernelIdeal.S_ 32 0#32) _ _).trans
        (nullary_result (Val := Elt F) (τ := Cert.ReferenceIdeal.τ) Cert.ReferenceIdeal.main_while1b_call3_c (constantI Cert.ReferenceIdeal.S_ 32 0#32) _ _).symm)

/-- The trip's last stretch carries the state and the outputs over. -/
theorem state0K (X : KVal F) : after Cert.KernelIdeal.Gen.while0Ops0_3 X (Proc.devRef .tc Cert.KernelIdeal.main_v4_6) = X (Proc.devRef .tc Cert.KernelIdeal.main_while0b_v80) := by
  after_results
  rfl
theorem kept0K (X : KVal F) : after Cert.KernelIdeal.Gen.while0Ops0_3 X (Proc.devRef .tc Cert.KernelIdeal.main_v4_7) = X (Proc.devRef .tc Cert.KernelIdeal.main_while0b_v81) := by
  after_results
  rfl
/-- The trip's last stretch carries the state and the outputs over. -/
theorem state0R (X : RVal F) : after Cert.ReferenceIdeal.Stretches.while0Ops0_3 X (Proc.devRef .tc Cert.ReferenceIdeal.main_v4_6) = X (Proc.devRef .tc Cert.ReferenceIdeal.main_while0b_v123) := by
  after_results
  rfl
theorem kept0R (X : RVal F) : after Cert.ReferenceIdeal.Stretches.while0Ops0_3 X (Proc.devRef .tc Cert.ReferenceIdeal.main_v4_7) = X (Proc.devRef .tc Cert.ReferenceIdeal.main_while0b_v124) := by
  after_results
  rfl
/-- Stretch 0 of the trip writes no carried buffer. -/
theorem carried0_0 {X : KVal F} {Y : RVal F} (h : Carried0 X Y) : Carried0 (after Cert.KernelIdeal.Gen.while0Ops0 X) (after Cert.ReferenceIdeal.Stretches.while0Ops0 Y) :=
  h.keep
    (fun b hb => after_of_writes_sub _ X (W := [Cert.KernelIdeal.main_while0b_call0_c, Cert.KernelIdeal.main_while0b_call0_v0, Cert.KernelIdeal.main_while0b_v48])
      (forall_writes_sub_of_map rfl) ((by decide : ∀ b ∈ ([Cert.KernelIdeal.main_v4_0, Cert.KernelIdeal.main_v4_1, Cert.KernelIdeal.main_v4_2, Cert.KernelIdeal.main_v4_3, Cert.KernelIdeal.main_v4_4, Cert.KernelIdeal.main_v4_5, Cert.KernelIdeal.main_v4_6, Cert.KernelIdeal.main_v4_7] : List (Ref Cert.KernelIdeal.sig .tc)), b ∉ ([Cert.KernelIdeal.main_while0b_call0_c, Cert.KernelIdeal.main_while0b_call0_v0, Cert.KernelIdeal.main_while0b_v48] : List (Ref Cert.KernelIdeal.sig .tc))) b hb))
    (fun b hb => after_of_writes_sub _ Y (W := [Cert.ReferenceIdeal.main_while0b_call0_c, Cert.ReferenceIdeal.main_while0b_call0_v0, Cert.ReferenceIdeal.main_while0b_v91])
      (forall_writes_sub_of_map rfl) ((by decide : ∀ b ∈ ([Cert.ReferenceIdeal.main_v4_0, Cert.ReferenceIdeal.main_v4_1, Cert.ReferenceIdeal.main_v4_2, Cert.ReferenceIdeal.main_v4_3, Cert.ReferenceIdeal.main_v4_4, Cert.ReferenceIdeal.main_v4_5, Cert.ReferenceIdeal.main_v4_6, Cert.ReferenceIdeal.main_v4_7] : List (Ref Cert.ReferenceIdeal.sig .tc)), b ∉ ([Cert.ReferenceIdeal.main_while0b_call0_c, Cert.ReferenceIdeal.main_while0b_call0_v0, Cert.ReferenceIdeal.main_while0b_v91] : List (Ref Cert.ReferenceIdeal.sig .tc))) b hb))
/-- Stretch 1 of the trip writes no carried buffer. -/
theorem carried0_1 {X : KVal F} {Y : RVal F} (h : Carried0 X Y) : Carried0 (after Cert.KernelIdeal.Gen.while0Ops0_1 X) (after Cert.ReferenceIdeal.Stretches.while0Ops0_1 Y) :=
  h.keep
    (fun b hb => after_of_writes_sub _ X (W := [Cert.KernelIdeal.main_while0b_v49, Cert.KernelIdeal.main_while0b_v50, Cert.KernelIdeal.main_while0b_v51, Cert.KernelIdeal.main_while0b_v52, Cert.KernelIdeal.main_while0b_v53, Cert.KernelIdeal.main_while0b_v54, Cert.KernelIdeal.main_while0b_v55, Cert.KernelIdeal.main_while0b_v56, Cert.KernelIdeal.main_while0b_v57, Cert.KernelIdeal.main_while0b_v58, Cert.KernelIdeal.main_while0b_v59, Cert.KernelIdeal.main_while0b_v60, Cert.KernelIdeal.main_while0b_v61, Cert.KernelIdeal.main_while0b_cst_16, Cert.KernelIdeal.main_while0b_v62, Cert.KernelIdeal.main_while0b_v63, Cert.KernelIdeal.main_while0b_cst_17, Cert.KernelIdeal.main_while0b_v64, Cert.KernelIdeal.main_while0b_v65, Cert.KernelIdeal.main_while0b_v66, Cert.KernelIdeal.main_while0b_v67, Cert.KernelIdeal.main_while0b_v68, Cert.KernelIdeal.main_while0b_cst_18, Cert.KernelIdeal.main_while0b_v69, Cert.KernelIdeal.main_while0b_v70, Cert.KernelIdeal.main_while0b_cst_19, Cert.KernelIdeal.main_while0b_v71, Cert.KernelIdeal.main_while0b_v72, Cert.KernelIdeal.main_while0b_v73, Cert.KernelIdeal.main_while0b_v74, Cert.KernelIdeal.main_while0b_v75, Cert.KernelIdeal.main_while0b_cst_20, Cert.KernelIdeal.main_while0b_v76, Cert.KernelIdeal.main_while0b_v77, Cert.KernelIdeal.main_while0b_v78, Cert.KernelIdeal.main_while0b_v79, Cert.KernelIdeal.main_while0b_v80])
      (forall_writes_sub_of_map rfl) ((by decide : ∀ b ∈ ([Cert.KernelIdeal.main_v4_0, Cert.KernelIdeal.main_v4_1, Cert.KernelIdeal.main_v4_2, Cert.KernelIdeal.main_v4_3, Cert.KernelIdeal.main_v4_4, Cert.KernelIdeal.main_v4_5, Cert.KernelIdeal.main_v4_6, Cert.KernelIdeal.main_v4_7] : List (Ref Cert.KernelIdeal.sig .tc)), b ∉ ([Cert.KernelIdeal.main_while0b_v49, Cert.KernelIdeal.main_while0b_v50, Cert.KernelIdeal.main_while0b_v51, Cert.KernelIdeal.main_while0b_v52, Cert.KernelIdeal.main_while0b_v53, Cert.KernelIdeal.main_while0b_v54, Cert.KernelIdeal.main_while0b_v55, Cert.KernelIdeal.main_while0b_v56, Cert.KernelIdeal.main_while0b_v57, Cert.KernelIdeal.main_while0b_v58, Cert.KernelIdeal.main_while0b_v59, Cert.KernelIdeal.main_while0b_v60, Cert.KernelIdeal.main_while0b_v61, Cert.KernelIdeal.main_while0b_cst_16, Cert.KernelIdeal.main_while0b_v62, Cert.KernelIdeal.main_while0b_v63, Cert.KernelIdeal.main_while0b_cst_17, Cert.KernelIdeal.main_while0b_v64, Cert.KernelIdeal.main_while0b_v65, Cert.KernelIdeal.main_while0b_v66, Cert.KernelIdeal.main_while0b_v67, Cert.KernelIdeal.main_while0b_v68, Cert.KernelIdeal.main_while0b_cst_18, Cert.KernelIdeal.main_while0b_v69, Cert.KernelIdeal.main_while0b_v70, Cert.KernelIdeal.main_while0b_cst_19, Cert.KernelIdeal.main_while0b_v71, Cert.KernelIdeal.main_while0b_v72, Cert.KernelIdeal.main_while0b_v73, Cert.KernelIdeal.main_while0b_v74, Cert.KernelIdeal.main_while0b_v75, Cert.KernelIdeal.main_while0b_cst_20, Cert.KernelIdeal.main_while0b_v76, Cert.KernelIdeal.main_while0b_v77, Cert.KernelIdeal.main_while0b_v78, Cert.KernelIdeal.main_while0b_v79, Cert.KernelIdeal.main_while0b_v80] : List (Ref Cert.KernelIdeal.sig .tc))) b hb))
    (fun b hb => after_of_writes_sub _ Y (W := [Cert.ReferenceIdeal.main_while0b_v92, Cert.ReferenceIdeal.main_while0b_v93, Cert.ReferenceIdeal.main_while0b_v94, Cert.ReferenceIdeal.main_while0b_v95, Cert.ReferenceIdeal.main_while0b_v96, Cert.ReferenceIdeal.main_while0b_v97, Cert.ReferenceIdeal.main_while0b_v98, Cert.ReferenceIdeal.main_while0b_v99, Cert.ReferenceIdeal.main_while0b_v100, Cert.ReferenceIdeal.main_while0b_v101, Cert.ReferenceIdeal.main_while0b_v102, Cert.ReferenceIdeal.main_while0b_v103, Cert.ReferenceIdeal.main_while0b_v104, Cert.ReferenceIdeal.main_while0b_cst_25, Cert.ReferenceIdeal.main_while0b_v105, Cert.ReferenceIdeal.main_while0b_v106, Cert.ReferenceIdeal.main_while0b_cst_26, Cert.ReferenceIdeal.main_while0b_v107, Cert.ReferenceIdeal.main_while0b_v108, Cert.ReferenceIdeal.main_while0b_v109, Cert.ReferenceIdeal.main_while0b_v110, Cert.ReferenceIdeal.main_while0b_v111, Cert.ReferenceIdeal.main_while0b_cst_27, Cert.ReferenceIdeal.main_while0b_v112, Cert.ReferenceIdeal.main_while0b_v113, Cert.ReferenceIdeal.main_while0b_cst_28, Cert.ReferenceIdeal.main_while0b_v114, Cert.ReferenceIdeal.main_while0b_v115, Cert.ReferenceIdeal.main_while0b_v116, Cert.ReferenceIdeal.main_while0b_v117, Cert.ReferenceIdeal.main_while0b_v118, Cert.ReferenceIdeal.main_while0b_cst_29, Cert.ReferenceIdeal.main_while0b_v119, Cert.ReferenceIdeal.main_while0b_v120, Cert.ReferenceIdeal.main_while0b_v121, Cert.ReferenceIdeal.main_while0b_v122, Cert.ReferenceIdeal.main_while0b_v123])
      (forall_writes_sub_of_map rfl) ((by decide : ∀ b ∈ ([Cert.ReferenceIdeal.main_v4_0, Cert.ReferenceIdeal.main_v4_1, Cert.ReferenceIdeal.main_v4_2, Cert.ReferenceIdeal.main_v4_3, Cert.ReferenceIdeal.main_v4_4, Cert.ReferenceIdeal.main_v4_5, Cert.ReferenceIdeal.main_v4_6, Cert.ReferenceIdeal.main_v4_7] : List (Ref Cert.ReferenceIdeal.sig .tc)), b ∉ ([Cert.ReferenceIdeal.main_while0b_v92, Cert.ReferenceIdeal.main_while0b_v93, Cert.ReferenceIdeal.main_while0b_v94, Cert.ReferenceIdeal.main_while0b_v95, Cert.ReferenceIdeal.main_while0b_v96, Cert.ReferenceIdeal.main_while0b_v97, Cert.ReferenceIdeal.main_while0b_v98, Cert.ReferenceIdeal.main_while0b_v99, Cert.ReferenceIdeal.main_while0b_v100, Cert.ReferenceIdeal.main_while0b_v101, Cert.ReferenceIdeal.main_while0b_v102, Cert.ReferenceIdeal.main_while0b_v103, Cert.ReferenceIdeal.main_while0b_v104, Cert.ReferenceIdeal.main_while0b_cst_25, Cert.ReferenceIdeal.main_while0b_v105, Cert.ReferenceIdeal.main_while0b_v106, Cert.ReferenceIdeal.main_while0b_cst_26, Cert.ReferenceIdeal.main_while0b_v107, Cert.ReferenceIdeal.main_while0b_v108, Cert.ReferenceIdeal.main_while0b_v109, Cert.ReferenceIdeal.main_while0b_v110, Cert.ReferenceIdeal.main_while0b_v111, Cert.ReferenceIdeal.main_while0b_cst_27, Cert.ReferenceIdeal.main_while0b_v112, Cert.ReferenceIdeal.main_while0b_v113, Cert.ReferenceIdeal.main_while0b_cst_28, Cert.ReferenceIdeal.main_while0b_v114, Cert.ReferenceIdeal.main_while0b_v115, Cert.ReferenceIdeal.main_while0b_v116, Cert.ReferenceIdeal.main_while0b_v117, Cert.ReferenceIdeal.main_while0b_v118, Cert.ReferenceIdeal.main_while0b_cst_29, Cert.ReferenceIdeal.main_while0b_v119, Cert.ReferenceIdeal.main_while0b_v120, Cert.ReferenceIdeal.main_while0b_v121, Cert.ReferenceIdeal.main_while0b_v122, Cert.ReferenceIdeal.main_while0b_v123] : List (Ref Cert.ReferenceIdeal.sig .tc))) b hb))
/-- Stretch 2 of the trip writes no carried buffer. -/
theorem carried0_2 {X : KVal F} {Y : RVal F} (h : Carried0 X Y) : Carried0 (after Cert.KernelIdeal.Gen.while0Ops0_2 X) (after Cert.ReferenceIdeal.Stretches.while0Ops0_2 Y) :=
  h.keep
    (fun b hb => after_of_writes_sub _ X (W := [Cert.KernelIdeal.main_while0b_call1_v0, Cert.KernelIdeal.main_while0b_call1_c, Cert.KernelIdeal.main_while0b_v81])
      (forall_writes_sub_of_map rfl) ((by decide : ∀ b ∈ ([Cert.KernelIdeal.main_v4_0, Cert.KernelIdeal.main_v4_1, Cert.KernelIdeal.main_v4_2, Cert.KernelIdeal.main_v4_3, Cert.KernelIdeal.main_v4_4, Cert.KernelIdeal.main_v4_5, Cert.KernelIdeal.main_v4_6, Cert.KernelIdeal.main_v4_7] : List (Ref Cert.KernelIdeal.sig .tc)), b ∉ ([Cert.KernelIdeal.main_while0b_call1_v0, Cert.KernelIdeal.main_while0b_call1_c, Cert.KernelIdeal.main_while0b_v81] : List (Ref Cert.KernelIdeal.sig .tc))) b hb))
    (fun b hb => after_of_writes_sub _ Y (W := [Cert.ReferenceIdeal.main_while0b_call1_v0, Cert.ReferenceIdeal.main_while0b_call1_c, Cert.ReferenceIdeal.main_while0b_v124])
      (forall_writes_sub_of_map rfl) ((by decide : ∀ b ∈ ([Cert.ReferenceIdeal.main_v4_0, Cert.ReferenceIdeal.main_v4_1, Cert.ReferenceIdeal.main_v4_2, Cert.ReferenceIdeal.main_v4_3, Cert.ReferenceIdeal.main_v4_4, Cert.ReferenceIdeal.main_v4_5, Cert.ReferenceIdeal.main_v4_6, Cert.ReferenceIdeal.main_v4_7] : List (Ref Cert.ReferenceIdeal.sig .tc)), b ∉ ([Cert.ReferenceIdeal.main_while0b_call1_v0, Cert.ReferenceIdeal.main_while0b_call1_c, Cert.ReferenceIdeal.main_while0b_v124] : List (Ref Cert.ReferenceIdeal.sig .tc))) b hb))

/-- One trip keeps the carried buffers equal. -/
theorem trip0 {X : KVal F} {Y : RVal F} (h : Carried0 X Y) :
    Carried0 (afterL Cert.KernelIdeal.Run.body0 X) (afterL Cert.ReferenceIdeal.Run.body0 Y) := by
  have h1 := carried0_0 h
  have h2 := carried0_1 h1
  have hs := cell0 h1 (row0 h)
  have ho := outs0 h2 hs
  constructor
  · exact (Cert.KernelIdeal.Run.body0_keep X (by decide)).trans (h.c0.trans (Cert.ReferenceIdeal.Run.body0_keep Y (by decide)).symm)
  · exact (Cert.KernelIdeal.Run.body0_keep X (by decide)).trans (h.c1.trans (Cert.ReferenceIdeal.Run.body0_keep Y (by decide)).symm)
  · exact (Cert.KernelIdeal.Run.body0_keep X (by decide)).trans (h.c2.trans (Cert.ReferenceIdeal.Run.body0_keep Y (by decide)).symm)
  · exact (Cert.KernelIdeal.Run.body0_keep X (by decide)).trans (h.c3.trans (Cert.ReferenceIdeal.Run.body0_keep Y (by decide)).symm)
  · exact (Cert.KernelIdeal.Run.body0_keep X (by decide)).trans (h.c4.trans (Cert.ReferenceIdeal.Run.body0_keep Y (by decide)).symm)
  · exact (Cert.KernelIdeal.Run.body0_counter X).trans ((congrArg (fun x : IVec Cert.ReferenceIdeal.S_ 32 => addi x (constantI Cert.ReferenceIdeal.S_ 32 1#32)) h.c5).trans
      (Cert.ReferenceIdeal.Run.body0_counter Y).symm)
  · exact (state0K _).trans ((after_of_writes_sub _ _ (W := [Cert.KernelIdeal.main_while0b_call1_v0, Cert.KernelIdeal.main_while0b_call1_c, Cert.KernelIdeal.main_while0b_v81]) (forall_writes_sub_of_map rfl) (by decide)).trans
      (hs.trans ((state0R _).trans (after_of_writes_sub _ _ (W := [Cert.ReferenceIdeal.main_while0b_call1_v0, Cert.ReferenceIdeal.main_while0b_call1_c, Cert.ReferenceIdeal.main_while0b_v124]) (forall_writes_sub_of_map rfl) (by decide))).symm))
  · exact (kept0K _).trans (ho.trans (kept0R _).symm)

/-- The loop's test writes no carried buffer. -/
theorem test0 {X : KVal F} {Y : RVal F} (h : Carried0 X Y) :
    Carried0 (after Cert.KernelIdeal.Run.cond0 X) (after Cert.ReferenceIdeal.Run.cond0 Y) :=
  h.keep (fun b hb => Cert.KernelIdeal.Run.cond0_keep X ((by decide : ∀ b ∈ ([Cert.KernelIdeal.main_v4_0, Cert.KernelIdeal.main_v4_1, Cert.KernelIdeal.main_v4_2, Cert.KernelIdeal.main_v4_3, Cert.KernelIdeal.main_v4_4, Cert.KernelIdeal.main_v4_5, Cert.KernelIdeal.main_v4_6, Cert.KernelIdeal.main_v4_7] : List (Ref Cert.KernelIdeal.sig .tc)), b ∉ Cert.KernelIdeal.Run.cond0_W) b hb))
    (fun b hb => Cert.ReferenceIdeal.Run.cond0_keep Y ((by decide : ∀ b ∈ ([Cert.ReferenceIdeal.main_v4_0, Cert.ReferenceIdeal.main_v4_1, Cert.ReferenceIdeal.main_v4_2, Cert.ReferenceIdeal.main_v4_3, Cert.ReferenceIdeal.main_v4_4, Cert.ReferenceIdeal.main_v4_5, Cert.ReferenceIdeal.main_v4_6, Cert.ReferenceIdeal.main_v4_7] : List (Ref Cert.ReferenceIdeal.sig .tc)), b ∉ Cert.ReferenceIdeal.Run.cond0_W) b hb))

/-- The trip's last stretch carries the state and the outputs over. -/
theorem state1K (X : KVal F) : after Cert.KernelIdeal.Gen.while1Ops0_3 X (Proc.devRef .tc Cert.KernelIdeal.main_v9_6) = X (Proc.devRef .tc Cert.KernelIdeal.main_while1b_v80) := by
  after_results
  rfl
theorem kept1K (X : KVal F) : after Cert.KernelIdeal.Gen.while1Ops0_3 X (Proc.devRef .tc Cert.KernelIdeal.main_v9_7) = X (Proc.devRef .tc Cert.KernelIdeal.main_while1b_v81) := by
  after_results
  rfl
/-- The trip's last stretch carries the state and the outputs over. -/
theorem state1R (X : RVal F) : after Cert.ReferenceIdeal.Stretches.while1Ops0_3 X (Proc.devRef .tc Cert.ReferenceIdeal.main_v9_6) = X (Proc.devRef .tc Cert.ReferenceIdeal.main_while1b_v123) := by
  after_results
  rfl
theorem kept1R (X : RVal F) : after Cert.ReferenceIdeal.Stretches.while1Ops0_3 X (Proc.devRef .tc Cert.ReferenceIdeal.main_v9_7) = X (Proc.devRef .tc Cert.ReferenceIdeal.main_while1b_v124) := by
  after_results
  rfl
/-- Stretch 0 of the trip writes no carried buffer. -/
theorem carried1_0 {X : KVal F} {Y : RVal F} (h : Carried1 X Y) : Carried1 (after Cert.KernelIdeal.Gen.while1Ops0 X) (after Cert.ReferenceIdeal.Stretches.while1Ops0 Y) :=
  h.keep
    (fun b hb => after_of_writes_sub _ X (W := [Cert.KernelIdeal.main_while1b_call2_c, Cert.KernelIdeal.main_while1b_call2_v0, Cert.KernelIdeal.main_while1b_v48])
      (forall_writes_sub_of_map rfl) ((by decide : ∀ b ∈ ([Cert.KernelIdeal.main_v9_0, Cert.KernelIdeal.main_v9_1, Cert.KernelIdeal.main_v9_2, Cert.KernelIdeal.main_v9_3, Cert.KernelIdeal.main_v9_4, Cert.KernelIdeal.main_v9_5, Cert.KernelIdeal.main_v9_6, Cert.KernelIdeal.main_v9_7] : List (Ref Cert.KernelIdeal.sig .tc)), b ∉ ([Cert.KernelIdeal.main_while1b_call2_c, Cert.KernelIdeal.main_while1b_call2_v0, Cert.KernelIdeal.main_while1b_v48] : List (Ref Cert.KernelIdeal.sig .tc))) b hb))
    (fun b hb => after_of_writes_sub _ Y (W := [Cert.ReferenceIdeal.main_while1b_call2_c, Cert.ReferenceIdeal.main_while1b_call2_v0, Cert.ReferenceIdeal.main_while1b_v91])
      (forall_writes_sub_of_map rfl) ((by decide : ∀ b ∈ ([Cert.ReferenceIdeal.main_v9_0, Cert.ReferenceIdeal.main_v9_1, Cert.ReferenceIdeal.main_v9_2, Cert.ReferenceIdeal.main_v9_3, Cert.ReferenceIdeal.main_v9_4, Cert.ReferenceIdeal.main_v9_5, Cert.ReferenceIdeal.main_v9_6, Cert.ReferenceIdeal.main_v9_7] : List (Ref Cert.ReferenceIdeal.sig .tc)), b ∉ ([Cert.ReferenceIdeal.main_while1b_call2_c, Cert.ReferenceIdeal.main_while1b_call2_v0, Cert.ReferenceIdeal.main_while1b_v91] : List (Ref Cert.ReferenceIdeal.sig .tc))) b hb))
/-- Stretch 1 of the trip writes no carried buffer. -/
theorem carried1_1 {X : KVal F} {Y : RVal F} (h : Carried1 X Y) : Carried1 (after Cert.KernelIdeal.Gen.while1Ops0_1 X) (after Cert.ReferenceIdeal.Stretches.while1Ops0_1 Y) :=
  h.keep
    (fun b hb => after_of_writes_sub _ X (W := [Cert.KernelIdeal.main_while1b_v49, Cert.KernelIdeal.main_while1b_v50, Cert.KernelIdeal.main_while1b_v51, Cert.KernelIdeal.main_while1b_v52, Cert.KernelIdeal.main_while1b_v53, Cert.KernelIdeal.main_while1b_v54, Cert.KernelIdeal.main_while1b_v55, Cert.KernelIdeal.main_while1b_v56, Cert.KernelIdeal.main_while1b_v57, Cert.KernelIdeal.main_while1b_v58, Cert.KernelIdeal.main_while1b_v59, Cert.KernelIdeal.main_while1b_v60, Cert.KernelIdeal.main_while1b_v61, Cert.KernelIdeal.main_while1b_cst_16, Cert.KernelIdeal.main_while1b_v62, Cert.KernelIdeal.main_while1b_v63, Cert.KernelIdeal.main_while1b_cst_17, Cert.KernelIdeal.main_while1b_v64, Cert.KernelIdeal.main_while1b_v65, Cert.KernelIdeal.main_while1b_v66, Cert.KernelIdeal.main_while1b_v67, Cert.KernelIdeal.main_while1b_v68, Cert.KernelIdeal.main_while1b_cst_18, Cert.KernelIdeal.main_while1b_v69, Cert.KernelIdeal.main_while1b_v70, Cert.KernelIdeal.main_while1b_cst_19, Cert.KernelIdeal.main_while1b_v71, Cert.KernelIdeal.main_while1b_v72, Cert.KernelIdeal.main_while1b_v73, Cert.KernelIdeal.main_while1b_v74, Cert.KernelIdeal.main_while1b_v75, Cert.KernelIdeal.main_while1b_cst_20, Cert.KernelIdeal.main_while1b_v76, Cert.KernelIdeal.main_while1b_v77, Cert.KernelIdeal.main_while1b_v78, Cert.KernelIdeal.main_while1b_v79, Cert.KernelIdeal.main_while1b_v80])
      (forall_writes_sub_of_map rfl) ((by decide : ∀ b ∈ ([Cert.KernelIdeal.main_v9_0, Cert.KernelIdeal.main_v9_1, Cert.KernelIdeal.main_v9_2, Cert.KernelIdeal.main_v9_3, Cert.KernelIdeal.main_v9_4, Cert.KernelIdeal.main_v9_5, Cert.KernelIdeal.main_v9_6, Cert.KernelIdeal.main_v9_7] : List (Ref Cert.KernelIdeal.sig .tc)), b ∉ ([Cert.KernelIdeal.main_while1b_v49, Cert.KernelIdeal.main_while1b_v50, Cert.KernelIdeal.main_while1b_v51, Cert.KernelIdeal.main_while1b_v52, Cert.KernelIdeal.main_while1b_v53, Cert.KernelIdeal.main_while1b_v54, Cert.KernelIdeal.main_while1b_v55, Cert.KernelIdeal.main_while1b_v56, Cert.KernelIdeal.main_while1b_v57, Cert.KernelIdeal.main_while1b_v58, Cert.KernelIdeal.main_while1b_v59, Cert.KernelIdeal.main_while1b_v60, Cert.KernelIdeal.main_while1b_v61, Cert.KernelIdeal.main_while1b_cst_16, Cert.KernelIdeal.main_while1b_v62, Cert.KernelIdeal.main_while1b_v63, Cert.KernelIdeal.main_while1b_cst_17, Cert.KernelIdeal.main_while1b_v64, Cert.KernelIdeal.main_while1b_v65, Cert.KernelIdeal.main_while1b_v66, Cert.KernelIdeal.main_while1b_v67, Cert.KernelIdeal.main_while1b_v68, Cert.KernelIdeal.main_while1b_cst_18, Cert.KernelIdeal.main_while1b_v69, Cert.KernelIdeal.main_while1b_v70, Cert.KernelIdeal.main_while1b_cst_19, Cert.KernelIdeal.main_while1b_v71, Cert.KernelIdeal.main_while1b_v72, Cert.KernelIdeal.main_while1b_v73, Cert.KernelIdeal.main_while1b_v74, Cert.KernelIdeal.main_while1b_v75, Cert.KernelIdeal.main_while1b_cst_20, Cert.KernelIdeal.main_while1b_v76, Cert.KernelIdeal.main_while1b_v77, Cert.KernelIdeal.main_while1b_v78, Cert.KernelIdeal.main_while1b_v79, Cert.KernelIdeal.main_while1b_v80] : List (Ref Cert.KernelIdeal.sig .tc))) b hb))
    (fun b hb => after_of_writes_sub _ Y (W := [Cert.ReferenceIdeal.main_while1b_v92, Cert.ReferenceIdeal.main_while1b_v93, Cert.ReferenceIdeal.main_while1b_v94, Cert.ReferenceIdeal.main_while1b_v95, Cert.ReferenceIdeal.main_while1b_v96, Cert.ReferenceIdeal.main_while1b_v97, Cert.ReferenceIdeal.main_while1b_v98, Cert.ReferenceIdeal.main_while1b_v99, Cert.ReferenceIdeal.main_while1b_v100, Cert.ReferenceIdeal.main_while1b_v101, Cert.ReferenceIdeal.main_while1b_v102, Cert.ReferenceIdeal.main_while1b_v103, Cert.ReferenceIdeal.main_while1b_v104, Cert.ReferenceIdeal.main_while1b_cst_25, Cert.ReferenceIdeal.main_while1b_v105, Cert.ReferenceIdeal.main_while1b_v106, Cert.ReferenceIdeal.main_while1b_cst_26, Cert.ReferenceIdeal.main_while1b_v107, Cert.ReferenceIdeal.main_while1b_v108, Cert.ReferenceIdeal.main_while1b_v109, Cert.ReferenceIdeal.main_while1b_v110, Cert.ReferenceIdeal.main_while1b_v111, Cert.ReferenceIdeal.main_while1b_cst_27, Cert.ReferenceIdeal.main_while1b_v112, Cert.ReferenceIdeal.main_while1b_v113, Cert.ReferenceIdeal.main_while1b_cst_28, Cert.ReferenceIdeal.main_while1b_v114, Cert.ReferenceIdeal.main_while1b_v115, Cert.ReferenceIdeal.main_while1b_v116, Cert.ReferenceIdeal.main_while1b_v117, Cert.ReferenceIdeal.main_while1b_v118, Cert.ReferenceIdeal.main_while1b_cst_29, Cert.ReferenceIdeal.main_while1b_v119, Cert.ReferenceIdeal.main_while1b_v120, Cert.ReferenceIdeal.main_while1b_v121, Cert.ReferenceIdeal.main_while1b_v122, Cert.ReferenceIdeal.main_while1b_v123])
      (forall_writes_sub_of_map rfl) ((by decide : ∀ b ∈ ([Cert.ReferenceIdeal.main_v9_0, Cert.ReferenceIdeal.main_v9_1, Cert.ReferenceIdeal.main_v9_2, Cert.ReferenceIdeal.main_v9_3, Cert.ReferenceIdeal.main_v9_4, Cert.ReferenceIdeal.main_v9_5, Cert.ReferenceIdeal.main_v9_6, Cert.ReferenceIdeal.main_v9_7] : List (Ref Cert.ReferenceIdeal.sig .tc)), b ∉ ([Cert.ReferenceIdeal.main_while1b_v92, Cert.ReferenceIdeal.main_while1b_v93, Cert.ReferenceIdeal.main_while1b_v94, Cert.ReferenceIdeal.main_while1b_v95, Cert.ReferenceIdeal.main_while1b_v96, Cert.ReferenceIdeal.main_while1b_v97, Cert.ReferenceIdeal.main_while1b_v98, Cert.ReferenceIdeal.main_while1b_v99, Cert.ReferenceIdeal.main_while1b_v100, Cert.ReferenceIdeal.main_while1b_v101, Cert.ReferenceIdeal.main_while1b_v102, Cert.ReferenceIdeal.main_while1b_v103, Cert.ReferenceIdeal.main_while1b_v104, Cert.ReferenceIdeal.main_while1b_cst_25, Cert.ReferenceIdeal.main_while1b_v105, Cert.ReferenceIdeal.main_while1b_v106, Cert.ReferenceIdeal.main_while1b_cst_26, Cert.ReferenceIdeal.main_while1b_v107, Cert.ReferenceIdeal.main_while1b_v108, Cert.ReferenceIdeal.main_while1b_v109, Cert.ReferenceIdeal.main_while1b_v110, Cert.ReferenceIdeal.main_while1b_v111, Cert.ReferenceIdeal.main_while1b_cst_27, Cert.ReferenceIdeal.main_while1b_v112, Cert.ReferenceIdeal.main_while1b_v113, Cert.ReferenceIdeal.main_while1b_cst_28, Cert.ReferenceIdeal.main_while1b_v114, Cert.ReferenceIdeal.main_while1b_v115, Cert.ReferenceIdeal.main_while1b_v116, Cert.ReferenceIdeal.main_while1b_v117, Cert.ReferenceIdeal.main_while1b_v118, Cert.ReferenceIdeal.main_while1b_cst_29, Cert.ReferenceIdeal.main_while1b_v119, Cert.ReferenceIdeal.main_while1b_v120, Cert.ReferenceIdeal.main_while1b_v121, Cert.ReferenceIdeal.main_while1b_v122, Cert.ReferenceIdeal.main_while1b_v123] : List (Ref Cert.ReferenceIdeal.sig .tc))) b hb))
/-- Stretch 2 of the trip writes no carried buffer. -/
theorem carried1_2 {X : KVal F} {Y : RVal F} (h : Carried1 X Y) : Carried1 (after Cert.KernelIdeal.Gen.while1Ops0_2 X) (after Cert.ReferenceIdeal.Stretches.while1Ops0_2 Y) :=
  h.keep
    (fun b hb => after_of_writes_sub _ X (W := [Cert.KernelIdeal.main_while1b_call3_v0, Cert.KernelIdeal.main_while1b_call3_c, Cert.KernelIdeal.main_while1b_v81])
      (forall_writes_sub_of_map rfl) ((by decide : ∀ b ∈ ([Cert.KernelIdeal.main_v9_0, Cert.KernelIdeal.main_v9_1, Cert.KernelIdeal.main_v9_2, Cert.KernelIdeal.main_v9_3, Cert.KernelIdeal.main_v9_4, Cert.KernelIdeal.main_v9_5, Cert.KernelIdeal.main_v9_6, Cert.KernelIdeal.main_v9_7] : List (Ref Cert.KernelIdeal.sig .tc)), b ∉ ([Cert.KernelIdeal.main_while1b_call3_v0, Cert.KernelIdeal.main_while1b_call3_c, Cert.KernelIdeal.main_while1b_v81] : List (Ref Cert.KernelIdeal.sig .tc))) b hb))
    (fun b hb => after_of_writes_sub _ Y (W := [Cert.ReferenceIdeal.main_while1b_call3_v0, Cert.ReferenceIdeal.main_while1b_call3_c, Cert.ReferenceIdeal.main_while1b_v124])
      (forall_writes_sub_of_map rfl) ((by decide : ∀ b ∈ ([Cert.ReferenceIdeal.main_v9_0, Cert.ReferenceIdeal.main_v9_1, Cert.ReferenceIdeal.main_v9_2, Cert.ReferenceIdeal.main_v9_3, Cert.ReferenceIdeal.main_v9_4, Cert.ReferenceIdeal.main_v9_5, Cert.ReferenceIdeal.main_v9_6, Cert.ReferenceIdeal.main_v9_7] : List (Ref Cert.ReferenceIdeal.sig .tc)), b ∉ ([Cert.ReferenceIdeal.main_while1b_call3_v0, Cert.ReferenceIdeal.main_while1b_call3_c, Cert.ReferenceIdeal.main_while1b_v124] : List (Ref Cert.ReferenceIdeal.sig .tc))) b hb))

/-- One trip keeps the carried buffers equal. -/
theorem trip1 {X : KVal F} {Y : RVal F} (h : Carried1 X Y) :
    Carried1 (afterL Cert.KernelIdeal.Run.body1 X) (afterL Cert.ReferenceIdeal.Run.body1 Y) := by
  have h1 := carried1_0 h
  have h2 := carried1_1 h1
  have hs := cell1 h1 (row1 h)
  have ho := outs1 h2 hs
  constructor
  · exact (Cert.KernelIdeal.Run.body1_keep X (by decide)).trans (h.c0.trans (Cert.ReferenceIdeal.Run.body1_keep Y (by decide)).symm)
  · exact (Cert.KernelIdeal.Run.body1_keep X (by decide)).trans (h.c1.trans (Cert.ReferenceIdeal.Run.body1_keep Y (by decide)).symm)
  · exact (Cert.KernelIdeal.Run.body1_keep X (by decide)).trans (h.c2.trans (Cert.ReferenceIdeal.Run.body1_keep Y (by decide)).symm)
  · exact (Cert.KernelIdeal.Run.body1_keep X (by decide)).trans (h.c3.trans (Cert.ReferenceIdeal.Run.body1_keep Y (by decide)).symm)
  · exact (Cert.KernelIdeal.Run.body1_keep X (by decide)).trans (h.c4.trans (Cert.ReferenceIdeal.Run.body1_keep Y (by decide)).symm)
  · exact (Cert.KernelIdeal.Run.body1_counter X).trans ((congrArg (fun x : IVec Cert.ReferenceIdeal.S_ 32 => addi x (constantI Cert.ReferenceIdeal.S_ 32 1#32)) h.c5).trans
      (Cert.ReferenceIdeal.Run.body1_counter Y).symm)
  · exact (state1K _).trans ((after_of_writes_sub _ _ (W := [Cert.KernelIdeal.main_while1b_call3_v0, Cert.KernelIdeal.main_while1b_call3_c, Cert.KernelIdeal.main_while1b_v81]) (forall_writes_sub_of_map rfl) (by decide)).trans
      (hs.trans ((state1R _).trans (after_of_writes_sub _ _ (W := [Cert.ReferenceIdeal.main_while1b_call3_v0, Cert.ReferenceIdeal.main_while1b_call3_c, Cert.ReferenceIdeal.main_while1b_v124]) (forall_writes_sub_of_map rfl) (by decide))).symm))
  · exact (kept1K _).trans (ho.trans (kept1R _).symm)

/-- The loop's test writes no carried buffer. -/
theorem test1 {X : KVal F} {Y : RVal F} (h : Carried1 X Y) :
    Carried1 (after Cert.KernelIdeal.Run.cond1 X) (after Cert.ReferenceIdeal.Run.cond1 Y) :=
  h.keep (fun b hb => Cert.KernelIdeal.Run.cond1_keep X ((by decide : ∀ b ∈ ([Cert.KernelIdeal.main_v9_0, Cert.KernelIdeal.main_v9_1, Cert.KernelIdeal.main_v9_2, Cert.KernelIdeal.main_v9_3, Cert.KernelIdeal.main_v9_4, Cert.KernelIdeal.main_v9_5, Cert.KernelIdeal.main_v9_6, Cert.KernelIdeal.main_v9_7] : List (Ref Cert.KernelIdeal.sig .tc)), b ∉ Cert.KernelIdeal.Run.cond1_W) b hb))
    (fun b hb => Cert.ReferenceIdeal.Run.cond1_keep Y ((by decide : ∀ b ∈ ([Cert.ReferenceIdeal.main_v9_0, Cert.ReferenceIdeal.main_v9_1, Cert.ReferenceIdeal.main_v9_2, Cert.ReferenceIdeal.main_v9_3, Cert.ReferenceIdeal.main_v9_4, Cert.ReferenceIdeal.main_v9_5, Cert.ReferenceIdeal.main_v9_6, Cert.ReferenceIdeal.main_v9_7] : List (Ref Cert.ReferenceIdeal.sig .tc)), b ∉ Cert.ReferenceIdeal.Run.cond1_W) b hb))

/-! ## The stretches between the loops -/

/-- The first stretch: equal arguments give equal carried buffers. -/
theorem enter0 {X : KVal F} {Y : RVal F} (h : Inputs X Y) :
    Carried0 (afterL Cert.KernelIdeal.Run.pre X) (afterL Cert.ReferenceIdeal.Run.pre Y) := by
  constructor <;> simp only [afterL_cons, afterL_nil]
  · after_results
    rw [h.a1]
    rfl
  · after_results
    rw [h.a3]
  · after_results
    rw [h.a5]
  · after_results
    rw [h.a4]
  · after_results
    rw [h.a6]
  · after_results
  · after_results
    rw [h.a2]
    rfl
  · after_results
/-- The input sequence, as rows, is the same in both. -/
theorem rows {X : KVal F} {Y : RVal F} (h : Inputs X Y) :
    afterL Cert.KernelIdeal.Run.pre X (Proc.devRef .tc Cert.KernelIdeal.main_v0) = afterL Cert.ReferenceIdeal.Run.pre Y (Proc.devRef .tc Cert.ReferenceIdeal.main_v0) := by
  simp only [afterL_cons, afterL_nil]
  after_results
  rw [h.a1]
  rfl
/-- The second stretch: the same for the loop over the reversed sequence. -/
theorem enter1 {X : KVal F} {Y : RVal F} (h : Inputs X Y)
    (h0 : X (Proc.devRef .tc Cert.KernelIdeal.main_v0) = Y (Proc.devRef .tc Cert.ReferenceIdeal.main_v0)) :
    Carried1 (afterL Cert.KernelIdeal.Run.mid X) (afterL Cert.ReferenceIdeal.Run.mid Y) := by
  constructor <;> simp only [afterL_cons, afterL_nil]
  · after_results
    rw [h0]
  · after_results
    rw [h.a7]
  · after_results
    rw [h.a9]
  · after_results
    rw [h.a8]
  · after_results
    rw [h.a10]
  · after_results
  · after_results
    rw [h.a2]
    rfl
  · after_results
/-- The third stretch: equal outputs of the two loops give equal keys. -/
theorem keys {X : KVal F} {Y : RVal F} (h : Inputs X Y)
    (h0 : X (Proc.devRef .tc Cert.KernelIdeal.main_v4_7) = Y (Proc.devRef .tc Cert.ReferenceIdeal.main_v4_7))
    (h1 : X (Proc.devRef .tc Cert.KernelIdeal.main_v9_7) = Y (Proc.devRef .tc Cert.ReferenceIdeal.main_v9_7)) :
    afterL Cert.KernelIdeal.Run.keys X (Proc.devRef .tc Cert.KernelIdeal.main_v43) = afterL Cert.ReferenceIdeal.Run.keys Y (Proc.devRef .tc Cert.ReferenceIdeal.main_v43) := by
  simp only [afterL_cons, afterL_nil]
  simp only [Cert.KernelIdeal.Gen.hostOps0_3, Cert.ReferenceIdeal.Stretches.hostOps0_3, TRef.nullary, TRef.unary, TRef.binary, TRef.of, TRef.toBuf, TRef.ofBuf, cast_eq]
  after_results
  rw [h0, h1, h.a11, h.a12, h.a13]
  rfl

/-! ## The whole way -/

section
variable (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)

/-- The launch memories hold the same arguments. -/
abbrev Launched : Prop := ∀ c : Dev Cert.KernelIdeal.nD, Inputs (launchContents m c) (launchContents (τ := Cert.ReferenceIdeal.τ) m' c)

variable {m m'} (h : Launched m m') (c : Dev Cert.KernelIdeal.nD)
include h

/-- Before every trip of loop 0, and after the last, the carried buffers agree. -/
theorem at0 (k : ℕ) : Carried0 (Cert.KernelIdeal.Run.At0 m k c) (Cert.ReferenceIdeal.Run.At0 m' k c) := by
  induction k with
  | zero => exact enter0 (h c)
  | succ k ih => exact trip0 (test0 ih)
theorem left0 : Carried0 (Cert.KernelIdeal.Run.Ex0 m c) (Cert.ReferenceIdeal.Run.Ex0 m' c) := test0 (at0 h c 24)
/-- The arguments agree after loop 0. -/
theorem args0 : Inputs (Cert.KernelIdeal.Run.Ex0 m c) (Cert.ReferenceIdeal.Run.Ex0 m' c) :=
  (h c).keep (Cert.KernelIdeal.Run.Ex0_args m c) (Cert.ReferenceIdeal.Run.Ex0_args m' c)
/-- So do the rows of the input sequence. -/
theorem rows0 : Cert.KernelIdeal.Run.Ex0 m c (Proc.devRef .tc Cert.KernelIdeal.main_v0) = Cert.ReferenceIdeal.Run.Ex0 m' c (Proc.devRef .tc Cert.ReferenceIdeal.main_v0) :=
  (Cert.KernelIdeal.Run.cond0_keep _ (by decide)).trans <| (Cert.KernelIdeal.Run.At0_keep m c (by decide) (by decide) 24).trans <| (rows (h c)).trans
    ((Cert.ReferenceIdeal.Run.cond0_keep _ (by decide)).trans <| Cert.ReferenceIdeal.Run.At0_keep m' c (by decide) (by decide) 24).symm
/-- Before every trip of loop 1, and after the last, the carried buffers agree. -/
theorem at1 (k : ℕ) : Carried1 (Cert.KernelIdeal.Run.At1 m k c) (Cert.ReferenceIdeal.Run.At1 m' k c) := by
  induction k with
  | zero => exact enter1 (args0 h c) (rows0 h c)
  | succ k ih => exact trip1 (test1 ih)
theorem left1 : Carried1 (Cert.KernelIdeal.Run.Ex1 m c) (Cert.ReferenceIdeal.Run.Ex1 m' c) := test1 (at1 h c 24)
/-- The arguments agree after loop 1. -/
theorem args1 : Inputs (Cert.KernelIdeal.Run.Ex1 m c) (Cert.ReferenceIdeal.Run.Ex1 m' c) :=
  (h c).keep (Cert.KernelIdeal.Run.Ex1_args m c) (Cert.ReferenceIdeal.Run.Ex1_args m' c)
/-- Loop 0's outputs are still there after loop 1. -/
theorem outputs0 : Cert.KernelIdeal.Run.Ex1 m c (Proc.devRef .tc Cert.KernelIdeal.main_v4_7) = Cert.ReferenceIdeal.Run.Ex1 m' c (Proc.devRef .tc Cert.ReferenceIdeal.main_v4_7) :=
  (Cert.KernelIdeal.Run.cond1_keep _ (by decide)).trans <| (Cert.KernelIdeal.Run.At1_keep m c (by decide) (by decide) 24).trans <|
    (Cert.KernelIdeal.Run.mid_keep _ (by decide)).trans <| (left0 h c).c7.trans
    ((Cert.ReferenceIdeal.Run.cond1_keep _ (by decide)).trans <| (Cert.ReferenceIdeal.Run.At1_keep m' c (by decide) (by decide) 24).trans <|
      Cert.ReferenceIdeal.Run.mid_keep _ (by decide)).symm

/-- THE KEYS of the two programs are the same. -/
theorem keys_same : Cert.KernelIdeal.Run.V m c (Proc.devRef .tc Cert.KernelIdeal.main_v43) = Cert.ReferenceIdeal.Run.V m' c (Proc.devRef .tc Cert.ReferenceIdeal.main_v43) :=
  keys (args1 h c) (outputs0 h c) (left1 h c).c7

end
end Cert.Same

end
-- ==== Proof.Rank.lean ====
/-
  PLACES IN A STABLE ORDER. The place of position `i` in a row is the number of positions that stand ahead of it: those
  with a smaller key, and those with the same key further left. A stable argsort lists the positions by place, and the
  argsort of that list is the place itself.
-/
module

public import Idealize.ShloMosaic.Lib.PlanTiles.StableSort
public import Mathlib.Data.Fintype.Card
public import Mathlib.Order.Interval.Finset.Fin

@[expose] public section

noncomputable section

namespace Cert.Rank

open Idealize.ShloMosaic

variable {n : Nat} {α : Type} [LinearOrder α]

/-- Position `j` stands ahead of position `i`: a smaller key, or the same key further left. -/
def Ahead (x : Fin n → α) (j i : Fin n) : Prop := x j < x i ∨ (x j = x i ∧ j < i)

instance (x : Fin n → α) (j i : Fin n) : Decidable (Ahead x j i) :=
  inferInstanceAs (Decidable (x j < x i ∨ (x j = x i ∧ j < i)))

theorem Ahead.irrefl (x : Fin n → α) (i : Fin n) : ¬Ahead x i i := by
  rintro (h | ⟨-, h⟩) <;> exact lt_irrefl _ h

theorem Ahead.trans {x : Fin n → α} {a b c : Fin n} (h : Ahead x a b) (h' : Ahead x b c) : Ahead x a c := by
  rcases h with h | ⟨h, hp⟩ <;> rcases h' with h' | ⟨h', hp'⟩
  · exact Or.inl (h.trans h')
  · exact Or.inl (h' ▸ h)
  · exact Or.inl (h ▸ h')
  · exact Or.inr ⟨h.trans h', hp.trans hp'⟩

theorem Ahead.total (x : Fin n → α) {a b : Fin n} (h : a ≠ b) : Ahead x a b ∨ Ahead x b a := by
  rcases lt_trichotomy (x a) (x b) with hx | hx | hx
  · exact Or.inl (Or.inl hx)
  · rcases lt_or_gt_of_ne h with hp | hp
    · exact Or.inl (Or.inr ⟨hx, hp⟩)
    · exact Or.inr (Or.inr ⟨hx.symm, hp⟩)
  · exact Or.inr (Or.inl hx)

/-- How many positions stand ahead of `i`. -/
def place (x : Fin n → α) (i : Fin n) : Nat := (Finset.univ.filter fun j => Ahead x j i).card

theorem place_lt (x : Fin n → α) (i : Fin n) : place x i < n := by
  have h : (Finset.univ.filter fun j => Ahead x j i) ⊂ Finset.univ :=
    Finset.filter_ssubset.mpr ⟨i, Finset.mem_univ _, Ahead.irrefl x i⟩
  simpa [place] using Finset.card_lt_card h

/-- The place of `i`, as a position. -/
def rank (x : Fin n → α) (i : Fin n) : Fin n := ⟨place x i, place_lt x i⟩

theorem place_lt_place {x : Fin n → α} {a b : Fin n} (h : Ahead x a b) : place x a < place x b := by
  refine Finset.card_lt_card (Finset.ssubset_iff_of_subset ?_ |>.mpr ⟨a, ?_, ?_⟩)
  · intro j hj
    simp only [Finset.mem_filter, Finset.mem_univ, true_and] at hj ⊢
    exact hj.trans h
  · simpa using h
  · simpa using Ahead.irrefl x a

theorem rank_injective (x : Fin n → α) : Function.Injective (rank x) := by
  intro a b h
  by_contra hne
  have hp : place x a = place x b := congrArg Fin.val h
  rcases Ahead.total x hne with h' | h' <;> have := place_lt_place h' <;> omega

/-- How many positions hold a larger key: the same order, told by a natural number that falls as the key grows. -/
def above (x : Fin n → α) (i : Fin n) : Nat := (Finset.univ.filter fun j => x i < x j).card

theorem above_lt_above (x : Fin n → α) (a b : Fin n) : above x b < above x a ↔ x a < x b := by
  constructor
  · intro h
    by_contra hn
    have hle : x b ≤ x a := not_lt.mp hn
    have : above x a ≤ above x b := by
      refine Finset.card_le_card fun j hj => ?_
      simp only [Finset.mem_filter, Finset.mem_univ, true_and] at hj ⊢
      exact hle.trans_lt hj
    omega
  · intro h
    refine Finset.card_lt_card (Finset.ssubset_iff_of_subset ?_ |>.mpr ⟨b, ?_, ?_⟩)
    · intro j hj
      simp only [Finset.mem_filter, Finset.mem_univ, true_and] at hj ⊢
      exact h.trans hj
    · simpa using h
    · simp

/-- The stable sort by increasing key: the position it puts at `k`. -/
def sorted (x : Fin n → α) : Fin n → Fin n := sortedFrom fun k k' => decide (x k < x k')

/-- Later positions of the sorted row are behind earlier ones. -/
theorem ahead_sorted (x : Fin n → α) {k k' : Fin n} (h : k < k') : Ahead x (sorted x k) (sorted x k') := by
  have hb : (fun a b : Fin n => decide (x a < x b)) = fun a b => decide (above x b < above x a) := by
    funext a b
    exact decide_eq_decide.mpr (above_lt_above x a b).symm
  have hp : (sortPositions n fun a b => decide (x a < x b)).Pairwise
      (PlanTiles.Lex (above x) (· < ·)) := by
    rw [hb]
    exact PlanTiles.pairwise_stableSort_lex (above x) (· < ·) (List.finRange n) (List.pairwise_lt_finRange n)
  have hl := List.pairwise_iff_get.mp hp (k.cast (length_sortPositions n _).symm)
    (k'.cast (length_sortPositions n _).symm) h
  rcases hl with hl | ⟨hl, hlt⟩
  · exact Or.inl ((above_lt_above x _ _).mp hl)
  · refine Or.inr ⟨?_, hlt⟩
    rcases lt_trichotomy (x (sorted x k)) (x (sorted x k')) with h₁ | h₁ | h₁
    · exact absurd ((above_lt_above x _ _).mpr h₁) (by unfold sorted sortedFrom; omega)
    · exact h₁
    · exact absurd ((above_lt_above x _ _).mpr h₁) (by unfold sorted sortedFrom; omega)

theorem sorted_bijective (x : Fin n → α) : Function.Bijective (sorted x) :=
  ⟨sortedFrom_injective _, sortedFrom_surjective _⟩

theorem ahead_sorted_iff (x : Fin n → α) (k k' : Fin n) : Ahead x (sorted x k) (sorted x k') ↔ k < k' := by
  refine ⟨fun h => ?_, ahead_sorted x⟩
  rcases lt_trichotomy k k' with h' | h' | h'
  · exact h'
  · exact absurd (h' ▸ h) (Ahead.irrefl x _)
  · exact absurd (h.trans (ahead_sorted x h')) (Ahead.irrefl x _)

/-- The position sorted to `k` has place `k`. -/
theorem rank_sorted (x : Fin n → α) (k : Fin n) : rank x (sorted x k) = k := by
  apply Fin.ext
  show (Finset.univ.filter fun j => Ahead x j (sorted x k)).card = k.val
  have : (Finset.univ.filter fun j => Ahead x j (sorted x k)) = (Finset.Iio k).image (sorted x) := by
    ext j
    obtain ⟨k', rfl⟩ := (sorted_bijective x).2 j
    simp only [Finset.mem_filter, Finset.mem_univ, true_and, Finset.mem_image, Finset.mem_Iio, ahead_sorted_iff]
    exact ⟨fun h => ⟨k', h, rfl⟩, fun ⟨l, hl, e⟩ => (sorted_bijective x).1 e ▸ hl⟩
  rw [this, Finset.card_image_of_injective _ (sorted_bijective x).1, Fin.card_Iio]

/-- Where the keys are the positions themselves in some order, the place is the key. -/
theorem rank_of_injective {s : Fin n → Fin n} (hs : Function.Injective s) : rank s = s := by
  funext i
  apply Fin.ext
  show (Finset.univ.filter fun j => Ahead s j i).card = (s i).val
  have hb := (Finite.injective_iff_bijective.mp hs).2
  have : (Finset.univ.filter fun j => Ahead s j i).image s = Finset.Iio (s i) := by
    ext v
    obtain ⟨j, rfl⟩ := hb v
    simp only [Finset.mem_image, Finset.mem_filter, Finset.mem_univ, true_and, Finset.mem_Iio]
    constructor
    · rintro ⟨a, ha, e⟩
      rcases ha with ha | ⟨ha, hlt⟩
      · exact e ▸ ha
      · exact absurd (hs ha) (ne_of_lt hlt)
    · exact fun h => ⟨j, Or.inl h, rfl⟩
  rw [← Finset.card_image_of_injective _ hs, this, Fin.card_Iio]

/-- THE ARGSORT OF AN ARGSORT IS THE PLACE. -/
theorem sorted_sorted (x : Fin n → α) : sorted (sorted x) = rank x := by
  funext k
  have h : sorted x (sorted (sorted x) k) = k := by
    have := rank_sorted (sorted x) k
    rwa [rank_of_injective (sorted_bijective x).1] at this
  have h' := rank_sorted x (sorted (sorted x) k)
  rw [h] at h'
  exact h'.symm

end Cert.Rank
end
-- ==== Proof.Soft.lean ====
/-
  THE SOFT INDEXING OF ONE LAYER, over rows of extended reals: a Gaussian window of half-width 5 in the sorted order. This is
  the function the program and its reference are each shown to compute. `layer x m` takes a row of keys `x` and a row of
  mask entries `m`.
-/
module

public import proofs.«01_k».proof.Proof.Rank
public import Idealize.ShloMosaic.PureOps.Ideal.Laws
public import Mathlib.Data.EReal.Operations

@[expose] public section

noncomputable section

namespace Cert.Soft

open Idealize.ShloMosaic Cert.Rank
open scoped BigOperators

/-- The Gaussian weight of the offset `d`. -/
def gauss (d : ℤ) : EReal := ((Real.exp (-((d : ℝ) ^ 2)) : ℝ) : EReal)

/-- Entry `z` of a row, zero outside the row. -/
def cell (c : Fin 1024 → EReal) (z : ℤ) : EReal := if h : 0 ≤ z ∧ z < 1024 then c ⟨z.toNat, by omega⟩ else 0

/-- The weight of offset `d` at position `p`, zero where it leaves the row. -/
def tap (p : Fin 1024) (d : ℤ) : EReal := if 0 ≤ (p : ℤ) + d ∧ (p : ℤ) + d < 1024 then gauss d else 0

/-- The weighted sum of a row around position `p`. -/
def num (c : Fin 1024 → EReal) (p : Fin 1024) : EReal := ∑ d ∈ Finset.Icc (-5 : ℤ) 5, gauss d * cell c (p + d)

/-- The sum of the weights around position `p`. -/
def den (p : Fin 1024) : EReal := ∑ d ∈ Finset.Icc (-5 : ℤ) 5, tap p d

/-- The weighted mean of a row around position `p`. -/
def mix (c : Fin 1024 → EReal) (p : Fin 1024) : EReal := Ideal.div (num c p) (den p)

/-- The soft value with its hard value taken away and the soft value added: `(s - [s ≥ 1/2]) + s`. -/
def harden (s : EReal) : EReal := (s - if Ideal.ofBits .f32 0x3F000000#32 ≤ s then 1 else 0) + s

/-- The place of each position in the order of falling keys. -/
def inv (x : Fin 1024 → EReal) : Fin 1024 → Fin 1024 := rank fun j => -x j

/-- One layer's result at position `i`. -/
def layer (x m : Fin 1024 → EReal) (i : Fin 1024) : EReal :=
  harden (mix (fun j => m (inv x j)) (rank x (inv x i)))

/-! ## The window as eleven terms, and as a sum over the whole row -/

theorem window : Finset.Icc (-5 : ℤ) 5 = {-5, -4, -3, -2, -1, 0, 1, 2, 3, 4, 5} := by decide

theorem sum_window (f : ℤ → EReal) :
    ∑ d ∈ Finset.Icc (-5 : ℤ) 5, f d
      = f (-5) + f (-4) + f (-3) + f (-2) + f (-1) + f 0 + f 1 + f 2 + f 3 + f 4 + f 5 := by
  rw [window]
  simp only [Finset.sum_insert (s := _) (a := _), Finset.mem_insert, Finset.mem_singleton, Finset.sum_singleton,
    Int.reduceNeg, Int.reduceEq, or_self, not_false_eq_true, reduceCtorEq, neg_inj, Int.reduceNegSucc]
  simp only [add_assoc]

/-- A sum over the row of what lies within 5 of `p` is the sum over the offsets. -/
theorem sum_near (f : Fin 1024 → EReal) (p : Fin 1024) :
    (∑ j : Fin 1024, if |(j : ℤ) - p| ≤ 5 then f j else 0) = ∑ d ∈ Finset.Icc (-5 : ℤ) 5, cell f (p + d) := by
  have hcell : ∀ d : ℤ, cell f (p + d) = ∑ j : Fin 1024, if (j : ℤ) - p = d then f j else 0 := by
    intro d
    unfold cell
    split
    · next h =>
      rw [Finset.sum_eq_single ⟨((p : ℤ) + d).toNat, by omega⟩]
      · rw [if_pos]
        simp only
        omega
      · intro j _ hj
        rw [if_neg]
        intro e
        exact hj (Fin.ext (by simp only; omega))
      · intro hn
        exact absurd (Finset.mem_univ _) hn
    · next h =>
      refine (Finset.sum_eq_zero fun j _ => if_neg ?_).symm
      have := j.isLt
      omega
  simp only [hcell]
  rw [Finset.sum_comm]
  refine Finset.sum_congr rfl fun j _ => ?_
  rw [Finset.sum_ite_eq]
  congr 1
  rw [Finset.mem_Icc, abs_le]

theorem cell_const_mul (g : ℤ → EReal) (c : Fin 1024 → EReal) (p : Fin 1024) (d : ℤ) :
    cell (fun j => g ((j : ℤ) - p) * c j) (p + d) = g d * cell c (p + d) := by
  unfold cell
  split
  · next h =>
    have e : (((((p : ℤ) + d).toNat : ℕ) : ℤ)) - p = d := by omega
    show g ((((((p : ℤ) + d).toNat : ℕ) : ℤ)) - p) * _ = _
    rw [e]
  · rw [mul_zero]

theorem cell_const (g : ℤ → EReal) (p : Fin 1024) (d : ℤ) :
    cell (fun j => g ((j : ℤ) - p)) (p + d) = if 0 ≤ (p : ℤ) + d ∧ (p : ℤ) + d < 1024 then g d else 0 := by
  unfold cell
  split
  · next h =>
    have e : (((((p : ℤ) + d).toNat : ℕ) : ℤ)) - p = d := by omega
    show g ((((((p : ℤ) + d).toNat : ℕ) : ℤ)) - p) = _
    rw [e]
  · rfl

/-- The weight of entry `j` at position `p`: Gaussian within distance 5, else zero. -/
def wt (j p : Fin 1024) : EReal := if |(j : ℤ) - p| ≤ 5 then gauss ((j : ℤ) - p) else 0

theorem sum_wt (p : Fin 1024) : ∑ j, wt j p = den p := by
  unfold wt den
  rw [sum_near (fun j => gauss ((j : ℤ) - p)) p]
  exact Finset.sum_congr rfl fun d _ => cell_const gauss p d

theorem sum_wt_mul (c : Fin 1024 → EReal) (p : Fin 1024) : ∑ j, wt j p * c j = num c p := by
  have : ∀ j, wt j p * c j = if |(j : ℤ) - p| ≤ 5 then gauss ((j : ℤ) - p) * c j else 0 := by
    intro j
    unfold wt
    split
    · rfl
    · rw [zero_mul]
  simp only [this]
  unfold num
  rw [sum_near (fun j => gauss ((j : ℤ) - p) * c j) p]
  exact Finset.sum_congr rfl fun d _ => cell_const_mul gauss c p d

/-! ## The sum of the weights is a positive real, so a quotient by it passes through a sum -/

theorem gauss_nonneg (d : ℤ) : 0 ≤ gauss d := EReal.coe_nonneg.mpr (Real.exp_pos _).le

theorem exists_sum_eq_coe {ι : Type} (s : Finset ι) (f : ι → EReal) (h : ∀ i ∈ s, ∃ r : ℝ, 0 ≤ r ∧ f i = (r : EReal)) :
    ∃ r : ℝ, 0 ≤ r ∧ ∑ i ∈ s, f i = (r : EReal) ∧ ∀ i ∈ s, f i ≤ (r : EReal) := by
  classical
  induction s using Finset.induction_on with
  | empty => exact ⟨0, le_rfl, by simp, by simp⟩
  | insert a s ha ih =>
    obtain ⟨r, hr, hs, hle⟩ := ih fun i hi => h i (Finset.mem_insert_of_mem hi)
    obtain ⟨q, hq, hf⟩ := h a (Finset.mem_insert_self a s)
    refine ⟨q + r, add_nonneg hq hr, ?_, fun i hi => ?_⟩
    · rw [Finset.sum_insert ha, hs, hf, EReal.coe_add]
    · rcases Finset.mem_insert.mp hi with rfl | hi
      · rw [hf]
        exact EReal.coe_le_coe_iff.mpr (by linarith)
      · exact (hle i hi).trans (EReal.coe_le_coe_iff.mpr (by linarith))

theorem den_pos (p : Fin 1024) : ∃ r : ℝ, 0 < r ∧ den p = (r : EReal) := by
  obtain ⟨r, -, hs, hle⟩ := exists_sum_eq_coe (Finset.Icc (-5 : ℤ) 5) (tap p) (fun d _ => by
    unfold tap
    split
    · exact ⟨_, (Real.exp_pos _).le, rfl⟩
    · exact ⟨0, le_rfl, rfl⟩)
  refine ⟨r, ?_, hs⟩
  have h0 := hle 0 (by decide)
  have hp := p.isLt
  unfold tap at h0
  rw [if_pos (by omega)] at h0
  exact (Real.exp_pos _).trans_le (EReal.coe_le_coe_iff.mp h0)

theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- THE MEAN TERM BY TERM: where the sum of the weights is a positive real, each weight may be divided by it first. -/
theorem sum_div_mul_of {ι : Type} (s : Finset ι) (w c : ι → EReal) (e : EReal) (he : ∃ r : ℝ, 0 < r ∧ e = (r : EReal)) :
    ∑ j ∈ s, Ideal.div (w j) e * c j = Ideal.div (∑ j ∈ s, w j * c j) e := by
  obtain ⟨r, hr, rfl⟩ := he
  have hne : ((r : EReal)) ≠ 0 := by exact_mod_cast hr.ne'
  unfold Ideal.div
  simp only [if_neg hne]
  rw [← EReal.coe_inv, sum_mul_coe _ _ _ (inv_nonneg.mpr hr.le)]
  exact Finset.sum_congr rfl fun j _ => by rw [mul_right_comm]

/-! ## The same with the Gaussian over the whole row -/

/-- The sum of the whole row's weights around position `p`. -/
def wholeDen (p : Fin 1024) : EReal := ∑ j : Fin 1024, gauss ((j : ℤ) - p)

/-- The weighted mean of the whole row around position `p`. -/
def wholeMix (c : Fin 1024 → EReal) (p : Fin 1024) : EReal :=
  Ideal.div (∑ j : Fin 1024, gauss ((j : ℤ) - p) * c j) (wholeDen p)

/-- One layer's result at position `i`, with the Gaussian over the whole row. -/
def wholeLayer (x m : Fin 1024 → EReal) (i : Fin 1024) : EReal :=
  harden (wholeMix (fun j => m (inv x j)) (rank x (inv x i)))

theorem wholeDen_pos (p : Fin 1024) : ∃ r : ℝ, 0 < r ∧ wholeDen p = (r : EReal) := by
  obtain ⟨r, -, hs, hle⟩ := exists_sum_eq_coe Finset.univ (fun j : Fin 1024 => gauss ((j : ℤ) - p))
    fun j _ => ⟨_, (Real.exp_pos _).le, rfl⟩
  exact ⟨r, (Real.exp_pos _).trans_le (EReal.coe_le_coe_iff.mp (hle p (Finset.mem_univ p))), hs⟩

/-! ## Sums that count, and sums with one live term -/

theorem sum_count {n : Nat} (P : Fin n → Prop) [DecidablePred P] :
    (∑ j, if P j then (1 : EReal) else 0) = (((Finset.univ.filter P).card : ℝ) : EReal) := by
  rw [← Finset.sum_filter]
  generalize Finset.univ.filter P = s
  classical
  induction s using Finset.induction_on with
  | empty => simp
  | insert a s ha ih =>
    rw [Finset.sum_insert ha, ih, Finset.card_insert_of_notMem ha, Nat.cast_add, Nat.cast_one, add_comm, EReal.coe_add,
      EReal.coe_one]

theorem sum_one_hot {n : Nat} (f : Fin n → EReal) (k : Fin n) :
    (∑ j : Fin n, f j * if ((j.val : ℝ) : EReal) = ((k.val : ℝ) : EReal) then 1 else 0) = f k := by
  rw [Finset.sum_eq_single k]
  · rw [if_pos rfl, mul_one]
  · intro j _ hj
    rw [if_neg, mul_zero]
    intro e
    exact hj (Fin.ext (by exact_mod_cast (EReal.coe_eq_coe_iff.mp e)))
  · intro h
    exact absurd (Finset.mem_univ _) h

end Cert.Soft
end
-- ==== Proof.Layer.lean ====
/-
  THE KERNEL'S BODY, READ AT AN INDEX. The stored block is, entry by entry, `Soft.layer` of the two loaded rows.
-/
module

public import proofs.«01_k».proof.Proof.Soft
public import proofs.«01_k».proof.Proof.Gen.KernelIdeal.Skeleton
public import proofs.«01_k».proof.Proof.Gen.KernelIdeal.Launch
public import Idealize.ShloMosaic.Lib.Pointwise

@[expose] public section

set_option maxRecDepth 16384

noncomputable section

namespace Cert.KernelIdeal.Layer

open Cert.KernelIdeal Cert.KernelIdeal.Gen Idealize.ShloMosaic Cert.Soft Cert.Rank
open scoped BigOperators

/-! ## Scalars: the constants, the words, the masks -/

/-- A normal pattern with sign `s`, exponent field `E` and fraction field `T` denotes `± (2²³ + T) · 2^(E - 150)`. -/
theorem ofBits_real (b : BitVec 32) (s : Bool) (E T : ℕ) (r : ℝ)
    (hb : ((b.extractLsb' 31 1 == 1#1) = s ∧ (b.extractLsb' 23 8).toNat = E ∧ (b.extractLsb' 0 23).toNat = T) ∧ E ≠ 255 ∧ E ≠ 0)
    (h : (if s then -1 else 1) * (2 ^ 23 + T : ℕ) * (2 : ℝ) ^ ((E : ℤ) - 127 - 23) = r) :
    Ideal.ofBits .f32 b = (r : EReal) := by
  obtain ⟨⟨hs, hE, hT⟩, h₁, h₀⟩ := hb
  show Ideal.ieee 8 23 b = _
  unfold Ideal.ieee
  simp only [Nat.reduceAdd, hs, hE, hT]
  rw [if_neg (by simpa using h₁), if_neg h₀, ← h]
  norm_num

theorem c_n25 : Ideal.ofBits .f32 0xC1C80000#32 = ((-25 : ℝ) : EReal) :=
  ofBits_real _ true 131 4718592 _ (by decide) (by norm_num)
theorem c_n16 : Ideal.ofBits .f32 0xC1800000#32 = ((-16 : ℝ) : EReal) :=
  ofBits_real _ true 131 0 _ (by decide) (by norm_num)
theorem c_n9 : Ideal.ofBits .f32 0xC1100000#32 = ((-9 : ℝ) : EReal) :=
  ofBits_real _ true 130 1048576 _ (by decide) (by norm_num)
theorem c_n5 : Ideal.ofBits .f32 0xC0A00000#32 = ((-5 : ℝ) : EReal) :=
  ofBits_real _ true 129 2097152 _ (by decide) (by norm_num)
theorem c_n4 : Ideal.ofBits .f32 0xC0800000#32 = ((-4 : ℝ) : EReal) :=
  ofBits_real _ true 129 0 _ (by decide) (by norm_num)
theorem c_n3 : Ideal.ofBits .f32 0xC0400000#32 = ((-3 : ℝ) : EReal) :=
  ofBits_real _ true 128 4194304 _ (by decide) (by norm_num)
theorem c_n2 : Ideal.ofBits .f32 0xC0000000#32 = ((-2 : ℝ) : EReal) :=
  ofBits_real _ true 128 0 _ (by decide) (by norm_num)
theorem c_n1 : Ideal.ofBits .f32 0xBF800000#32 = ((-1 : ℝ) : EReal) :=
  ofBits_real _ true 127 0 _ (by decide) (by norm_num)
theorem c_1 : Ideal.ofBits .f32 0x3F800000#32 = ((1 : ℝ) : EReal) :=
  ofBits_real _ false 127 0 _ (by decide) (by norm_num)
theorem c_2 : Ideal.ofBits .f32 0x40000000#32 = ((2 : ℝ) : EReal) :=
  ofBits_real _ false 128 0 _ (by decide) (by norm_num)
theorem c_3 : Ideal.ofBits .f32 0x40400000#32 = ((3 : ℝ) : EReal) :=
  ofBits_real _ false 128 4194304 _ (by decide) (by norm_num)
theorem c_4 : Ideal.ofBits .f32 0x40800000#32 = ((4 : ℝ) : EReal) :=
  ofBits_real _ false 129 0 _ (by decide) (by norm_num)
theorem c_5 : Ideal.ofBits .f32 0x40A00000#32 = ((5 : ℝ) : EReal) :=
  ofBits_real _ false 129 2097152 _ (by decide) (by norm_num)
theorem c_1024 : Ideal.ofBits .f32 0x44800000#32 = ((1024 : ℝ) : EReal) :=
  ofBits_real _ false 137 0 _ (by decide) (by norm_num)
theorem c_0 : Ideal.ofBits .f32 0x00000000#32 = ((0 : ℝ) : EReal) := Ideal.ofBits_zero_f32

/-- The exponential of minus a square is the Gaussian weight. -/
theorem exp_gauss (b : BitVec 32) (d : ℤ) (h : Ideal.ofBits .f32 b = ((-((d : ℝ) ^ 2) : ℝ) : EReal)) :
    Scalar.exp (F := Ideal) (Ideal.ofBits .f32 b : Ideal .f32) = gauss d := by
  rw [h]
  rfl

theorem toInt_ofNat_lt {k : ℕ} (h : k < 2 ^ 31) : (BitVec.ofNat 32 k).toInt = k := by
  have hn : (BitVec.ofNat 32 k).toNat = k := by rw [BitVec.toNat_ofNat, Nat.mod_eq_of_lt (by omega)]
  rw [BitVec.toInt_eq_toNat_of_lt (by omega), hn]

/-- A position's word, as a number. -/
theorem sitofp_pos (k : ℕ) (h : k < 1024) : FloatOps.sitofp (F := Ideal) .f32 (BitVec.ofNat 32 k) = ((k : ℝ) : EReal) := by
  show (((BitVec.ofNat 32 k).toInt : ℝ) : EReal) = _
  rw [toInt_ofNat_lt (by omega)]
  rfl

theorem slt_pos (j i : Fin 1024) :
    IntOp.cmpi CmpIPredicate.slt (BitVec.ofNat 32 j.val) (BitVec.ofNat 32 i.val) = BitVec.ofBool (decide (j < i)) := by
  show BitVec.ofBool (BitVec.slt _ _) = _
  rw [BitVec.slt, toInt_ofNat_lt (by omega), toInt_ofNat_lt (by omega)]
  congr 1
  exact decide_eq_decide.mpr (by rw [Fin.lt_def]; omega)

theorem select_or_and (a b c : Bool) (u v : EReal) :
    Scalar.select (IntOp.ori (BitVec.ofBool a) (IntOp.andi (BitVec.ofBool b) (BitVec.ofBool c))) u v
      = if a = true ∨ (b = true ∧ c = true) then u else v := by
  cases a <;> cases b <;> cases c <;> rfl

theorem select_and (b c : Bool) (u v : EReal) :
    Scalar.select (IntOp.andi (BitVec.ofBool b) (BitVec.ofBool c)) u v = if b = true ∧ c = true then u else v := by
  cases b <;> cases c <;> rfl

/-- The count the body takes of one row of comparisons is a place in the order. -/
theorem sum_place (x : Fin 1024 → EReal) (i : Fin 1024) :
    (∑ j : Fin 1024, Scalar.select (IntOp.ori (BitVec.ofBool (decide (x j < x i)))
        (IntOp.andi (BitVec.ofBool (decide (x j = x i)))
          (IntOp.cmpi CmpIPredicate.slt (BitVec.ofNat 32 j.val) (BitVec.ofNat 32 i.val)))) (1 : EReal) 0)
      = (((rank x i).val : ℝ) : EReal) := by
  simp only [slt_pos, select_or_and, decide_eq_true_eq]
  exact sum_count fun j => Ahead x j i

/-- The same with the comparison of keys turned round. -/
theorem sum_place_neg (x : Fin 1024 → EReal) (i : Fin 1024) :
    (∑ j : Fin 1024, Scalar.select (IntOp.ori (BitVec.ofBool (decide (x i < x j)))
        (IntOp.andi (BitVec.ofBool (decide (x j = x i)))
          (IntOp.cmpi CmpIPredicate.slt (BitVec.ofNat 32 j.val) (BitVec.ofNat 32 i.val)))) (1 : EReal) 0)
      = (((inv x i).val : ℝ) : EReal) := by
  show _ = (((rank (fun j => -x j) i).val : ℝ) : EReal)
  rw [← sum_place]
  simp only [EReal.neg_lt_neg_iff, neg_inj]

/-! ## The gathered rows -/

/-- The row a block holds. -/
def row (v : Vec Ideal S1x1x1024 .f32) (j : Fin 1024) : EReal := v (ix3 0 0 j)

theorem gathered_mask (v0 v36 : Vec Ideal S1x1x1024 .f32) (i : Fin 1024) :
    k0_pay4 v0 v36 (ix2 0 i) = row v36 (inv (row v0) i) := by
  pointwise [k0_pay4, k0_pay3, k0_pay2]
  rw [← sum_one_hot (row v36)]
  refine Finset.sum_congr rfl fun x _ => ?_
  rw [sitofp_pos x.val x.isLt]
  exact congrArg (fun q => row v36 x * if ((x.val : ℝ) : EReal) = q then (1 : EReal) else 0) (sum_place_neg (row v0) i)

theorem gathered_rank (v0 v36 : Vec Ideal S1x1x1024 .f32) (i : Fin 1024) :
    k0_pay5 v0 v36 (ix2 0 i) = (((rank (row v0) (inv (row v0) i)).val : ℝ) : EReal) := by
  pointwise [k0_pay5, k0_pay3, k0_pay2]
  rw [← sum_one_hot (fun x => (((rank (row v0) x).val : ℝ) : EReal))]
  refine Finset.sum_congr rfl fun x _ => ?_
  rw [sitofp_pos x.val x.isLt]
  exact congrArg₂ (fun r q => r * if ((x.val : ℝ) : EReal) = q then (1 : EReal) else 0) (sum_place (row v0) x)
    (sum_place_neg (row v0) i)

/-! ## The weighted sums -/

theorem cell_left (c : Fin 1024 → EReal) (i : Fin 1024) (k : ℕ) (d : ℤ) (hd : d = -(k : ℤ)) (z : EReal) (hz : z = 0) :
    (if _ : i.val < k then z else c ⟨i.val - k, by omega⟩) = cell c (i + d) := by
  subst hd hz
  unfold cell
  by_cases h : i.val < k
  · rw [dif_pos h, dif_neg (by omega)]
  · rw [dif_neg h, dif_pos (by omega)]
    congr 2
    omega

theorem cell_right (c : Fin 1024 → EReal) (i : Fin 1024) (k r : ℕ) (hr : r + k = 1024) (d : ℤ) (hd : d = (k : ℤ)) (z : EReal)
    (hz : z = 0) : (if _ : i.val < r then c ⟨k + i.val, by omega⟩ else z) = cell c (i + d) := by
  subst hd hz
  unfold cell
  by_cases h : i.val < r
  · rw [dif_pos h, dif_pos (by omega)]
    congr 2
    omega
  · rw [dif_neg h, dif_neg (by omega)]

theorem cell_self (c : Fin 1024 → EReal) (i : Fin 1024) : c i = cell c i := by
  unfold cell
  rw [dif_pos (by omega)]
  congr 1

/-- The weight a select leaves where the shifted position is the number `e`. -/
theorem tap_at (i : Fin 1024) (e : EReal) (d : ℤ) (he : e = ((((i : ℤ) + d : ℤ) : ℝ) : EReal)) (w : EReal) (hw : w = gauss d) :
    Scalar.select (IntOp.andi (BitVec.ofBool (decide ((0 : EReal) ≤ e)))
        (BitVec.ofBool (decide (e < Ideal.ofBits .f32 0x44800000#32)))) w 0 = tap i d := by
  rw [select_and, c_1024, he]
  unfold tap
  simp only [decide_eq_true_eq]
  refine if_congr (and_congr ?_ ?_) hw rfl
  · rw [← EReal.coe_zero, EReal.coe_le_coe_iff]
    exact_mod_cast Iff.rfl
  · rw [EReal.coe_lt_coe_iff]
    exact_mod_cast Iff.rfl

/-- The weight a select leaves at position `i` for offset `d`. -/
theorem tap_select (i : Fin 1024) (b : BitVec 32) (d : ℤ) (hb : Ideal.ofBits .f32 b = (((d : ℤ) : ℝ) : EReal)) (w : EReal)
    (hw : w = gauss d) :
    Scalar.select (IntOp.andi
        (BitVec.ofBool (decide ((0 : EReal) ≤ ((i.val : ℝ) : EReal) + Ideal.ofBits .f32 b)))
        (BitVec.ofBool (decide (((i.val : ℝ) : EReal) + Ideal.ofBits .f32 b < Ideal.ofBits .f32 0x44800000#32)))) w 0
      = tap i d := by
  refine tap_at i _ d ?_ w hw
  rw [hb, ← EReal.coe_add]
  push_cast
  rfl

theorem exp_gauss_zero : Scalar.exp (F := Ideal) (φ := .f32) (0 : EReal) = gauss 0 := by
  have h := exp_gauss 0x00000000#32 0 (by rw [c_0]; norm_num)
  rwa [Ideal.ofBits_zero_f32] at h

/-- The eleven products of the body, in its order. -/
theorem pay9_apply (v41 : FVec Ideal S1x1024 .f32) (c : Fin 1024 → EReal) (hc : ∀ j, v41 (ix2 0 j) = c j) (i : Fin 1024) :
    k0_pay9 v41 (ix2 0 i) = gauss (-5) * cell c (i + -5) + gauss (-4) * cell c (i + -4) := by
  pointwise [k0_pay9, k0_pay7, k0_pay8]
  simp only [hc]
  rw [exp_gauss _ (-5) (by rw [c_n25]; norm_num), exp_gauss _ (-4) (by rw [c_n16]; norm_num),
    cell_left c i 5 (-5) rfl 0 rfl, cell_left c i 4 (-4) rfl 0 rfl]

theorem pay17_apply (v41 v71 : FVec Ideal S1x1024 .f32) (c : Fin 1024 → EReal) (hc : ∀ j, v41 (ix2 0 j) = c j) (i : Fin 1024) :
    k0_pay17 v41 v71 (k0_pay12 v41) (k0_pay13 (F := Ideal)) (ix2 0 i)
      = v71 (ix2 0 i) + gauss (-3) * cell c (i + -3) + gauss (-2) * cell c (i + -2) + gauss (-1) * cell c (i + -1) := by
  pointwise [k0_pay17, k0_pay12, k0_pay13, k0_pay11, k0_pay14, k0_pay16]
  simp only [hc]
  rw [exp_gauss _ (-3) (by rw [c_n9]; norm_num), exp_gauss _ (-2) (by rw [c_n4]; norm_num),
    exp_gauss _ (-1) (by rw [c_n1]; norm_num),
    cell_left c i 3 (-3) rfl 0 rfl, cell_left c i 2 (-2) rfl 0 rfl, cell_left c i 1 (-1) rfl 0 rfl]

theorem pay23_apply (v41 v125 : FVec Ideal S1x1024 .f32) (c : Fin 1024 → EReal) (hc : ∀ j, v41 (ix2 0 j) = c j) (i : Fin 1024) :
    k0_pay23 v41 v125 (ix2 0 i)
      = v125 (ix2 0 i) + gauss 0 * cell c i + gauss 1 * cell c (i + 1) + gauss 2 * cell c (i + 2) := by
  pointwise [k0_pay23, k0_pay19, k0_pay20, k0_pay22]
  simp only [hc]
  rw [exp_gauss_zero, exp_gauss _ 1 (by rw [c_n1]; norm_num), exp_gauss _ 2 (by rw [c_n4]; norm_num), cell_self c i,
    cell_right c i 1 1023 rfl 1 rfl 0 rfl, cell_right c i 2 1022 rfl 2 rfl 0 rfl]

theorem pay28_apply (v41 v176 : FVec Ideal S1x1024 .f32) (c : Fin 1024 → EReal) (hc : ∀ j, v41 (ix2 0 j) = c j) (i : Fin 1024) :
    k0_pay28 v41 v176 (ix2 0 i) = v176 (ix2 0 i) + gauss 3 * cell c (i + 3) + gauss 4 * cell c (i + 4) := by
  pointwise [k0_pay28, k0_pay25, k0_pay27]
  simp only [hc]
  rw [exp_gauss _ 3 (by rw [c_n9]; norm_num), exp_gauss _ 4 (by rw [c_n16]; norm_num),
    cell_right c i 3 1021 rfl 3 rfl 0 rfl, cell_right c i 4 1020 rfl 4 rfl 0 rfl]

/-! ## The sums of the weights -/

/-- The row of the positions. -/
def posRow : FVec Ideal S1x1024 .f32 := k0_pay6 (F := Ideal) (iota .tc S1x1024 32 [1] iota_S1x1024_d1_w32)

theorem posRow_apply (i : Fin 1024) : posRow (ix2 0 i) = ((i.val : ℝ) : EReal) := by
  unfold posRow
  pointwise [k0_pay6]
  exact sitofp_pos i.val i.isLt

theorem pay10_apply (i : Fin 1024) :
    k0_pay10 (F := Ideal) (iota .tc S1x1024 32 [1] iota_S1x1024_d1_w32) (ix2 0 i) = tap i (-5) + tap i (-4) := by
  pointwise [k0_pay10, k0_pay6, k0_pay7, k0_pay8]
  rw [sitofp_pos i.val i.isLt, tap_select i _ (-5) (by rw [c_n5]; norm_num) _ (exp_gauss _ (-5) (by rw [c_n25]; norm_num)),
    tap_select i _ (-4) (by rw [c_n4]; norm_num) _ (exp_gauss _ (-4) (by rw [c_n16]; norm_num))]

theorem pay15_apply (v82 : FVec Ideal S1x1024 .f32) (i : Fin 1024) :
    k0_pay15 posRow v82 (k0_pay11 (F := Ideal)) (ix2 0 i) = v82 (ix2 0 i) + tap i (-3) + tap i (-2) := by
  pointwise [k0_pay15, k0_pay11, k0_pay14]
  rw [posRow_apply, tap_select i _ (-3) (by rw [c_n3]; norm_num) _ (exp_gauss _ (-3) (by rw [c_n9]; norm_num)),
    tap_select i _ (-2) (by rw [c_n2]; norm_num) _ (exp_gauss _ (-2) (by rw [c_n4]; norm_num))]

theorem pay21_apply (v118 : FVec Ideal S1x1024 .f32) (i : Fin 1024) :
    k0_pay21 posRow v118 (k0_pay16 (F := Ideal)) (k0_pay18 posRow) (ix2 0 i)
      = v118 (ix2 0 i) + tap i (-1) + tap i 0 + tap i 1 := by
  pointwise [k0_pay21, k0_pay16, k0_pay18, k0_pay19, k0_pay20]
  rw [posRow_apply, tap_select i _ (-1) (by rw [c_n1]; norm_num) _ (exp_gauss _ (-1) (by rw [c_n1]; norm_num)),
    tap_at i _ 0 (by simp) _ exp_gauss_zero, tap_at i _ 1 (by push_cast; rfl) _ (exp_gauss _ 1 (by rw [c_n1]; norm_num))]

theorem pay26_apply (v169 : FVec Ideal S1x1024 .f32) (i : Fin 1024) :
    k0_pay26 posRow v169 (k0_pay22 (F := Ideal)) (k0_pay24 (F := Ideal)) (ix2 0 i)
      = v169 (ix2 0 i) + tap i 2 + tap i 3 := by
  pointwise [k0_pay26, k0_pay22, k0_pay24, k0_pay25]
  rw [posRow_apply, tap_select i _ 2 (by rw [c_2]; norm_num) _ (exp_gauss _ 2 (by rw [c_n4]; norm_num)),
    tap_select i _ 3 (by rw [c_3]; norm_num) _ (exp_gauss _ 3 (by rw [c_n9]; norm_num))]

theorem pay29_apply (i : Fin 1024) : k0_pay29 posRow (ix2 0 i) = tap i 4 := by
  pointwise [k0_pay29, k0_pay27]
  rw [posRow_apply, tap_select i _ 4 (by rw [c_4]; norm_num) _ (exp_gauss _ 4 (by rw [c_n16]; norm_num))]

/-! ## The stored block -/

/-- The row that is gathered last, from the sums of the first ten products and weights. -/
def tRow (v41 v44 v205 v212 v222 : FVec Ideal S1x1024 .f32) : FVec Ideal S1x1024 .f32 :=
  have w : Ideal .f32 := Scalar.exp (Scalar.ofBits .f32 0xC1C80000#32)
  have tail : FVec Ideal S1x1024 .f32 := concatenate S1x1024 1
    [⟨S1x1019, extractStridedSlice S1x1019 ![0, 5] v41 slices_S1x1024_o0_5_S1x1019⟩,
      ⟨S1x5, broadcast S1x5 (Scalar.ofBits .f32 0x00000000#32)⟩] concatenates_S1x1019_S1x5_S1x1024_d1
  have at5 : FVec Ideal S1x1024 .f32 := addf v44 (broadcast S1x1024 (Scalar.ofBits .f32 0x40A00000#32))
  have inside : IVec S1x1024 1 := andi (cmpf .oge at5 (broadcast S1x1024 (Scalar.ofBits .f32 0x00000000#32)))
    (cmpf .olt at5 (broadcast S1x1024 (Scalar.ofBits .f32 0x44800000#32)))
  have soft : FVec Ideal S1x1024 .f32 := divf (addf v212 (mulf (broadcast S1x1024 w) tail))
    (addf (addf v205 v222) (select inside (broadcast S1x1024 w) (broadcast S1x1024 (Scalar.ofBits .f32 0x00000000#32))))
  have hard : FVec Ideal S1x1024 .f32 := select (cmpf .oge soft (broadcast S1x1024 (Scalar.ofBits .f32 0x3F000000#32)))
    (broadcast S1x1024 (Scalar.ofBits .f32 0x3F800000#32)) (broadcast S1x1024 (Scalar.ofBits .f32 0x00000000#32))
  addf (subf soft hard) soft

theorem tRow_apply (v41 v205 v212 v222 : FVec Ideal S1x1024 .f32) (c : Fin 1024 → EReal) (hc : ∀ j, v41 (ix2 0 j) = c j)
    (i : Fin 1024)
    (hn : v212 (ix2 0 i) + gauss 5 * cell c (i + 5) = num c i)
    (hd : v205 (ix2 0 i) + v222 (ix2 0 i) + tap i 5 = den i) :
    tRow v41 posRow v205 v212 v222 (ix2 0 i) = harden (mix c i) := by
  pointwise [tRow]
  simp only [hc]
  rw [posRow_apply, tap_select i _ 5 (by rw [c_5]; norm_num) _ (exp_gauss _ 5 (by rw [c_n25]; norm_num)),
    exp_gauss _ 5 (by rw [c_n25]; norm_num), cell_right c i 5 1019 rfl 5 rfl 0 rfl, hn, hd]
  rfl

theorem pay1_eq (v41 v42 v44 v205 v212 v222 : FVec Ideal S1x1024 .f32) :
    k0_pay1 (k0_pay2 (F := Ideal)) v41 v42 v44 v205 v212 v222
      = shapeCast S1x1x1024 (matmul dot_S1x1024_S1024x1024_S1x1024_1_0_0_1_n_n (some .fp32) (tRow v41 v44 v205 v212 v222)
          (select (cmpf .oeq (k0_pay2 (F := Ideal)) (broadcastTo S1024x1024 v42 broadcasts_S1x1024_S1024x1024))
            (broadcast S1024x1024 (Scalar.ofBits .f32 0x3F800000#32)) (broadcast S1024x1024 (Scalar.ofBits .f32 0x00000000#32)))
          (constant S1x1024 .f32 0x00000000#32)) shapeCasts_S1x1024_S1x1x1024 := rfl

theorem pay1_apply (v41 v42 v44 v205 v212 v222 : FVec Ideal S1x1024 .f32) (i k : Fin 1024)
    (hk : v42 (ix2 0 i) = ((k.val : ℝ) : EReal)) :
    k0_pay1 (k0_pay2 (F := Ideal)) v41 v42 v44 v205 v212 v222 (ix3 0 0 i) = tRow v41 v44 v205 v212 v222 (ix2 0 k) := by
  rw [pay1_eq]
  pointwise [k0_pay2]
  rw [hk, ← sum_one_hot (fun x => tRow v41 v44 v205 v212 v222 (ix2 0 x))]
  exact Finset.sum_congr rfl fun x _ => by rw [sitofp_pos x.val x.isLt]

/-- The block the body stores, from the two blocks it loads. -/
def stored (v0 v36 : Vec Ideal S1x1x1024 .f32) : FVec Ideal S1x1x1024 .f32 :=
  have pos : IVec S1x1024 32 := iota .tc S1x1024 32 [1] iota_S1x1024_d1_w32
  have v41 : FVec Ideal S1x1024 .f32 := k0_pay4 v0 v36
  have v44 : FVec Ideal S1x1024 .f32 := k0_pay6 (F := Ideal) pos
  have v118 : FVec Ideal S1x1024 .f32 := k0_pay15 v44 (k0_pay10 (F := Ideal) pos) (k0_pay11 (F := Ideal))
  have v125 : FVec Ideal S1x1024 .f32 := k0_pay17 v41 (k0_pay9 v41) (k0_pay12 v41) (k0_pay13 (F := Ideal))
  have v169 : FVec Ideal S1x1024 .f32 := k0_pay21 v44 v118 (k0_pay16 (F := Ideal)) (k0_pay18 v44)
  have v176 : FVec Ideal S1x1024 .f32 := k0_pay23 v41 v125
  k0_pay1 (k0_pay2 (F := Ideal)) v41 (k0_pay5 v0 v36) v44
    (k0_pay26 v44 v169 (k0_pay22 (F := Ideal)) (k0_pay24 (F := Ideal))) (k0_pay28 v41 v176) (k0_pay29 v44)

/-- THE BODY COMPUTES ONE LAYER. -/
theorem stored_apply (v0 v36 : Vec Ideal S1x1x1024 .f32) (i : Fin 1024) :
    stored v0 v36 (ix3 0 0 i) = layer (row v0) (row v36) i := by
  have hc := gathered_mask v0 v36
  unfold stored
  refine (pay1_apply _ _ _ _ _ _ i _ (gathered_rank v0 v36 i)).trans ?_
  unfold layer
  generalize rank (row v0) (Soft.inv (row v0) i) = p
  refine tRow_apply _ _ _ _ (fun j => row v36 (Soft.inv (row v0) j)) hc p ?_ ?_
  · rw [pay28_apply _ _ _ hc, pay23_apply _ _ _ hc, pay17_apply _ _ _ hc, pay9_apply _ _ hc, num, sum_window, add_zero]
  · rw [show k0_pay6 (F := Ideal) (iota .tc S1x1024 32 [1] iota_S1x1024_d1_w32) = posRow from rfl, pay26_apply, pay21_apply,
      pay15_apply, pay10_apply, pay29_apply, den, sum_window]

end Cert.KernelIdeal.Layer
end
-- ==== Proof.Ref.lean ====
/-
  THE REFERENCE'S SOFT INDEXING, READ AT AN INDEX. Its operations after the keys are known, cut into five pieces (the two
  argsorts, a row gathered at positions, the windowed Gaussian, the weighted mean), each read entry by entry, up to
  `Soft.layer`.
-/
module

public import proofs.«01_k».proof.Proof.Layer
public import proofs.«01_k».proof.Proof.RefRun
public import Idealize.ShloMosaic.Lib.Pointwise

@[expose] public section

set_option maxRecDepth 16384

noncomputable section

namespace Cert.ReferenceIdeal.Tail

open Cert.ReferenceIdeal Cert.ReferenceIdeal.Gen Idealize.ShloMosaic Cert.Soft Cert.Rank
open Cert.KernelIdeal.Layer (c_0 c_5 c_1 toInt_ofNat_lt sitofp_pos slt_pos)
open scoped BigOperators

/-! ## The pieces -/

/-- The positions of every row, as words. -/
def places : IVec S24x1024 32 := broadcastInDim S24x1024 ![1] bcast_S1024_S24x1024_1 (iotaInDim S1024 32 0)

/-- `argsort` of every row of keys. -/
def argsort (x : FVec Ideal S24x1024 .f32) : IVec S24x1024 32 := (Host.sort2 S24x1024 1 comparator_f32_i32_d1 x places).2

/-- `argsort` of every row of words. -/
def argsortI (w : IVec S24x1024 32) : IVec S24x1024 32 := (Host.sort2 S24x1024 1 comparator_i32_i32_d1 w places).2

/-- `y[w]` row by row, a negative position counted from the end. -/
def pick (y : FVec Ideal S24x1024 .f32) (w : IVec S24x1024 32) : FVec Ideal S24x1024 .f32 :=
  Host.gather gather_S24x1024_S24x1024x1_S24x1024_n_1_0_0_1_2_11 y
    (broadcastInDim S24x1024x1 ![0, 1] bcast_S24x1024_S24x1024x1_0_1
      (select (cmpi .slt w (broadcastInDim S24x1024 ![] bcast_S_S24x1024 (constantI S_ 32 0#32)))
        (addi w (broadcastInDim S24x1024 ![] bcast_S_S24x1024 (constantI S_ 32 1024#32))) w))

/-- The distance of position `j` from the place `w` names. -/
def delta (w : IVec S24x1024 32) : FVec Ideal S24x1024x1024 .f32 :=
  subf (broadcastInDim S24x1024x1024 ![0, 1, 2] bcast_S1x1x1024_S24x1024x1024_0_1_2
      (broadcastInDim S1x1x1024 ![1, 2] bcast_S1x1024_S1x1x1024_1_2
        (broadcastInDim S1x1024 ![1] bcast_S1024_S1x1024_1 (sitofp .f32 (iotaInDim S1024 32 0)))))
    (broadcastInDim S24x1024x1024 ![0, 1, 2] bcast_S24x1024x1_S24x1024x1024_0_1_2
      (broadcastInDim S24x1024x1 ![0, 1] bcast_S24x1024_S24x1024x1_0_1 (sitofp .f32 w)))

/-- The Gaussian of the distance, zero beyond distance 5. -/
def bell (w : IVec S24x1024 32) : FVec Ideal S24x1024x1024 .f32 :=
  select (cmpf .ole (Host.absf (delta w)) (broadcastInDim S24x1024x1024 ![] bcast_S_S24x1024x1024 (constant S_ .f32 0x40A00000#32)))
    (Host.exp (Host.negf (mulf (delta w) (delta w))))
    (broadcastInDim S24x1024x1024 ![1, 2] bcast_S1024x1024_S24x1024x1024_1_2
      (broadcastInDim S1024x1024 ![] bcast_S_S1024x1024 (constant S_ .f32 0x00000000#32)))

/-- The mean of the row `y` under the weights `b` over their sum. -/
def meanBy (b : FVec Ideal S24x1024x1024 .f32) (y : FVec Ideal S24x1024 .f32) : FVec Ideal S24x1024 .f32 :=
  Host.reduceAdd
    (mulf (Host.divf b
        (broadcastInDim S24x1024x1024 ![0, 1, 2] bcast_S24x1024x1_S24x1024x1024_0_1_2
          (broadcastInDim S24x1024x1 ![0, 1] bcast_S24x1024_S24x1024x1_0_1
            (Host.reduceAdd b (constant S_ .f32 0x00000000#32) reducesTo_S24x1024x1024_S24x1024_d2 h_S_))))
      (broadcastInDim S24x1024x1024 ![0, 1, 2] bcast_S24x1x1024_S24x1024x1024_0_1_2
        (broadcastInDim S24x1x1024 ![0, 2] bcast_S24x1024_S24x1x1024_0_2 y)))
    (constant S_ .f32 0x00000000#32) reducesTo_S24x1024x1024_S24x1024_d2 h_S_

/-- The mean of the row `y` weighted by the Gaussian over its sum. -/
def mean (w : IVec S24x1024 32) (y : FVec Ideal S24x1024 .f32) : FVec Ideal S24x1024 .f32 := meanBy (bell w) y

/-- A soft value, its hard value taken away, the soft value added. -/
def hardened (s : FVec Ideal S24x1024 .f32) : FVec Ideal S24x1024 .f32 :=
  addf (subf s (uitofp .f32 (cmpf .oge s (broadcastInDim S24x1024 ![] bcast_S_S24x1024 (constant S_ .f32 0x3F000000#32))))) s

/-- The reference's result, from the keys and the masks. -/
def result (x m : FVec Ideal S24x1024 .f32) : FVec Ideal S24x1024 .f32 :=
    (pick (hardened (mean (argsortI (argsort x)) (pick m (argsortI (argsort (Host.negf x))))))
      (argsortI (argsort (Host.negf x))))

/-! ## The argsorts -/

theorem places_apply (l : Fin 24) (k : Fin 1024) : places (ix2 l k) = BitVec.ofNat 32 k.val := by
  unfold places
  pointwise

/-- The comparator of float keys is the order itself. -/
theorem comparator_eq (a b : EReal) (u v : BitVec 32) :
    comparator_f32_i32_d1 (F := Ideal) (a, u) (b, v) = BitVec.ofBool (decide (a < b)) := by
  have hz : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have h0 : FloatOps.ofBits (F := Ideal) .f32 0x00000000#32 = (0 : EReal) := c_0
    have hu : FloatOps.cmpf (F := Ideal) (φ := .f32) .une z z = BitVec.ofBool (decide (z ≠ z)) := rfl
    have he : FloatOps.cmpf (F := Ideal) (φ := .f32) .oeq z 0 = BitVec.ofBool (decide (z = 0)) := rfl
    rw [h0, he, hu]
    by_cases h : z = 0 <;> simp [Scalar.select, h]
  unfold comparator_f32_i32_d1
  show FloatOps.cmpfTotal (F := Ideal) (φ := .f32) .lt _ _ = _
  rw [hz a, hz b]
  rfl

/-- A stable sort of (key, value) pairs along the rows, its values read at an index. -/
theorem sort2_apply {α β : Type} (cmp : α × β → α × β → BitVec 1) (x : S24x1024.Idx → α) (y : S24x1024.Idx → β)
    (l : Fin 24) (k : Fin 1024) :
    (Host.sort2 S24x1024 1 cmp x y).2 (ix2 l k)
      = y (ix2 l (sortedFrom (fun a b : Fin 1024 => cmp (x (ix2 l a), y (ix2 l a)) (x (ix2 l b), y (ix2 l b)) == 1#1) k)) := by
  have e : ∀ p : Fin 1024, Shape.Idx.along (s := S24x1024) (ix2 l k) (1 : Fin 2) p = ix2 l p := by
    intro p
    funext a
    match a with
    | ⟨0, _⟩ => rfl
    | ⟨1, _⟩ => rfl
  unfold Host.sort2
  rw [dif_pos (show (1 : ℕ) < S24x1024.rank by decide)]
  refine (congrArg y (e _)).trans ?_
  refine congrArg (fun B : Fin 1024 → Fin 1024 → Bool => y (ix2 l (sortedFrom B k))) ?_
  funext a b
  exact congrArg₂ (fun u v => cmp (x u, y u) (x v, y v) == 1#1) (e a) (e b)

theorem ofBool_beq (b : Bool) : (BitVec.ofBool b == 1#1) = b := by cases b <;> rfl

theorem argsort_apply (x : FVec Ideal S24x1024 .f32) (l : Fin 24) (k : Fin 1024) :
    argsort x (ix2 l k) = BitVec.ofNat 32 (sorted (fun j => x (ix2 l j)) k).val := by
  unfold argsort
  rw [sort2_apply, places_apply]
  refine congrArg (fun B : Fin 1024 → Fin 1024 → Bool => BitVec.ofNat 32 (sortedFrom B k).val) ?_
  funext a b
  exact (congrArg (· == 1#1) (comparator_eq _ _ _ _)).trans (ofBool_beq _)

theorem argsortI_apply (w : IVec S24x1024 32) (l : Fin 24) (s : Fin 1024 → Fin 1024)
    (hw : ∀ k, w (ix2 l k) = BitVec.ofNat 32 (s k).val) (k : Fin 1024) :
    argsortI w (ix2 l k) = BitVec.ofNat 32 (sorted s k).val := by
  unfold argsortI
  rw [sort2_apply, places_apply]
  refine congrArg (fun B : Fin 1024 → Fin 1024 → Bool => BitVec.ofNat 32 (sortedFrom B k).val) ?_
  funext a b
  show (IntOp.cmpi .slt (w (ix2 l a)) (w (ix2 l b)) == 1#1) = _
  rw [hw, hw, slt_pos, ofBool_beq]

/-- The argsort of an argsort is the place in the order. -/
theorem argsort_twice (x : FVec Ideal S24x1024 .f32) (l : Fin 24) (k : Fin 1024) :
    argsortI (argsort x) (ix2 l k) = BitVec.ofNat 32 (rank (fun j => x (ix2 l j)) k).val := by
  rw [argsortI_apply _ l _ (argsort_apply x l), sorted_sorted]

/-! ## A row gathered at positions -/

theorem gather_apply (y : FVec Ideal S24x1024 .f32) (w : IVec S24x1024x1 32) (l : Fin 24) (i q : Fin 1024)
    (h : w (ix3 l i 0) = BitVec.ofNat 32 q.val) :
    Host.gather gather_S24x1024_S24x1024x1_S24x1024_n_1_0_0_1_2_11 y w (ix2 l i) = y (ix2 l q) := by
  unfold Host.gather
  refine congrArg y ?_
  funext a
  refine Fin.ext ?_
  show GatherDims.start _ (ix2 l i) w a + GatherDims.batchCoord _ (ix2 l i) a + GatherDims.offCoord _ (ix2 l i) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show ⟨0, _⟩ ∈ gather_S24x1024_S24x1024x1_S24x1024_n_1_0_0_1_2_11.operandBatchingDims from List.mem_singleton.mpr rfl)]
    rfl
  | ⟨1, _⟩ =>
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show ⟨1, _⟩ ∈ gather_S24x1024_S24x1024x1_S24x1024_n_1_0_0_1_2_11.startIndexMap from List.mem_singleton.mpr rfl)]
    have e : ∀ p, GatherDims.siIdx gather_S24x1024_S24x1024x1_S24x1024_n_1_0_0_1_2_11 (ix2 l i) p = ix3 l i 0 := by
      intro p
      funext b
      match b with
      | ⟨0, _⟩ => rfl
      | ⟨1, _⟩ => rfl
      | ⟨2, _⟩ => exact Subsingleton.elim (α := Fin 1) _ _
    rw [e, h, toInt_ofNat_lt (by omega)]
    show min q.val 1023 = q.val
    omega

theorem pick_apply (y : FVec Ideal S24x1024 .f32) (w : IVec S24x1024 32) (l : Fin 24) (i q : Fin 1024)
    (h : w (ix2 l i) = BitVec.ofNat 32 q.val) : pick y w (ix2 l i) = y (ix2 l q) := by
  unfold pick
  refine gather_apply y _ l i q ?_
  pointwise
  rw [h]
  have hs : IntOp.cmpi .slt (BitVec.ofNat 32 q.val) 0#32 = 0#1 := by
    show BitVec.ofBool (BitVec.slt _ _) = _
    rw [BitVec.slt, toInt_ofNat_lt (by omega), decide_eq_false (by simp)]
    rfl
  rw [hs]
  rfl

/-! ## The windowed Gaussian and the weighted mean -/

theorem delta_apply (w : IVec S24x1024 32) (l : Fin 24) (i j p : Fin 1024) (h : w (ix2 l i) = BitVec.ofNat 32 p.val) :
    delta w (ix3 l i j) = ((((j : ℤ) - p : ℤ) : ℝ) : EReal) := by
  unfold delta
  pointwise
  rw [h, sitofp_pos _ p.isLt, sitofp_pos _ j.isLt]
  push_cast
  rfl

/-- Within distance 5, as a test on the difference. -/
theorem near_iff (d : ℤ) : FloatOps.absf (F := Ideal) (φ := .f32) (((d : ℤ) : ℝ) : EReal) ≤ Ideal.ofBits .f32 0x40A00000#32 ↔ |d| ≤ 5 := by
  rw [c_5]
  show max (((d : ℤ) : ℝ) : EReal) (-(((d : ℤ) : ℝ) : EReal)) ≤ _ ↔ _
  rw [max_le_iff, ← EReal.coe_neg, EReal.coe_le_coe_iff, EReal.coe_le_coe_iff, abs_le]
  constructor
  · rintro ⟨h₁, h₂⟩
    exact ⟨by have : ((-5 : ℤ) : ℝ) ≤ d := by push_cast; linarith
              exact_mod_cast this, by exact_mod_cast h₁⟩
  · rintro ⟨h₁, h₂⟩
    have h₁' : ((-5 : ℤ) : ℝ) ≤ d := by exact_mod_cast h₁
    push_cast at h₁'
    exact ⟨by exact_mod_cast h₂, by linarith⟩

theorem exp_sq (d : ℤ) : Ideal.exp (-((((d : ℤ) : ℝ) : EReal) * (((d : ℤ) : ℝ) : EReal))) = gauss d := by
  rw [← EReal.coe_mul, ← EReal.coe_neg, ← pow_two]
  rfl

theorem bell_apply (w : IVec S24x1024 32) (l : Fin 24) (i j p : Fin 1024) (h : w (ix2 l i) = BitVec.ofNat 32 p.val) :
    bell w (ix3 l i j) = wt j p := by
  unfold bell
  pointwise
  rw [delta_apply w l i j p h, exp_sq]
  exact if_congr (near_iff _) rfl rfl

theorem meanBy_apply (b : FVec Ideal S24x1024x1024 .f32) (y : FVec Ideal S24x1024 .f32) (l : Fin 24) (i : Fin 1024)
    (g : Fin 1024 → EReal) (hb : ∀ j, b (ix3 l i j) = g j) (hg : ∃ r : ℝ, 0 < r ∧ ∑ j, g j = (r : EReal)) :
    meanBy b y (ix2 l i) = Ideal.div (∑ j, g j * y (ix2 l j)) (∑ j, g j) := by
  unfold meanBy
  pointwise
  simp only [hb]
  exact sum_div_mul_of _ _ _ _ hg

theorem mean_apply (w : IVec S24x1024 32) (y : FVec Ideal S24x1024 .f32) (l : Fin 24) (i p : Fin 1024)
    (h : w (ix2 l i) = BitVec.ofNat 32 p.val) : mean w y (ix2 l i) = mix (fun j => y (ix2 l j)) p := by
  refine (meanBy_apply _ y l i (fun j => wt j p) (fun j => bell_apply w l i j p h) ?_).trans ?_
  · rw [sum_wt]
    exact den_pos p
  · rw [sum_wt, sum_wt_mul]
    rfl

theorem hardened_apply (s : FVec Ideal S24x1024 .f32) (l : Fin 24) (i : Fin 1024) :
    hardened s (ix2 l i) = harden (s (ix2 l i)) := by
  unfold hardened harden
  pointwise
  by_cases h : Ideal.ofBits .f32 0x3F000000#32 ≤ s (ix2 l i)
  · rw [decide_eq_true h, if_pos h]
    show s (ix2 l i) - (((1 : ℕ) : ℝ) : EReal) + _ = _
    simp
  · rw [decide_eq_false h, if_neg h]
    show s (ix2 l i) - (((0 : ℕ) : ℝ) : EReal) + _ = _
    simp

theorem result_apply (x m : FVec Ideal S24x1024 .f32) (l : Fin 24) (i : Fin 1024) :
    result x m (ix2 l i) = layer (fun j => x (ix2 l j)) (fun j => m (ix2 l j)) i := by
  have hinv : ∀ k, argsortI (argsort (Host.negf x)) (ix2 l k) = BitVec.ofNat 32 (inv (fun j => x (ix2 l j)) k).val :=
    fun k => argsort_twice (Host.negf x) l k
  unfold result
  rw [pick_apply _ _ l i _ (hinv i), hardened_apply, mean_apply _ _ l _ _ (argsort_twice x l _)]
  simp only [pick_apply _ _ l _ _ (hinv _)]
  rfl

/-! ## The reference's last stretches -/

open Idealize.ShloMosaic.TcCoe Idealize.ShloMosaic.StableHlo Cert.ReferenceIdeal.Stretches

variable (Y : Valuation τ sig (Elt Ideal))

theorem at46 : after hostOps0_5 Y (Proc.devRef .tc main_v46) = argsort (Y (Proc.devRef .tc main_v45)) := by
  simp only [hostOps0_5, TRef.nullary, TRef.unary, TRef.binary, TRef.of, TRef.toBuf, TRef.ofBuf, cast_eq]
  after_results
  rfl
theorem at47 : after hostOps0_6 Y (Proc.devRef .tc main_v47) = argsortI (Y (Proc.devRef .tc main_v46)) := by
  simp only [hostOps0_6, TRef.nullary, TRef.unary, TRef.binary, TRef.of, TRef.toBuf, TRef.ofBuf, cast_eq]
  after_results
  rfl
theorem at54 : after hostOps0_7 Y (Proc.devRef .tc main_v54) = pick (Y (Proc.devRef .tc main_arg0)) (Y (Proc.devRef .tc main_v47)) := by
  after_results
  rfl
theorem at55 : after hostOps0_8 Y (Proc.devRef .tc main_v55) = argsort (Y (Proc.devRef .tc main_v43)) := by
  simp only [hostOps0_8, TRef.nullary, TRef.unary, TRef.binary, TRef.of, TRef.toBuf, TRef.ofBuf, cast_eq]
  after_results
  rfl
theorem at56 : after hostOps0_9 Y (Proc.devRef .tc main_v56) = argsortI (Y (Proc.devRef .tc main_v55)) := by
  simp only [hostOps0_9, TRef.nullary, TRef.unary, TRef.binary, TRef.of, TRef.toBuf, TRef.ofBuf, cast_eq]
  after_results
  rfl
theorem at70 (h : Y (Proc.devRef .tc main_v44) = (sitofp .f32 (iotaInDim S1024 32 0) : FVec Ideal S1024 .f32)) :
    after hostOps0_11 (after hostOps0_10 Y) (Proc.devRef .tc main_v70) = bell (Y (Proc.devRef .tc main_v56)) := by
  simp only [hostOps0_11, TRef.nullary, TRef.unary, TRef.binary, TRef.ternary, TRef.of, TRef.toBuf, TRef.ofBuf, cast_eq]
  after_results
  rw [h]
  rfl
theorem at90 (w : IVec S24x1024 32) (h : Y (Proc.devRef .tc main_v70) = bell w) :
    after hostOps0_12 Y (Proc.devRef .tc main_v90) = pick (hardened (mean w (Y (Proc.devRef .tc main_v54)))) (Y (Proc.devRef .tc main_v47)) := by
  after_results
  rw [h]
  rfl
theorem at44 : after hostOps0_4 Y (Proc.devRef .tc main_v44) = (sitofp .f32 (iotaInDim S1024 32 0) : FVec Ideal S1024 .f32) := by
  after_results
theorem at45 : after hostOps0_4 Y (Proc.devRef .tc main_v45) = (Host.negf (after hostOps0_4 Y (Proc.devRef .tc main_v43) : FVec Ideal S24x1024 .f32) : FVec Ideal S24x1024 .f32) := by
  after_results

abbrev W5 : List (Ref sig .tc) := [main_call5_v0, main_call5_v1, main_call5_v2_0, main_v46]
theorem kept5 {b : Ref sig .tc} (h : b ∉ W5) : after hostOps0_5 Y (Proc.devRef .tc b) = Y (Proc.devRef .tc b) :=
  after_of_writes_sub _ Y (W := W5) (forall_writes_sub_of_map rfl) h
abbrev W6 : List (Ref sig .tc) := [main_call6_v0, main_call6_v1, main_call6_v2_0, main_v47]
theorem kept6 {b : Ref sig .tc} (h : b ∉ W6) : after hostOps0_6 Y (Proc.devRef .tc b) = Y (Proc.devRef .tc b) :=
  after_of_writes_sub _ Y (W := W6) (forall_writes_sub_of_map rfl) h
abbrev W7 : List (Ref sig .tc) := [main_c_9, main_v48, main_v49, main_c_10, main_v50, main_v51, main_v52, main_v53,
    main_v54]
theorem kept7 {b : Ref sig .tc} (h : b ∉ W7) : after hostOps0_7 Y (Proc.devRef .tc b) = Y (Proc.devRef .tc b) :=
  after_of_writes_sub _ Y (W := W7) (forall_writes_sub_of_map rfl) h
abbrev W8 : List (Ref sig .tc) := [main_call7_v0, main_call7_v1, main_call7_v2_0, main_v55]
theorem kept8 {b : Ref sig .tc} (h : b ∉ W8) : after hostOps0_8 Y (Proc.devRef .tc b) = Y (Proc.devRef .tc b) :=
  after_of_writes_sub _ Y (W := W8) (forall_writes_sub_of_map rfl) h
abbrev W9 : List (Ref sig .tc) := [main_call8_v0, main_call8_v1, main_call8_v2_0, main_v56]
theorem kept9 {b : Ref sig .tc} (h : b ∉ W9) : after hostOps0_9 Y (Proc.devRef .tc b) = Y (Proc.devRef .tc b) :=
  after_of_writes_sub _ Y (W := W9) (forall_writes_sub_of_map rfl) h
abbrev W10 : List (Ref sig .tc) := [main_v57, main_v58, main_v59, main_v60, main_v61, main_v62, main_v63, main_v64,
    main_cst_11, main_v65, main_v66, main_v67, main_v68, main_v69, main_cst_12]
theorem kept10 {b : Ref sig .tc} (h : b ∉ W10) : after hostOps0_10 Y (Proc.devRef .tc b) = Y (Proc.devRef .tc b) :=
  after_of_writes_sub _ Y (W := W10) (forall_writes_sub_of_map rfl) h
abbrev W11 : List (Ref sig .tc) := [main_call9_v0, main_call9_v1, main_call9_v2, main_v70]
theorem kept11 {b : Ref sig .tc} (h : b ∉ W11) : after hostOps0_11 Y (Proc.devRef .tc b) = Y (Proc.devRef .tc b) :=
  after_of_writes_sub _ Y (W := W11) (forall_writes_sub_of_map rfl) h

open Cert.ReferenceIdeal.Run

/-- The last stretches, from contents that hold the positions, the keys, their negatives and the masks. -/
theorem tail_eq (h44 : Y (Proc.devRef .tc main_v44) = (sitofp .f32 (iotaInDim S1024 32 0) : FVec Ideal S1024 .f32))
    (h45 : Y (Proc.devRef .tc main_v45) = (Host.negf (Y (Proc.devRef .tc main_v43) : FVec Ideal S24x1024 .f32) : FVec Ideal S24x1024 .f32)) :
    afterL tail Y (Proc.devRef .tc main_v90) = result (Y (Proc.devRef .tc main_v43)) (Y (Proc.devRef .tc main_arg0)) := by
  have h56 : after hostOps0_9 (after hostOps0_8 (after hostOps0_7 (after hostOps0_6 (after hostOps0_5 Y)))) (Proc.devRef .tc main_v56)
      = argsortI (argsort (Y (Proc.devRef .tc main_v43))) := by
    rw [at56, at55, kept7 _ (by decide), kept6 _ (by decide), kept5 _ (by decide)]
  have h47 : after hostOps0_6 (after hostOps0_5 Y) (Proc.devRef .tc main_v47)
      = argsortI (argsort (Host.negf (Y (Proc.devRef .tc main_v43) : FVec Ideal S24x1024 .f32))) := by
    rw [at47, at46, h45]
  have h44' : after hostOps0_9 (after hostOps0_8 (after hostOps0_7 (after hostOps0_6 (after hostOps0_5 Y)))) (Proc.devRef .tc main_v44)
      = (sitofp .f32 (iotaInDim S1024 32 0) : FVec Ideal S1024 .f32) := by
    rw [kept9 _ (by decide), kept8 _ (by decide), kept7 _ (by decide), kept6 _ (by decide), kept5 _ (by decide), h44]
  refine (at90 _ _ ((at70 _ h44').trans (congrArg bell h56))).trans ?_
  rw [kept11 _ (b := main_v54) (by decide), kept10 _ (b := main_v54) (by decide), kept9 _ (b := main_v54) (by decide),
    kept8 _ (b := main_v54) (by decide), at54, kept6 _ (b := main_arg0) (by decide), kept5 _ (b := main_arg0) (by decide),
    kept11 _ (b := main_v47) (by decide), kept10 _ (b := main_v47) (by decide), kept9 _ (b := main_v47) (by decide),
    kept8 _ (b := main_v47) (by decide), kept7 _ (b := main_v47) (by decide), h47]
  rfl

variable (m : (ℓ : Loc nD τ sig) → Buf (Elt Ideal) ℓ) (c : Dev nD)

/-- THE REFERENCE'S RESULT, from the keys it computed and its masks. -/
theorem final : End m c (Proc.devRef .tc main_v90)
    = result (V m c (Proc.devRef .tc main_v43)) (m ((c : Thread nD τ).loc main_arg0)) :=
  (tail_eq (V m c) (at44 _) (at45 _)).trans (congrArg (result (V m c (Proc.devRef .tc main_v43))) (V_args m c main_arg0 (by decide)))

end Cert.ReferenceIdeal.Tail

end
-- ==== Proof.Value.lean ====
/-
  THE KERNEL'S RESULT. Each grid point writes one layer; the blocks tile the call's array; so the array, and the result the host
  reshapes it to, is the reference's term of the keys and the masks the call was given.
-/
module

public import proofs.«01_k».proof.Proof.Ref
public import proofs.«01_k».proof.Proof.KernelRun
public import Idealize.ShloMosaic.Lib.Pipeline.ValueKit

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.StableHlo Cert.KernelIdeal.Point
open Cert.ReferenceIdeal.Tail (result result_apply)
open Cert.KernelIdeal.Layer (stored stored_apply row)

variable (V : (c : Dev nD) → (b : Ref sig .tc) → Buf (Elt Ideal) ((c : Thread nD τ).loc b))
  (x mm : FVec Ideal S24x1024 .f32) (c : Dev nD)

/-- A row-per-layer array as the call takes it. -/
abbrev lift (x : FVec Ideal S24x1024 .f32) : FVec Ideal S24x1x1024 .f32 := shapeCast S24x1x1024 x shapeCasts_S24x1024_S24x1x1024

/-- Every window's block index: the layer. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

theorem key_row (hx : V c main_v44 = lift x) (t : Fin cfg0.N) (j : Fin 1024) :
    row (iblk V c 0 t) j = x (ix2 (⟨t.val, t.isLt⟩ : Fin 24) j) := by
  unfold row
  blk_simp [iblk]
  refine (congrFun hx _).trans ?_
  pointwise
  blk_ext [idx t]

theorem mask_row (hm : V c main_v45 = lift mm) (t : Fin cfg0.N) (j : Fin 1024) :
    row (iblk V c 1 t) j = mm (ix2 (⟨t.val, t.isLt⟩ : Fin 24) j) := by
  unfold row
  blk_simp [iblk]
  refine (congrFun hm _).trans ?_
  pointwise
  blk_ext [idx t]

/-- What a point leaves in the result's block is the stored block. -/
theorem out_eq (x0 x1 : Vec Ideal S1x1x1024 .f32) : out0_2 x0 x1 = stored x0 x1 := by
  have hz : (![0, 0, 0] : Fin S1x1x1024.rank → Nat) = fun _ => 0 := by
    funext a
    match a with
    | ⟨0, _⟩ => rfl
    | ⟨1, _⟩ => rfl
    | ⟨2, _⟩ => rfl
  have ld : ∀ x : Vec Ideal S1x1x1024 .f32, View.ld x r0_0 = x := fun x => View.ld_unit_zero hz _ x
  unfold out0_2 k0_pay32 k0_pay31 k0_pay30
  refine (View.canon_unit_zero hz _ _).trans ?_
  rw [ld, ld]
  rfl

theorem lift_apply (l : Fin 24) (j : Fin 1024) : lift x (ix3 l 0 j) = x (ix2 l j) := by
  pointwise

theorem point (hx : V c main_v44 = lift x) (hm : V c main_v45 = lift mm) (t : Fin cfg0.N) (y) :
    stored (iblk V c 0 t) (iblk V c 1 t) y = lift (result x mm) (((cfg0.win 2).blk t).view.emb y) := by
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  have he : ((cfg0.win 2).blk t).view.emb y = ix3 (⟨t.val, t.isLt⟩ : Fin 24) 0 (y 2) := by
    blk_ext [idx t]
  refine Eq.trans ?_ ((congrArg _ he).trans ((lift_apply _ _ _).trans (result_apply _ _ _ _))).symm
  refine (congrArg _ hy).trans ((stored_apply _ _ _).trans ?_)
  rw [funext (key_row V x c hx t), funext (mask_row V mm c hm t)]

/-- THE CALL'S ARRAY after the run. -/
theorem written_eq (hx : V c main_v44 = lift x) (hm : V c main_v45 = lift mm) : written V c = lift (result x mm) := by
  unfold written
  refine (dat V c).arrAt_eq_of_covers 2 _ (by decide +kernel) fun t _ y => ?_
  blk_simp
  rw [after_2, out_eq]
  exact point V x mm c hx hm t y

/-! ## What the host hands the call, and takes from it -/

theorem keys_lifted (X : Valuation τ sig (Elt Ideal)) :
    after hostOps0_4 X (Proc.devRef .tc main_v44) = lift (after hostOps0_4 X (Proc.devRef .tc main_v43)) := by
  after_results
  rfl
theorem masks_lifted (X : Valuation τ sig (Elt Ideal)) :
    after hostOps0_4 X (Proc.devRef .tc main_v45) = lift (after hostOps0_4 X (Proc.devRef .tc main_arg0)) := by
  after_results
  rfl
theorem result_lowered (X : Valuation τ sig (Elt Ideal)) (h : X (Proc.devRef .tc main_v46) = lift x) :
    after hostOps1 X (Proc.devRef .tc main_v47) = x := by
  after_results
  rw [h]
  funext i
  exact congrArg x (by pointwise)

variable (m : (ℓ : Loc nD τ sig) → Buf (Elt Ideal) ℓ)

/-- THE KERNEL'S RESULT, from the keys it computed and its masks. -/
theorem final : Run.End m c (Proc.devRef .tc main_v47)
    = result (Run.V m c (Proc.devRef .tc main_v43)) (m ((c : Thread nD τ).loc main_arg0)) :=
  result_lowered _ _ ((Run.Vp_out m c).trans (written_eq (fun c b => Run.V m c b) _ _ c (keys_lifted _)
    ((masks_lifted _).trans (congrArg lift (Run.V_args m c main_arg0 (by decide))))))

end Cert.KernelIdeal.Array

end
-- ==== Proof.WholeRef.lean ====
/-
  THE REFERENCE'S SOFT INDEXING WITH THE GAUSSIAN OVER THE WHOLE ROW, READ AT AN INDEX, up to `Soft.wholeLayer`. Its sorts,
  gathers and mean are those of `Ref`.
-/
module

public import proofs.«01_k».proof.Proof.Ref
public import proofs.«01_k».proof.Proof.Gen.Reference2Ideal.Run

@[expose] public section

set_option maxRecDepth 16384

noncomputable section

namespace Cert.Reference2Ideal.Tail

open Cert.Reference2Ideal Cert.Reference2Ideal.Gen Idealize.ShloMosaic Idealize.ShloMosaic.TcCoe Cert.Soft Cert.Rank
open Cert.ReferenceIdeal.Tail (argsort argsortI pick delta meanBy hardened argsort_twice delta_apply exp_sq meanBy_apply
  pick_apply hardened_apply)
open scoped BigOperators

/-- The Gaussian of the distance. -/
def bell (w : IVec S24x1024 32) : FVec Ideal S24x1024x1024 .f32 := Host.exp (Host.negf (mulf (delta w) (delta w)))

/-- The reference's result, from the keys and the masks. -/
def result (x m : FVec Ideal S24x1024 .f32) : FVec Ideal S24x1x1024 .f32 :=
  broadcastInDim S24x1x1024 ![0, 2] bcast_S24x1024_S24x1x1024_0_2
    (pick (hardened (meanBy (bell (argsortI (argsort x))) (pick m (argsortI (argsort (Host.negf x))))))
      (argsortI (argsort (Host.negf x))))

theorem bell_apply (w : IVec S24x1024 32) (l : Fin 24) (i j p : Fin 1024) (h : w (ix2 l i) = BitVec.ofNat 32 p.val) :
    bell w (ix3 l i j) = gauss ((j : ℤ) - p) := by
  unfold bell
  pointwise
  rw [delta_apply w l i j p h, exp_sq]

theorem mean_apply (w : IVec S24x1024 32) (y : FVec Ideal S24x1024 .f32) (l : Fin 24) (i p : Fin 1024)
    (h : w (ix2 l i) = BitVec.ofNat 32 p.val) : meanBy (bell w) y (ix2 l i) = wholeMix (fun j => y (ix2 l j)) p :=
  meanBy_apply _ y l i (fun j => gauss ((j : ℤ) - p)) (fun j => bell_apply w l i j p h) (wholeDen_pos p)

theorem result_apply (x m : FVec Ideal S24x1024 .f32) (l : Fin 24) (i : Fin 1024) :
    result x m (ix3 l 0 i) = wholeLayer (fun j => x (ix2 l j)) (fun j => m (ix2 l j)) i := by
  have hinv : ∀ k, argsortI (argsort (Host.negf x)) (ix2 l k) = BitVec.ofNat 32 (inv (fun j => x (ix2 l j)) k).val :=
    fun k => argsort_twice (Host.negf x) l k
  unfold result
  pointwise
  rw [pick_apply _ _ l i _ (hinv i), hardened_apply, mean_apply _ _ l _ _ (argsort_twice x l _)]
  simp only [pick_apply _ _ l _ _ (hinv _)]
  rfl

/-- THE REFERENCE'S RESULT, from its arguments. -/
theorem final (m : (ℓ : Loc nD τ sig) → Buf (Elt Ideal) ℓ) (c : Dev nD) : Value.res_out0 m c
    = result (m ((c : Thread nD τ).loc main_arg0)) (m ((c : Thread nD τ).loc main_arg1)) := by
  unfold Value.res_out0 Value.res_main_v43
  rfl

end Cert.Reference2Ideal.Tail
end
-- ==== Proof.WholeLayer.lean ====
/-
  THE BODY WITH THE GAUSSIAN OVER THE WHOLE ROW, READ AT AN INDEX. The stored block is, entry by entry, `Soft.wholeLayer` of
  the two loaded rows.
-/
module

public import proofs.«01_k».proof.Proof.Layer
public import proofs.«01_k».proof.Proof.Gen.Kernel2Ideal.Skeleton
public import Idealize.ShloMosaic.Lib.Pointwise

@[expose] public section

set_option maxRecDepth 16384

noncomputable section

namespace Cert.Kernel2Ideal.Layer

open Cert.Kernel2Ideal Cert.Kernel2Ideal.Gen Idealize.ShloMosaic Cert.Soft Cert.Rank
open Cert.KernelIdeal.Layer (row sitofp_pos sum_place sum_place_neg)
open scoped BigOperators

/-- The matrix that gathers: row `i` is one at the place of position `i` in the order of falling keys. -/
theorem gathers (v0 : Vec Ideal S1x1x1024 .f32) (i k : Fin 1024) :
    k0_pay6 v0 (ix2 i k) = if ((k.val : ℝ) : EReal) = (((inv (row v0) i).val : ℝ) : EReal) then 1 else 0 := by
  pointwise [k0_pay6, k0_pay5, k0_pay4, k0_pay3, k0_pay2]
  rw [sitofp_pos k.val k.isLt]
  exact if_congr ((Eq.congr_left (sum_place_neg (row v0) i)).trans eq_comm) rfl rfl

theorem gathered_mask (v0 v35 : Vec Ideal S1x1x1024 .f32) (i : Fin 1024) :
    k0_pay7 v0 v35 (ix2 i 0) = row v35 (inv (row v0) i) := by
  pointwise [k0_pay7]
  rw [← sum_one_hot (row v35)]
  exact Finset.sum_congr rfl fun k _ => by rw [gathers, mul_comm]; rfl

/-- The distance of position `j` from the place of position `i`. -/
theorem distance (v0 : Vec Ideal S1x1x1024 .f32) (i j : Fin 1024) :
    k0_pay8 v0 (ix2 i j) = ((((j : ℤ) - rank (row v0) i : ℤ) : ℝ) : EReal) := by
  pointwise [k0_pay8, k0_pay5, k0_pay4, k0_pay3, k0_pay2]
  rw [sitofp_pos j.val j.isLt]
  refine (congrArg (fun q : EReal => ((j.val : ℝ) : EReal) - q) (sum_place (row v0) i)).trans ?_
  push_cast
  rfl

theorem exp_distance (d : ℤ) : Ideal.exp ((0 - (((d : ℤ) : ℝ) : EReal)) * (((d : ℤ) : ℝ) : EReal)) = gauss d := by
  rw [zero_sub, ← EReal.coe_neg, ← EReal.coe_mul, neg_mul, ← pow_two]
  rfl

/-- The block the body stores, from the two blocks it loads. -/
def stored (v0 v35 : Vec Ideal S1x1x1024 .f32) : FVec Ideal S1x1x1024 .f32 :=
  k0_pay1 (k0_pay6 v0) (k0_pay7 v0 v35) (k0_pay8 v0) (k0_pay9 v0)

/-- THE BODY COMPUTES ONE LAYER. -/
theorem stored_apply (v0 v35 : Vec Ideal S1x1x1024 .f32) (i : Fin 1024) :
    stored v0 v35 (ix3 0 0 i) = wholeLayer (row v0) (row v35) i := by
  pointwise [stored, k0_pay1, k0_pay9]
  simp only [gathers, gathered_mask, distance, exp_distance]
  exact sum_one_hot (fun x => harden (wholeMix (fun j => row v35 (inv (row v0) j)) (rank (row v0) x))) (inv (row v0) i)

end Cert.Kernel2Ideal.Layer
end
-- ==== Proof.WholeValue.lean ====
/-
  THE RESULT ARRAY OF THE CALL WITH THE WHOLE ROW'S GAUSSIAN. Each grid point writes one layer; the blocks tile the array;
  so the array is the reference's term of the two arguments.
-/
module

public import proofs.«01_k».proof.Proof.WholeRef
public import proofs.«01_k».proof.Proof.WholeLayer
public import proofs.«01_k».proof.Proof.Gen.Kernel2Ideal.Value
public import Idealize.ShloMosaic.Lib.Pipeline.ValueKit

@[expose] public section

set_option maxRecDepth 16384

noncomputable section

namespace Cert.Kernel2Ideal.Array

open Cert.Kernel2Ideal Cert.Kernel2Ideal.Gen Idealize.ShloMosaic Idealize.ShloMosaic.TcCoe Idealize.SL.Sem
open Cert.Reference2Ideal.Tail (result result_apply)
open Cert.Kernel2Ideal.Layer (stored stored_apply)
open Cert.KernelIdeal.Layer (row)

variable (m : (ℓ : Loc nD τ sig) → Buf (Elt Ideal) ℓ)

/-- Every window's block index: the layer. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

theorem key_row (c : Dev nD) (t : Fin cfg0.N) (j : Fin 1024) :
    row (iblk m c 0 t) j = m ((c : Thread nD τ).loc main_arg0) (ix2 (⟨t.val, t.isLt⟩ : Fin 24) j) := by
  unfold row
  blk_simp [iblk]
  entry_read
  pointwise
  blk_ext [idx t]

theorem mask_row (c : Dev nD) (t : Fin cfg0.N) (j : Fin 1024) :
    row (iblk m c 1 t) j = m ((c : Thread nD τ).loc main_arg1) (ix2 (⟨t.val, t.isLt⟩ : Fin 24) j) := by
  unfold row
  blk_simp [iblk]
  entry_read
  pointwise
  blk_ext [idx t]

/-- What a point leaves in the result's block is the stored block. -/
theorem out_eq (x0 x1 : Vec Ideal S1x1x1024 .f32) : out0_2 x0 x1 = stored x0 x1 := by
  have hz : (![0, 0, 0] : Fin S1x1x1024.rank → Nat) = fun _ => 0 := by
    funext a
    match a with
    | ⟨0, _⟩ => rfl
    | ⟨1, _⟩ => rfl
    | ⟨2, _⟩ => rfl
  have ld : ∀ x : Vec Ideal S1x1x1024 .f32, View.ld x r0_0 = x := fun x => View.ld_unit_zero hz _ x
  unfold out0_2
  refine (View.canon_unit_zero hz _ _).trans ?_
  rw [ld, ld]
  rfl

theorem point (c : Dev nD) (t : Fin cfg0.N) (y) : stored (iblk m c 0 t) (iblk m c 1 t) y
    = result (m ((c : Thread nD τ).loc main_arg0)) (m ((c : Thread nD τ).loc main_arg1)) (((cfg0.win 2).blk t).view.emb y) := by
  have hy : y = ix3 0 0 (y 2) := by
    funext a
    match a with
    | ⟨0, _⟩ => exact Subsingleton.elim (α := Fin 1) _ _
    | ⟨1, _⟩ => exact Subsingleton.elim (α := Fin 1) _ _
    | ⟨2, _⟩ => rfl
  have he : ((cfg0.win 2).blk t).view.emb y = ix3 (⟨t.val, t.isLt⟩ : Fin 24) 0 (y 2) := by
    blk_ext [idx t]
  refine Eq.trans ?_ ((congrArg _ he).trans (result_apply _ _ _ _)).symm
  refine (congrArg _ hy).trans ((stored_apply _ _ _).trans ?_)
  rw [funext (key_row m c t), funext (mask_row m c t)]

/-- THE ARRAY after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.Kernel2Ideal.Array

end
-- ==== Proof.lean ====
module

public import proofs.«01_k».proof.Defs
public import proofs.«01_k».proof.Proof.Gen.Kernel
public import proofs.«01_k».proof.Proof.KernelFrame
public import proofs.«01_k».proof.Proof.Same
public import proofs.«01_k».proof.Proof.Value
public import proofs.«01_k».proof.Proof.WholeValue
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init

@[expose] public section

set_option maxRecDepth 16384

noncomputable section

namespace Cert.Proof

open Idealize.ShloMosaic Idealize.SL.Sem Idealize.ShloMosaic.StableHlo Idealize.ShloMosaic.TcCoe

/-- A statement of each of fourteen buffers, one by one. -/
theorem fourteen {α : Type} {P : α → Prop} {a0 a1 a2 a3 a4 a5 a6 a7 a8 a9 a10 a11 a12 a13 : α}
    (h : ∀ a ∈ [a0, a1, a2, a3, a4, a5, a6, a7, a8, a9, a10, a11, a12, a13], P a) :
    P a0 ∧ P a1 ∧ P a2 ∧ P a3 ∧ P a4 ∧ P a5 ∧ P a6 ∧ P a7 ∧ P a8 ∧ P a9 ∧ P a10 ∧ P a11 ∧ P a12 ∧ P a13 := by
  simpa using h

theorem frame_kernel : Cert.quiescent_Kernel := fun m g _ =>
  (θ_run Cert.Kernel.defs _ _).mono (fun _ h => ⟨fun c => fourteen (h.1 c), h.2⟩) (Cert.Kernel.Run.frame m g)

theorem frame_ideal : Cert.quiescent_KernelIdeal := fun m g _ =>
  (θ_run Cert.KernelIdeal.defs _ _).mono (fun _ h => ⟨fun c => fourteen (h.1 c), h.2⟩) (Cert.KernelIdeal.Run.frame m g)

theorem frame_reference : Cert.quiescent_ReferenceIdeal := fun m g _ =>
  (θ_run Cert.ReferenceIdeal.defs _ _).mono (fun _ h => ⟨fun c => fourteen (h.1 c), h.2⟩) (Cert.ReferenceIdeal.Run.frame m g)

/-- The value of both programs' result. -/
abbrev value (m : (ℓ : Loc Cert.KernelIdeal.nD Cert.KernelIdeal.τ Cert.KernelIdeal.sig) → Buf (Elt Ideal) ℓ) (c : Dev Cert.KernelIdeal.nD) :
    FVec Ideal Cert.KernelIdeal.S24x1024 .f32 := Cert.KernelIdeal.Run.End m c (Proc.devRef .tc Cert.KernelIdeal.main_v47)

/-- The kernel's run ends with that value, its arguments unchanged. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v47) = value m c
      ∧ ∀ a ∈ Cert.KernelIdeal.Run.argRefs, r.2.mem ((c.tc : Thread Cert.KernelIdeal.nD Cert.KernelIdeal.τ).loc a) = m ((c.tc : Thread Cert.KernelIdeal.nD Cert.KernelIdeal.τ).loc a)) :=
  (θ_run Cert.KernelIdeal.defs _ _).mono
    (fun _ h c => ⟨h.1 c _ (devRef_mem_ucRefs Cert.KernelIdeal.main_v47 (by decide)), fun a ha =>
      (h.1 c _ (devRef_mem_ucRefs a ((by decide : ∀ a ∈ Cert.KernelIdeal.Run.argRefs, (Proc.devRef .tc a : DevRef Cert.KernelIdeal.τ Cert.KernelIdeal.sig).isScoped = false) a ha))).trans
        (Cert.KernelIdeal.Run.End_args m c a ha)⟩)
    (Cert.KernelIdeal.Run.run_main m g)

/-- The reference's run ends with its last value, its arguments unchanged. -/
theorem reference_value (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v90) = Cert.ReferenceIdeal.Run.End m c (Proc.devRef .tc Cert.ReferenceIdeal.main_v90)
      ∧ ∀ a ∈ Cert.ReferenceIdeal.Run.argRefs, r.2.mem ((c.tc : Thread Cert.ReferenceIdeal.nD Cert.ReferenceIdeal.τ).loc a) = m ((c.tc : Thread Cert.ReferenceIdeal.nD Cert.ReferenceIdeal.τ).loc a)) :=
  (θ_run Cert.ReferenceIdeal.defs _ _).mono
    (fun _ h c => ⟨h.1 c _ (devRef_mem_ucRefs Cert.ReferenceIdeal.main_v90 (by decide)), fun a ha =>
      (h.1 c _ (devRef_mem_ucRefs a ((by decide : ∀ a ∈ Cert.ReferenceIdeal.Run.argRefs, (Proc.devRef .tc a : DevRef Cert.ReferenceIdeal.τ Cert.ReferenceIdeal.sig).isScoped = false) a ha))).trans
        (Cert.ReferenceIdeal.Run.End_args m c a ha)⟩)
    (Cert.ReferenceIdeal.Run.run_main m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From the same arguments the two programs end with the same result: the same keys, and the soft indexing of them. -/
theorem values_same (h : Cert.Same.Launched m m') (c : Dev Cert.KernelIdeal.nD) :
    Cert.ReferenceIdeal.Run.End m' c (Proc.devRef .tc Cert.ReferenceIdeal.main_v90) = value m c :=
  (Cert.ReferenceIdeal.Tail.final m' c).trans
    ((congrArg₂ Cert.ReferenceIdeal.Tail.result (Cert.Same.keys_same h c).symm (h c).a0.symm).trans (Cert.KernelIdeal.Array.final c m).symm)

end

theorem algebraic : Cert.algebraic_KernelIdeal_ReferenceIdeal := fun m g m' g' _ heq =>
  have hl : Cert.Same.Launched m m' := fun c =>
    match heq c with
    | ⟨h0, h1, h2, h3, h4, h5, h6, h7, h8, h9, h10, h11, h12, h13⟩ =>
      ⟨h0.symm, h1.symm, h2.symm, h3.symm, h4.symm, h5.symm, h6.symm, h7.symm, h8.symm, h9.symm, h10.symm, h11.symm, h12.symm, h13.symm⟩
  ⟨value m,
    (θ_run Cert.KernelIdeal.defs _ _).mono (fun _ h c => ⟨(h c).1, fourteen (h c).2⟩) (kernel_value m g),
    (θ_run Cert.ReferenceIdeal.defs _ _).mono (fun _ h c => ⟨(h c).1.trans (values_same m m' hl c), fourteen (h c).2⟩) (reference_value m' g')⟩

/-! ## The call with the Gaussian over the whole row -/

/-- The reference of that call runs, its arguments unchanged; it has no semaphore. -/
theorem frame_reference2 : Cert.quiescent_Reference2Ideal := fun m ρ _ =>
  (θ_run Cert.Reference2Ideal.defs _ _).mono
    (fun _ h => ⟨fun c => (h c).2, Idealize.ShloMosaic.sem_eq_zero_of_no_sems (by decide) _⟩) (Cert.Reference2Ideal.Value.run m ρ)

/-- That call and its reference end with the same array. -/
theorem algebraic2 : Cert.algebraic_Kernel2Ideal_Reference2Ideal := fun m g m' g' _ heq =>
  ⟨fun c => Cert.Reference2Ideal.Tail.result (m ((c.tc : Thread _ _).loc Cert.Kernel2Ideal.main_arg0)) (m ((c.tc : Thread _ _).loc Cert.Kernel2Ideal.main_arg1)),
    (θ_run Cert.Kernel2Ideal.defs _ _).mono (fun _ h c => ⟨(h c).1.trans (Cert.Kernel2Ideal.Array.final m c), (h c).2⟩)
      (Cert.Kernel2Ideal.Value.run_blocks m g),
    (θ_run Cert.Reference2Ideal.defs _ _).mono (fun _ h c => ⟨(h c).1.trans ((Cert.Reference2Ideal.Tail.final m' c).trans
        (congrArg₂ Cert.Reference2Ideal.Tail.result (heq c).1 (heq c).2)), (h c).2⟩)
      (Cert.Reference2Ideal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, frame_kernel, frame_ideal, frame_reference,
    fun m ρ _ => Cert.Kernel2.Gen.frame m ρ, fun m ρ _ => Cert.Kernel2Ideal.Gen.frame m ρ, frame_reference2,
    trivial, algebraic, trivial, algebraic2⟩

end Cert.Proof

end
